-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Values (m : (ℓ : Loc Cert.Values.nD Cert.Values.τ Cert.Values.sig) → Buf (Elt Bits) ℓ) : Prop :=
  True

def Pre_ValuesIdeal (m : (ℓ : Loc Cert.ValuesIdeal.nD Cert.ValuesIdeal.τ Cert.ValuesIdeal.sig) → Buf (Elt Ideal) ℓ) : Prop :=
  True

def Pre_ValuesReferenceIdeal (m : (ℓ : Loc Cert.ValuesReferenceIdeal.nD Cert.ValuesReferenceIdeal.τ Cert.ValuesReferenceIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4))
      ∧ r.2.sem = fun _ => 0)

def quiescent_Values [hValues : Cert.Values.Facts] : Prop :=
  ∀ (m : (ℓ : Loc Cert.Values.nD Cert.Values.τ Cert.Values.sig) → Buf (Elt Bits) ℓ) (g : Dev Cert.Values.nD → PrngReg), Pre_Values m →
    θ_run (Cert.Values.defs (F := Bits)) (onTc (τ := Cert.Values.τ) (Cert.Values.main (F := Bits))) ⟨m, fun _ => 0, g⟩ (fun r => (∀ c : Dev Cert.Values.nD,
      r.2.mem ((c.tc : Thread Cert.Values.nD Cert.Values.τ).loc Cert.Values.main_arg0) = m ((c.tc : Thread Cert.Values.nD Cert.Values.τ).loc Cert.Values.main_arg0)
      ∧ r.2.mem ((c.tc : Thread Cert.Values.nD Cert.Values.τ).loc Cert.Values.main_arg1) = m ((c.tc : Thread Cert.Values.nD Cert.Values.τ).loc Cert.Values.main_arg1))
      ∧ r.2.sem = fun _ => 0)

def quiescent_ValuesIdeal [hValuesIdeal : Cert.ValuesIdeal.Facts] : Prop :=
  ∀ (m : (ℓ : Loc Cert.ValuesIdeal.nD Cert.ValuesIdeal.τ Cert.ValuesIdeal.sig) → Buf (Elt Ideal) ℓ) (g : Dev Cert.ValuesIdeal.nD → PrngReg), Pre_ValuesIdeal m →
    θ_run (Cert.ValuesIdeal.defs (F := Ideal)) (onTc (τ := Cert.ValuesIdeal.τ) (Cert.ValuesIdeal.main (F := Ideal))) ⟨m, fun _ => 0, g⟩ (fun r => (∀ c : Dev Cert.ValuesIdeal.nD,
      r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
      ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ r.2.sem = fun _ => 0)

def quiescent_ValuesReferenceIdeal [hValuesReferenceIdeal : Cert.ValuesReferenceIdeal.Facts] : Prop :=
  ∀ (m : (ℓ : Loc Cert.ValuesReferenceIdeal.nD Cert.ValuesReferenceIdeal.τ Cert.ValuesReferenceIdeal.sig) → Buf (Elt Ideal) ℓ) (g : Dev Cert.ValuesReferenceIdeal.nD → PrngReg), Pre_ValuesReferenceIdeal m →
    θ_run (Cert.ValuesReferenceIdeal.defs (F := Ideal)) (onTc (τ := Cert.ValuesReferenceIdeal.τ) (Cert.ValuesReferenceIdeal.main (F := Ideal))) ⟨m, fun _ => 0, g⟩ (fun r => (∀ c : Dev Cert.ValuesReferenceIdeal.nD,
      r.2.mem ((c.tc : Thread Cert.ValuesReferenceIdeal.nD Cert.ValuesReferenceIdeal.τ).loc Cert.ValuesReferenceIdeal.main_arg0) = m ((c.tc : Thread Cert.ValuesReferenceIdeal.nD Cert.ValuesReferenceIdeal.τ).loc Cert.ValuesReferenceIdeal.main_arg0)
      ∧ r.2.mem ((c.tc : Thread Cert.ValuesReferenceIdeal.nD Cert.ValuesReferenceIdeal.τ).loc Cert.ValuesReferenceIdeal.main_arg1) = m ((c.tc : Thread Cert.ValuesReferenceIdeal.nD Cert.ValuesReferenceIdeal.τ).loc Cert.ValuesReferenceIdeal.main_arg1))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2)
      ∧ r.2.mem ((c.tc : Thread Cert.Rope.nD Cert.Rope.τ).loc Cert.Rope.main_arg3) = m ((c.tc : Thread Cert.Rope.nD Cert.Rope.τ).loc Cert.Rope.main_arg3))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
      ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0)
      ∧ r.2.mem ((c.tc : Thread Cert.RopeReferenceIdeal.nD Cert.RopeReferenceIdeal.τ).loc Cert.RopeReferenceIdeal.main_arg1) = m ((c.tc : Thread Cert.RopeReferenceIdeal.nD Cert.RopeReferenceIdeal.τ).loc Cert.RopeReferenceIdeal.main_arg1)
      ∧ r.2.mem ((c.tc : Thread Cert.RopeReferenceIdeal.nD Cert.RopeReferenceIdeal.τ).loc Cert.RopeReferenceIdeal.main_arg2) = m ((c.tc : Thread Cert.RopeReferenceIdeal.nD Cert.RopeReferenceIdeal.τ).loc Cert.RopeReferenceIdeal.main_arg2)
      ∧ r.2.mem ((c.tc : Thread Cert.RopeReferenceIdeal.nD Cert.RopeReferenceIdeal.τ).loc Cert.RopeReferenceIdeal.main_arg3) = m ((c.tc : Thread Cert.RopeReferenceIdeal.nD Cert.RopeReferenceIdeal.τ).loc Cert.RopeReferenceIdeal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)
      ∧ m' ((c.tc : Thread Cert.NormReferenceIdeal.nD Cert.NormReferenceIdeal.τ).loc Cert.NormReferenceIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v6_0)) (v1 : (c : Dev Cert.NormIdeal.nD) → Buf (Elt Ideal) ((c.tc : Thread Cert.NormIdeal.nD Cert.NormIdeal.τ).loc Cert.NormIdeal.main_v6_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v6_0) = v0 c
          ∧ r.2.mem ((c.tc : Thread Cert.NormIdeal.nD Cert.NormIdeal.τ).loc Cert.NormIdeal.main_v6_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v26) = v0 c
          ∧ r.2.mem ((c.tc : Thread Cert.NormReferenceIdeal.nD Cert.NormReferenceIdeal.τ).loc Cert.NormReferenceIdeal.main_v27) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4))

def preserves_Values_ValuesIdeal : Prop :=
  True

def algebraic_ValuesIdeal_ValuesReferenceIdeal [hValuesIdeal : Cert.ValuesIdeal.Facts] [hValuesReferenceIdeal : Cert.ValuesReferenceIdeal.Facts] : Prop :=
  ∀ (m : (ℓ : Loc Cert.ValuesIdeal.nD Cert.ValuesIdeal.τ Cert.ValuesIdeal.sig) → Buf (Elt Ideal) ℓ) (g : Dev Cert.ValuesIdeal.nD → PrngReg)
    (m' : (ℓ : Loc Cert.ValuesReferenceIdeal.nD Cert.ValuesReferenceIdeal.τ Cert.ValuesReferenceIdeal.sig) → Buf (Elt Ideal) ℓ) (g' : Dev Cert.ValuesReferenceIdeal.nD → PrngReg), Pre_ValuesIdeal m →
    (∀ c : Dev Cert.ValuesIdeal.nD,
      m' ((c.tc : Thread Cert.ValuesReferenceIdeal.nD Cert.ValuesReferenceIdeal.τ).loc Cert.ValuesReferenceIdeal.main_arg0) = m ((c.tc : Thread Cert.ValuesIdeal.nD Cert.ValuesIdeal.τ).loc Cert.ValuesIdeal.main_arg0)
      ∧ m' ((c.tc : Thread Cert.ValuesReferenceIdeal.nD Cert.ValuesReferenceIdeal.τ).loc Cert.ValuesReferenceIdeal.main_arg1) = m ((c.tc : Thread Cert.ValuesIdeal.nD Cert.ValuesIdeal.τ).loc Cert.ValuesIdeal.main_arg1)) →
    ∃ (v0 : (c : Dev Cert.ValuesIdeal.nD) → Buf (Elt Ideal) ((c.tc : Thread Cert.ValuesIdeal.nD Cert.ValuesIdeal.τ).loc Cert.ValuesIdeal.main_v3)),
      θ_run (Cert.ValuesIdeal.defs (F := Ideal)) (onTc (τ := Cert.ValuesIdeal.τ) (Cert.ValuesIdeal.main (F := Ideal))) ⟨m, fun _ => 0, g⟩ (fun r => ∀ c : Dev Cert.ValuesIdeal.nD,
          r.2.mem ((c.tc : Thread Cert.ValuesIdeal.nD Cert.ValuesIdeal.τ).loc Cert.ValuesIdeal.main_v3) = v0 c
          ∧ r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
          ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ θ_run (Cert.ValuesReferenceIdeal.defs (F := Ideal)) (onTc (τ := Cert.ValuesReferenceIdeal.τ) (Cert.ValuesReferenceIdeal.main (F := Ideal))) ⟨m', fun _ => 0, g'⟩ (fun r => ∀ c : Dev Cert.ValuesReferenceIdeal.nD,
          r.2.mem ((c.tc : Thread Cert.ValuesReferenceIdeal.nD Cert.ValuesReferenceIdeal.τ).loc Cert.ValuesReferenceIdeal.main_v3) = v0 c
          ∧ r.2.mem ((c.tc : Thread Cert.ValuesReferenceIdeal.nD Cert.ValuesReferenceIdeal.τ).loc Cert.ValuesReferenceIdeal.main_arg0) = m' ((c.tc : Thread Cert.ValuesReferenceIdeal.nD Cert.ValuesReferenceIdeal.τ).loc Cert.ValuesReferenceIdeal.main_arg0)
          ∧ r.2.mem ((c.tc : Thread Cert.ValuesReferenceIdeal.nD Cert.ValuesReferenceIdeal.τ).loc Cert.ValuesReferenceIdeal.main_arg1) = m' ((c.tc : Thread Cert.ValuesReferenceIdeal.nD Cert.ValuesReferenceIdeal.τ).loc Cert.ValuesReferenceIdeal.main_arg1))

def preserves_Rope_RopeIdeal : Prop :=
  True

def algebraic_RopeIdeal_RopeReferenceIdeal [hRopeIdeal : Cert.RopeIdeal.Facts] [hRopeReferenceIdeal : Cert.RopeReferenceIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeIdeal m →
    (∀ c : Dev Cert.RopeIdeal.nD,
      m' ((c.tc : Thread Cert.RopeReferenceIdeal.nD Cert.RopeReferenceIdeal.τ).loc Cert.RopeReferenceIdeal.main_arg0) = m ((c.tc : Thread Cert.RopeIdeal.nD Cert.RopeIdeal.τ).loc Cert.RopeIdeal.main_arg0)
      ∧ m' ((c.tc : Thread Cert.RopeReferenceIdeal.nD Cert.RopeReferenceIdeal.τ).loc Cert.RopeReferenceIdeal.main_arg1) = m ((c.tc : Thread Cert.RopeIdeal.nD Cert.RopeIdeal.τ).loc Cert.RopeIdeal.main_arg1)
      ∧ m' ((c.tc : Thread Cert.RopeReferenceIdeal.nD Cert.RopeReferenceIdeal.τ).loc Cert.RopeReferenceIdeal.main_arg2) = m ((c.tc : Thread Cert.RopeIdeal.nD Cert.RopeIdeal.τ).loc Cert.RopeIdeal.main_arg2)
      ∧ m' ((c.tc : Thread Cert.RopeReferenceIdeal.nD Cert.RopeReferenceIdeal.τ).loc Cert.RopeReferenceIdeal.main_arg3) = m ((c.tc : Thread Cert.RopeIdeal.nD Cert.RopeIdeal.τ).loc Cert.RopeIdeal.main_arg3)) →
    ∃ (v0 : (c : Dev Cert.RopeIdeal.nD) → Buf (Elt Ideal) ((c.tc : Thread Cert.RopeIdeal.nD Cert.RopeIdeal.τ).loc Cert.RopeIdeal.main_v8)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v8) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
          ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v27) = v0 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0)
          ∧ r.2.mem ((c.tc : Thread Cert.RopeReferenceIdeal.nD Cert.RopeReferenceIdeal.τ).loc Cert.RopeReferenceIdeal.main_arg1) = m' ((c.tc : Thread Cert.RopeReferenceIdeal.nD Cert.RopeReferenceIdeal.τ).loc Cert.RopeReferenceIdeal.main_arg1)
          ∧ r.2.mem ((c.tc : Thread Cert.RopeReferenceIdeal.nD Cert.RopeReferenceIdeal.τ).loc Cert.RopeReferenceIdeal.main_arg2) = m' ((c.tc : Thread Cert.RopeReferenceIdeal.nD Cert.RopeReferenceIdeal.τ).loc Cert.RopeReferenceIdeal.main_arg2)
          ∧ r.2.mem ((c.tc : Thread Cert.RopeReferenceIdeal.nD Cert.RopeReferenceIdeal.τ).loc Cert.RopeReferenceIdeal.main_arg3) = m' ((c.tc : Thread Cert.RopeReferenceIdeal.nD Cert.RopeReferenceIdeal.τ).loc Cert.RopeReferenceIdeal.main_arg3))

def Claim : Prop :=
  ∃ (hKernel : Cert.Kernel.Facts) (hKernelIdeal : Cert.KernelIdeal.Facts) (hReferenceIdeal : Cert.ReferenceIdeal.Facts) (hNorm : Cert.Norm.Facts) (hNormIdeal : Cert.NormIdeal.Facts) (hNormReferenceIdeal : Cert.NormReferenceIdeal.Facts) (hValues : Cert.Values.Facts) (hValuesIdeal : Cert.ValuesIdeal.Facts) (hValuesReferenceIdeal : Cert.ValuesReferenceIdeal.Facts) (hRope : Cert.Rope.Facts) (hRopeIdeal : Cert.RopeIdeal.Facts) (hRopeReferenceIdeal : Cert.RopeReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Norm (hNorm := hNorm)
    ∧ quiescent_NormIdeal (hNormIdeal := hNormIdeal)
    ∧ quiescent_NormReferenceIdeal (hNormReferenceIdeal := hNormReferenceIdeal)
    ∧ quiescent_Values (hValues := hValues)
    ∧ quiescent_ValuesIdeal (hValuesIdeal := hValuesIdeal)
    ∧ quiescent_ValuesReferenceIdeal (hValuesReferenceIdeal := hValuesReferenceIdeal)
    ∧ quiescent_Rope (hRope := hRope)
    ∧ quiescent_RopeIdeal (hRopeIdeal := hRopeIdeal)
    ∧ quiescent_RopeReferenceIdeal (hRopeReferenceIdeal := hRopeReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Norm_NormIdeal
    ∧ algebraic_NormIdeal_NormReferenceIdeal (hNormIdeal := hNormIdeal) (hNormReferenceIdeal := hNormReferenceIdeal)
    ∧ preserves_Values_ValuesIdeal
    ∧ algebraic_ValuesIdeal_ValuesReferenceIdeal (hValuesIdeal := hValuesIdeal) (hValuesReferenceIdeal := hValuesReferenceIdeal)
    ∧ preserves_Rope_RopeIdeal
    ∧ algebraic_RopeIdeal_RopeReferenceIdeal (hRopeIdeal := hRopeIdeal) (hRopeReferenceIdeal := hRopeReferenceIdeal)
-- ==== Pre_finite_scores.lean ====
abbrev S2x16384x16x128 : Shape := ⟨4, ![2, 16384, 16, 128]⟩
abbrev S2x16384x16x64 : Shape := ⟨4, ![2, 16384, 16, 64]⟩
abbrev S2x16384x64 : Shape := ⟨3, ![2, 16384, 64]⟩
abbrev S2x16384x2048 : Shape := ⟨3, ![2, 16384, 2048]⟩
abbrev S_ : Shape := ⟨0, ![]⟩

class Facts : Prop where
  bcast_S_S2x16384x16x128 : S_.BroadcastsInDim S2x16384x16x128 (![] : Fin 0 → Fin S2x16384x16x128.rank)
  reducesTo_S2x16384x16x128_S_d0_1_2_3 : S2x16384x16x128.ReducesTo [0, 1, 2, 3] S_
  h_S_ : 0 < S_.numel
  bcast_S_S2x16384x16x64 : S_.BroadcastsInDim S2x16384x16x64 (![] : Fin 0 → Fin S2x16384x16x64.rank)
  reducesTo_S2x16384x16x64_S_d0_1_2_3 : S2x16384x16x64.ReducesTo [0, 1, 2, 3] S_
  bcast_S_S2x16384x64 : S_.BroadcastsInDim S2x16384x64 (![] : Fin 0 → Fin S2x16384x64.rank)
  reducesTo_S2x16384x64_S_d0_1_2 : S2x16384x64.ReducesTo [0, 1, 2] S_

variable [Facts]

def fn_part1 {F : FTy → Type} [FloatOps F] (main_v13 : IVec S_ 1) (main_v16 : IVec S2x16384x64 1) : IVec S_ 1 :=
  let main_c_5 : IVec S_ 1 := constantI S_ 1 1#1
  let main_v17 : IVec S_ 1 := (fun x v => Host.reduce IntOp.andi x v reducesTo_S2x16384x64_S_d0_1_2 h_S_) main_v16 main_c_5
  let main_v18 : IVec S_ 1 := andi main_v13 main_v17
  main_v18

def fn {F : FTy → Type} [FloatOps F] (main_arg0 : FVec F S2x16384x16x128 .f32) (main_arg1 : FVec F S2x16384x16x64 .f32) (main_arg2 : FVec F S2x16384x16x128 .f32) (main_arg3 : FVec F S2x16384x64 .f32) (main_arg4 : FVec F S2x16384x16x128 .f32) (main_arg5 : FVec F S2x16384x2048 .f32) : IVec S_ 1 :=
  let main_v0 : FVec F S2x16384x16x128 .f32 := Host.absf main_arg0
  let main_cst : FVec F S_ .f32 := constant S_ .f32 0x7F800000#32
  let main_v1 : FVec F S2x16384x16x128 .f32 := broadcastInDim S2x16384x16x128 ![] bcast_S_S2x16384x16x128 main_cst
  let main_v2 : IVec S2x16384x16x128 1 := cmpf .olt main_v0 main_v1
  let main_c : IVec S_ 1 := constantI S_ 1 1#1
  let main_v3 : IVec S_ 1 := (fun x v => Host.reduce IntOp.andi x v reducesTo_S2x16384x16x128_S_d0_1_2_3 h_S_) main_v2 main_c
  let main_v4 : FVec F S2x16384x16x64 .f32 := Host.absf main_arg1
  let main_cst_0 : FVec F S_ .f32 := constant S_ .f32 0x7F800000#32
  let main_v5 : FVec F S2x16384x16x64 .f32 := broadcastInDim S2x16384x16x64 ![] bcast_S_S2x16384x16x64 main_cst_0
  let main_v6 : IVec S2x16384x16x64 1 := cmpf .olt main_v4 main_v5
  let main_c_1 : IVec S_ 1 := constantI S_ 1 1#1
  let main_v7 : IVec S_ 1 := (fun x v => Host.reduce IntOp.andi x v reducesTo_S2x16384x16x64_S_d0_1_2_3 h_S_) main_v6 main_c_1
  let main_v8 : IVec S_ 1 := andi main_v3 main_v7
  let main_v9 : FVec F S2x16384x16x128 .f32 := Host.absf main_arg2
  let main_cst_2 : FVec F S_ .f32 := constant S_ .f32 0x7F800000#32
  let main_v10 : FVec F S2x16384x16x128 .f32 := broadcastInDim S2x16384x16x128 ![] bcast_S_S2x16384x16x128 main_cst_2
  let main_v11 : IVec S2x16384x16x128 1 := cmpf .olt main_v9 main_v10
  let main_c_3 : IVec S_ 1 := constantI S_ 1 1#1
  let main_v12 : IVec S_ 1 := (fun x v => Host.reduce IntOp.andi x v reducesTo_S2x16384x16x128_S_d0_1_2_3 h_S_) main_v11 main_c_3
  let main_v13 : IVec S_ 1 := andi main_v8 main_v12
  let main_v14 : FVec F S2x16384x64 .f32 := Host.absf main_arg3
  let main_cst_4 : FVec F S_ .f32 := constant S_ .f32 0x7F800000#32
  let main_v15 : FVec F S2x16384x64 .f32 := broadcastInDim S2x16384x64 ![] bcast_S_S2x16384x64 main_cst_4
  let main_v16 : IVec S2x16384x64 1 := cmpf .olt main_v14 main_v15
  fn_part1 (F := F) main_v13 main_v16
-- ==== Kernel.lean ====
abbrev S2x16384x16x128 : Shape := ⟨4, ![2, 16384, 16, 128]⟩
abbrev S2x16384x16x64 : Shape := ⟨4, ![2, 16384, 16, 64]⟩
abbrev S2x16384x64 : Shape := ⟨3, ![2, 16384, 64]⟩
abbrev S2x16384x2048 : Shape := ⟨3, ![2, 16384, 2048]⟩
abbrev S136 : Shape := ⟨1, ![136]⟩
abbrev S_ : Shape := ⟨0, ![]⟩
abbrev S2x16384x16x256 : Shape := ⟨4, ![2, 16384, 16, 256]⟩
abbrev S2x16x16384x256 : Shape := ⟨4, ![2, 16, 16384, 256]⟩
abbrev S2x16384x1x64 : Shape := ⟨4, ![2, 16384, 1, 64]⟩
abbrev S2x16x1x16384 : Shape := ⟨4, ![2, 16, 1, 16384]⟩
abbrev S2x16x15x16384 : Shape := ⟨4, ![2, 16, 15, 16384]⟩
abbrev S2x16x128x16384 : Shape := ⟨4, ![2, 16, 128, 16384]⟩
abbrev S2x16x144x16384 : Shape := ⟨4, ![2, 16, 144, 16384]⟩
abbrev S1x8x1024x256 : Shape := ⟨4, ![1, 8, 1024, 256]⟩
abbrev S1 : Shape := ⟨1, ![1]⟩
abbrev S1x8x144x1024 : Shape := ⟨4, ![1, 8, 144, 1024]⟩
abbrev S1x1024x1024 : Shape := ⟨3, ![1, 1024, 1024]⟩
abbrev S2x1024x1024 : Shape := ⟨3, ![2, 1024, 1024]⟩
abbrev S2x1x1024 : Shape := ⟨3, ![2, 1, 1024]⟩
abbrev S8x1x1024 : Shape := ⟨3, ![8, 1, 1024]⟩
abbrev S8x144x1024 : Shape := ⟨3, ![8, 144, 1024]⟩
abbrev S1x1x1024x256 : Shape := ⟨4, ![1, 1, 1024, 256]⟩
abbrev S1024x256 : Shape := ⟨2, ![1024, 256]⟩
abbrev S1x1x256x256 : Shape := ⟨4, ![1, 1, 256, 256]⟩
abbrev S256x256 : Shape := ⟨2, ![256, 256]⟩
abbrev S1x1024x256 : Shape := ⟨3, ![1, 1024, 256]⟩
abbrev S256 : Shape := ⟨1, ![256]⟩
abbrev S1x256 : Shape := ⟨2, ![1, 256]⟩
abbrev S1x1x256 : Shape := ⟨3, ![1, 1, 256]⟩
abbrev S1x144x256 : Shape := ⟨3, ![1, 144, 256]⟩
abbrev S144x256 : Shape := ⟨2, ![144, 256]⟩
abbrev S1x1x144x1024 : Shape := ⟨4, ![1, 1, 144, 1024]⟩
abbrev S144x1024 : Shape := ⟨2, ![144, 1024]⟩
abbrev S1x256x256 : Shape := ⟨3, ![1, 256, 256]⟩
abbrev S1x1x512x256 : Shape := ⟨4, ![1, 1, 512, 256]⟩
abbrev S512x256 : Shape := ⟨2, ![512, 256]⟩
abbrev S1x512x256 : Shape := ⟨3, ![1, 512, 256]⟩
abbrev S1x1x768x256 : Shape := ⟨4, ![1, 1, 768, 256]⟩
abbrev S768x256 : Shape := ⟨2, ![768, 256]⟩
abbrev S1x768x256 : Shape := ⟨3, ![1, 768, 256]⟩
abbrev S1x1x144x256 : Shape := ⟨4, ![1, 1, 144, 256]⟩
abbrev S1x1x144x512 : Shape := ⟨4, ![1, 1, 144, 512]⟩
abbrev S144x512 : Shape := ⟨2, ![144, 512]⟩
abbrev S1x1x144x768 : Shape := ⟨4, ![1, 1, 144, 768]⟩
abbrev S144x768 : Shape := ⟨2, ![144, 768]⟩
abbrev S1x1024x128 : Shape := ⟨3, ![1, 1024, 128]⟩
abbrev S1024x128 : Shape := ⟨2, ![1024, 128]⟩
abbrev S1x144x1024 : Shape := ⟨3, ![1, 144, 1024]⟩
abbrev S128x1024 : Shape := ⟨2, ![128, 1024]⟩
abbrev S1x1024 : Shape := ⟨2, ![1, 1024]⟩

abbrev nBuf : Space → Nat
  | .hbm => 34
  | .vmem => 14
  | .smem => 2
  | _ => 0

abbrev bufTy : (tb : Table) → Fin (tcTables nBuf tb) → BufTy
  | .hbm, ⟨0, _⟩ => ⟨S2x16384x16x128, .f32⟩
  | .hbm, ⟨1, _⟩ => ⟨S2x16384x16x64, .f32⟩
  | .hbm, ⟨2, _⟩ => ⟨S2x16384x16x128, .f32⟩
  | .hbm, ⟨3, _⟩ => ⟨S2x16384x64, .f32⟩
  | .hbm, ⟨4, _⟩ => ⟨S2x16384x16x128, .f32⟩
  | .hbm, ⟨5, _⟩ => ⟨S2x16384x2048, .f32⟩
  | .hbm, ⟨6, _⟩ => ⟨S_, .f32⟩
  | .hbm, ⟨7, _⟩ => ⟨S2x16384x16x64, .f32⟩
  | .hbm, ⟨8, _⟩ => ⟨S2x16384x16x256, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2x16384x16x256, .f32⟩
  | .hbm, ⟨17, _⟩ => ⟨S2x16384x16x256, .f32⟩
  | .hbm, ⟨18, _⟩ => ⟨S2x16384x16x256, .bf16⟩
  | .hbm, ⟨19, _⟩ => ⟨S2x16x16384x256, .bf16⟩
  | .hbm, ⟨20, _⟩ => ⟨S2x16384x1x64, .f32⟩
  | .hbm, ⟨21, _⟩ => ⟨S2x16384x16x64, .f32⟩
  | .hbm, ⟨22, _⟩ => ⟨S2x16384x16x256, .f32⟩
  | .hbm, ⟨23, _⟩ => ⟨S2x16384x16x256, .bf16⟩
  | .hbm, ⟨24, _⟩ => ⟨S2x16x16384x256, .bf16⟩
  | .hbm, ⟨25, _⟩ => ⟨S_, .f32⟩
  | .hbm, ⟨26, _⟩ => ⟨S2x16x1x16384, .f32⟩
  | .hbm, ⟨27, _⟩ => ⟨S_, .f32⟩
  | .hbm, ⟨28, _⟩ => ⟨S2x16x15x16384, .f32⟩
  | .hbm, ⟨29, _⟩ => ⟨S2x16x128x16384, .f32⟩
  | .hbm, ⟨30, _⟩ => ⟨S2x16x144x16384, .f32⟩
  | .hbm, ⟨31, _⟩ => ⟨S2x16x144x16384, .bf16⟩
  | .hbm, ⟨32, _⟩ => ⟨S2x16384x2048, .bf16⟩
  | .hbm, ⟨33, _⟩ => ⟨S2x16384x2048, .bf16⟩
  | .local _ .vmem, ⟨0, _⟩ => ⟨S1x8x1024x256, .bf16⟩
  | .local _ .vmem, ⟨1, _⟩ => ⟨S1x8x1024x256, .bf16⟩
  | .local _ .vmem, ⟨2, _⟩ => ⟨S1x8x1024x256, .bf16⟩
  | .local _ .vmem, ⟨3, _⟩ => ⟨S1x8x1024x256, .bf16⟩
  | .local _ .vmem, ⟨4, _⟩ => ⟨S1x8x144x1024, .bf16⟩
  | .local _ .vmem, ⟨5, _⟩ => ⟨S1x8x144x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S2x1024x1024, .f32⟩
  | .local _ .vmem, ⟨11, _⟩ => ⟨S2x1x1024, .f32⟩
  | .local _ .vmem, ⟨12, _⟩ => ⟨S8x1x1024, .f32⟩
  | .local _ .vmem, ⟨13, _⟩ => ⟨S8x144x1024, .f32⟩
  | .local _ .smem, ⟨0, _⟩ => ⟨S136, .i32⟩
  | .local _ .smem, ⟨1, _⟩ => ⟨S136, .i32⟩
  | _, _ => ⟨S2x16384x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_v4 : Ref sig .tc := ⟨.hbm, 13, rfl⟩
abbrev main_cst_3 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 136], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v0 : Index := Scalar.indexCast arg2
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S136) ![v0.toNat] S1.size (k0_off1_inb i)) numel1_S1
  let c0_i32 : BitVec 32 := 0#32
  let c0_i32_0 : BitVec 32 := 0#32
  ![arg0.toNat, arg1.toNat, v1.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S136) ![v0.toNat] S1.size (k0_off1_inb i)) numel1_S1
  let c0_i32 : BitVec 32 := 0#32
  let c0_i32_0 : BitVec 32 := 0#32
  ![arg0.toNat, arg1.toNat, v1.toNat, c0_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S136) ![v0.toNat] S1.size (k0_off1_inb i)) numel1_S1
  let c0_i32 : BitVec 32 := 0#32
  let c0_i32_0 : BitVec 32 := 0#32
  ![arg0.toNat, arg1.toNat, c0_i32.toNat, v1.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S136) ![v0.toNat] S1.size (k0_off1_inb i)) numel1_S1
  let c0_i32 : BitVec 32 := 0#32
  ![arg0.toNat, v1.toNat, arg1.toNat]

def cc0_transform_4 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S136) ![v0.toNat] S1.size (k0_off1_inb i)) numel1_S1
  let c0_i32 : BitVec 32 := 0#32
  ![arg0.toNat, v1.toNat, arg1.toNat]

abbrev stage0_0 : Fin 2 → Memref sig .tc .vmem S1x8x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x144x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S2x16384x16x128 : Shape := ⟨4, ![2, 16384, 16, 128]⟩
abbrev S2x16384x16x64 : Shape := ⟨4, ![2, 16384, 16, 64]⟩
abbrev S2x16384x64 : Shape := ⟨3, ![2, 16384, 64]⟩
abbrev S2x16384x2048 : Shape := ⟨3, ![2, 16384, 2048]⟩
abbrev S_ : Shape := ⟨0, ![]⟩
abbrev S2x16x16384x16384 : Shape := ⟨4, ![2, 16, 16384, 16384]⟩
abbrev S2x16384x16384x16 : Shape := ⟨4, ![2, 16384, 16384, 16]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S2x16x16384 : Shape := ⟨3, ![2, 16, 16384]⟩
abbrev S2x16x16384x1 : Shape := ⟨4, ![2, 16, 16384, 1]⟩
abbrev S2x16x128x16384 : Shape := ⟨4, ![2, 16, 128, 16384]⟩

abbrev nBuf : Space → Nat
  | .hbm => 56
  | .vmem => 0
  | .smem => 0
  | _ => 0

abbrev bufTy : (tb : Table) → Fin (tcTables nBuf tb) → BufTy
  | .hbm, ⟨0, _⟩ => ⟨S2x16384x16x128, .f32⟩
  | .hbm, ⟨1, _⟩ => ⟨S2x16384x16x64, .f32⟩
  | .hbm, ⟨2, _⟩ => ⟨S2x16384x16x128, .f32⟩
  | .hbm, ⟨3, _⟩ => ⟨S2x16384x64, .f32⟩
  | .hbm, ⟨4, _⟩ => ⟨S2x16384x16x128, .f32⟩
  | .hbm, ⟨5, _⟩ => ⟨S2x16384x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2x16x16384x16384, .f32⟩
  | .hbm, ⟨11, _⟩ => ⟨S2x16384x16384x16, .f32⟩
  | .hbm, ⟨12, _⟩ => ⟨S2x16x16384x16384, .f32⟩
  | .hbm, ⟨13, _⟩ => ⟨S2x16x16384x16384, .f32⟩
  | .hbm, ⟨14, _⟩ => ⟨S2x16x16384x16384, .f32⟩
  | .hbm, ⟨15, _⟩ => ⟨S2x16x16384x16384, .f32⟩
  | .hbm, ⟨16, _⟩ => ⟨S16384, .i32⟩
  | .hbm, ⟨17, _⟩ => ⟨S16384, .i32⟩
  | .hbm, ⟨18, _⟩ => ⟨S1x16384, .i32⟩
  | .hbm, ⟨19, _⟩ => ⟨S16384x1, .i32⟩
  | .hbm, ⟨20, _⟩ => ⟨S16384x16384, .i32⟩
  | .hbm, ⟨21, _⟩ => ⟨S16384x16384, .i32⟩
  | .hbm, ⟨22, _⟩ => ⟨S16384x16384, .i1⟩
  | .hbm, ⟨23, _⟩ => ⟨S_, .f32⟩
  | .hbm, ⟨24, _⟩ => ⟨S_, .f32⟩
  | .hbm, ⟨25, _⟩ => ⟨S2x16x16384x16384, .i1⟩
  | .hbm, ⟨26, _⟩ => ⟨S2x16x16384x16384, .f32⟩
  | .hbm, ⟨27, _⟩ => ⟨S2x16x16384x16384, .f32⟩
  | .hbm, ⟨28, _⟩ => ⟨S_, .f32⟩
  | .hbm, ⟨29, _⟩ => ⟨S2x16x16384, .f32⟩
  | .hbm, ⟨30, _⟩ => ⟨S_, .f32⟩
  | .hbm, ⟨31, _⟩ => ⟨S2x16x16384, .f32⟩
  | .hbm, ⟨32, _⟩ => ⟨S2x16x16384, .f32⟩
  | .hbm, ⟨33, _⟩ => ⟨S2x16x16384x1, .f32⟩
  | .hbm, ⟨34, _⟩ => ⟨S2x16x16384x16384, .f32⟩
  | .hbm, ⟨35, _⟩ => ⟨S2x16x16384x16384, .f32⟩
  | .hbm, ⟨36, _⟩ => ⟨S2x16x16384x16384, .f32⟩
  | .hbm, ⟨37, _⟩ => ⟨S_, .f32⟩
  | .hbm, ⟨38, _⟩ => ⟨S2x16x16384, .f32⟩
  | .hbm, ⟨39, _⟩ => ⟨S2x16x16384x1, .f32⟩
  | .hbm, ⟨40, _⟩ => ⟨S2x16x16384x16384, .f32⟩
  | .hbm, ⟨41, _⟩ => ⟨S2x16x16384x16384, .f32⟩
  | .hbm, ⟨42, _⟩ => ⟨S2x16x128x16384, .f32⟩
  | .hbm, ⟨43, _⟩ => ⟨S2x16384x16x128, .f32⟩
  | .hbm, ⟨44, _⟩ => ⟨S2x16384x2048, .f32⟩
  | .hbm, ⟨45, _⟩ => ⟨S2x16384x2048, .f32⟩
  | .hbm, ⟨46, _⟩ => ⟨S2x16384x2048, .f32⟩
  | .hbm, ⟨47, _⟩ => ⟨S_, .f32⟩
  | .hbm, ⟨48, _⟩ => ⟨S2x16384x2048, .f32⟩
  | .hbm, ⟨49, _⟩ => ⟨S2x16384x2048, .f32⟩
  | .hbm, ⟨50, _⟩ => ⟨S_, .f32⟩
  | .hbm, ⟨51, _⟩ => ⟨S2x16384x2048, .f32⟩
  | .hbm, ⟨52, _⟩ => ⟨S2x16384x2048, .f32⟩
  | .hbm, ⟨53, _⟩ => ⟨S2x16384x2048, .f32⟩
  | .hbm, ⟨54, _⟩ => ⟨S2x16384x2048, .f32⟩
  | .hbm, ⟨55, _⟩ => ⟨S2x16384x2048, .bf16⟩
  | _, _ => ⟨S2x16384x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩

abbrev nD : Nat := 1
abbrev τ : Topo := Topo.v7x

variable {F : FTy → Type} [FloatOps F]
-- ==== Norm.lean ====
abbrev S2x16384x2048 : Shape := ⟨3, ![2, 16384, 2048]⟩
abbrev S2048x2048 : Shape := ⟨2, ![2048, 2048]⟩
abbrev S2048 : Shape := ⟨1, ![2048]⟩
abbrev S32768x2048 : Shape := ⟨2, ![32768, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S2x16384x2048, .f32⟩
  | .hbm, ⟨1, _⟩ => ⟨S2048x2048, .f32⟩
  | .hbm, ⟨2, _⟩ => ⟨S2x16384x2048, .f32⟩
  | .hbm, ⟨3, _⟩ => ⟨S2048, .f32⟩
  | .hbm, ⟨4, _⟩ => ⟨S2048, .f32⟩
  | .hbm, ⟨5, _⟩ => ⟨S32768x2048, .f32⟩
  | .hbm, ⟨6, _⟩ => ⟨S32768x2048, .bf16⟩
  | .hbm, ⟨7, _⟩ => ⟨S2048x2048, .bf16⟩
  | .hbm, ⟨8, _⟩ => ⟨S32768x2048, .f32⟩
  | .hbm, ⟨9, _⟩ => ⟨S1x2048, .f32⟩
  | .hbm, ⟨10, _⟩ => ⟨S1x2048, .f32⟩
  | .hbm, ⟨11, _⟩ => ⟨S32768x2048, .f32⟩
  | .hbm, ⟨12, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormReferenceIdeal.lean ====
abbrev S2x16384x2048 : Shape := ⟨3, ![2, 16384, 2048]⟩
abbrev S2048x2048 : Shape := ⟨2, ![2048, 2048]⟩
abbrev S2048 : Shape := ⟨1, ![2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S32768x2048 : Shape := ⟨2, ![32768, 2048]⟩

abbrev nBuf : Space → Nat
  | .hbm => 39
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x2048, .f32⟩
  | .hbm, ⟨2, _⟩ => ⟨S2x16384x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S2x16384x2048, .f32⟩
  | .hbm, ⟨7, _⟩ => ⟨S2x16384x2048, .f32⟩
  | .hbm, ⟨8, _⟩ => ⟨S2x16384x2048, .f32⟩
  | .hbm, ⟨9, _⟩ => ⟨S2x16384x2048, .f32⟩
  | .hbm, ⟨10, _⟩ => ⟨S_, .f32⟩
  | .hbm, ⟨11, _⟩ => ⟨S2x16384, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x2048, .f32⟩
  | .hbm, ⟨17, _⟩ => ⟨S2x16384x2048, .f32⟩
  | .hbm, ⟨18, _⟩ => ⟨S2x16384x2048, .f32⟩
  | .hbm, ⟨19, _⟩ => ⟨S_, .f32⟩
  | .hbm, ⟨20, _⟩ => ⟨S2x16384, .f32⟩
  | .hbm, ⟨21, _⟩ => ⟨S2x16384x1, .f32⟩
  | .hbm, ⟨22, _⟩ => ⟨S_, .f32⟩
  | .hbm, ⟨23, _⟩ => ⟨S2x16384x1, .f32⟩
  | .hbm, ⟨24, _⟩ => ⟨S2x16384x1, .f32⟩
  | .hbm, ⟨25, _⟩ => ⟨S_, .f32⟩
  | .hbm, ⟨26, _⟩ => ⟨S2x16384x1, .f32⟩
  | .hbm, ⟨27, _⟩ => ⟨S2x16384x1, .f32⟩
  | .hbm, ⟨28, _⟩ => ⟨S2x16384x1, .f32⟩
  | .hbm, ⟨29, _⟩ => ⟨S2x16384x2048, .f32⟩
  | .hbm, ⟨30, _⟩ => ⟨S2x16384x2048, .f32⟩
  | .hbm, ⟨31, _⟩ => ⟨S1x1x2048, .f32⟩
  | .hbm, ⟨32, _⟩ => ⟨S2x16384x2048, .f32⟩
  | .hbm, ⟨33, _⟩ => ⟨S2x16384x2048, .f32⟩
  | .hbm, ⟨34, _⟩ => ⟨S1x1x2048, .f32⟩
  | .hbm, ⟨35, _⟩ => ⟨S2x16384x2048, .f32⟩
  | .hbm, ⟨36, _⟩ => ⟨S2x16384x2048, .f32⟩
  | .hbm, ⟨37, _⟩ => ⟨S32768x2048, .f32⟩
  | .hbm, ⟨38, _⟩ => ⟨S32768x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Values.lean ====
abbrev S2x16384x2048 : Shape := ⟨3, ![2, 16384, 2048]⟩
abbrev S2048x20480 : Shape := ⟨2, ![2048, 20480]⟩
abbrev S32768x2048 : Shape := ⟨2, ![32768, 2048]⟩
abbrev S2048x2048 : Shape := ⟨2, ![2048, 2048]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x16384x2048, .f32⟩
  | .hbm, ⟨1, _⟩ => ⟨S2048x20480, .f32⟩
  | .hbm, ⟨2, _⟩ => ⟨S32768x2048, .f32⟩
  | .hbm, ⟨3, _⟩ => ⟨S32768x2048, .bf16⟩
  | .hbm, ⟨4, _⟩ => ⟨S2048x20480, .bf16⟩
  | .hbm, ⟨5, _⟩ => ⟨S32768x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ValuesReferenceIdeal.lean ====
abbrev S2x16384x2048 : Shape := ⟨3, ![2, 16384, 2048]⟩
abbrev S2048x20480 : Shape := ⟨2, ![2048, 20480]⟩
abbrev S2x16384x20480 : Shape := ⟨3, ![2, 16384, 20480]⟩
abbrev S32768x2048 : Shape := ⟨2, ![32768, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x20480, .f32⟩
  | .hbm, ⟨2, _⟩ => ⟨S2x16384x20480, .f32⟩
  | .hbm, ⟨3, _⟩ => ⟨S2x16384x2048, .f32⟩
  | .hbm, ⟨4, _⟩ => ⟨S32768x2048, .f32⟩
  | .hbm, ⟨5, _⟩ => ⟨S32768x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Rope.lean ====
abbrev S2x16384x2048 : Shape := ⟨3, ![2, 16384, 2048]⟩
abbrev S2048x20480 : Shape := ⟨2, ![2048, 20480]⟩
abbrev S2x16384x64 : Shape := ⟨3, ![2, 16384, 64]⟩
abbrev S32768x64 : Shape := ⟨2, ![32768, 64]⟩
abbrev S32768x128 : Shape := ⟨2, ![32768, 128]⟩
abbrev S32768x2048 : Shape := ⟨2, ![32768, 2048]⟩
abbrev S32768x4096 : Shape := ⟨2, ![32768, 4096]⟩
abbrev S2048x2048 : Shape := ⟨2, ![2048, 2048]⟩
abbrev S2048x1024 : Shape := ⟨2, ![2048, 1024]⟩
abbrev S2048x128 : Shape := ⟨2, ![2048, 128]⟩

abbrev nBuf : Space → Nat
  | .hbm => 13
  | .vmem => 10
  | .smem => 0
  | _ => 0

abbrev bufTy : (tb : Table) → Fin (tcTables nBuf tb) → BufTy
  | .hbm, ⟨0, _⟩ => ⟨S2x16384x2048, .f32⟩
  | .hbm, ⟨1, _⟩ => ⟨S2048x20480, .f32⟩
  | .hbm, ⟨2, _⟩ => ⟨S2x16384x64, .f32⟩
  | .hbm, ⟨3, _⟩ => ⟨S2x16384x64, .f32⟩
  | .hbm, ⟨4, _⟩ => ⟨S32768x64, .f32⟩
  | .hbm, ⟨5, _⟩ => ⟨S32768x64, .f32⟩
  | .hbm, ⟨6, _⟩ => ⟨S32768x128, .f32⟩
  | .hbm, ⟨7, _⟩ => ⟨S32768x64, .f32⟩
  | .hbm, ⟨8, _⟩ => ⟨S32768x128, .f32⟩
  | .hbm, ⟨9, _⟩ => ⟨S32768x2048, .f32⟩
  | .hbm, ⟨10, _⟩ => ⟨S32768x2048, .bf16⟩
  | .hbm, ⟨11, _⟩ => ⟨S2048x20480, .bf16⟩
  | .hbm, ⟨12, _⟩ => ⟨S32768x4096, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x1024, .bf16⟩
  | .local _ .vmem, ⟨9, _⟩ => ⟨S2048x1024, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RopeReferenceIdeal.lean ====
abbrev S2x16384x2048 : Shape := ⟨3, ![2, 16384, 2048]⟩
abbrev S2048x20480 : Shape := ⟨2, ![2048, 20480]⟩
abbrev S2x16384x64 : Shape := ⟨3, ![2, 16384, 64]⟩
abbrev S2x16384x20480 : Shape := ⟨3, ![2, 16384, 20480]⟩
abbrev S2x16384x4096 : Shape := ⟨3, ![2, 16384, 4096]⟩
abbrev S2x16384x2x16x128 : Shape := ⟨5, ![2, 16384, 2, 16, 128]⟩
abbrev S2x16384x2x16x64 : Shape := ⟨5, ![2, 16384, 2, 16, 64]⟩
abbrev S2x16384x1x1x64 : Shape := ⟨5, ![2, 16384, 1, 1, 64]⟩
abbrev S2x16384x1x16x128 : Shape := ⟨5, ![2, 16384, 1, 16, 128]⟩
abbrev S2x16384x16x128 : Shape := ⟨4, ![2, 16384, 16, 128]⟩
abbrev S32768x2048 : Shape := ⟨2, ![32768, 2048]⟩
abbrev S_ : Shape := ⟨0, ![]⟩
abbrev S32768x4096 : Shape := ⟨2, ![32768, 4096]⟩

abbrev nBuf : Space → Nat
  | .hbm => 33
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x20480, .f32⟩
  | .hbm, ⟨2, _⟩ => ⟨S2x16384x64, .f32⟩
  | .hbm, ⟨3, _⟩ => ⟨S2x16384x64, .f32⟩
  | .hbm, ⟨4, _⟩ => ⟨S2x16384x20480, .f32⟩
  | .hbm, ⟨5, _⟩ => ⟨S2x16384x4096, .f32⟩
  | .hbm, ⟨6, _⟩ => ⟨S2x16384x2x16x128, .f32⟩
  | .hbm, ⟨7, _⟩ => ⟨S2x16384x2x16x64, .f32⟩
  | .hbm, ⟨8, _⟩ => ⟨S2x16384x2x16x64, .f32⟩
  | .hbm, ⟨9, _⟩ => ⟨S2x16384x1x1x64, .f32⟩
  | .hbm, ⟨10, _⟩ => ⟨S2x16384x1x1x64, .f32⟩
  | .hbm, ⟨11, _⟩ => ⟨S2x16384x2x16x64, .f32⟩
  | .hbm, ⟨12, _⟩ => ⟨S2x16384x2x16x64, .f32⟩
  | .hbm, ⟨13, _⟩ => ⟨S2x16384x2x16x64, .f32⟩
  | .hbm, ⟨14, _⟩ => ⟨S2x16384x2x16x64, .f32⟩
  | .hbm, ⟨15, _⟩ => ⟨S2x16384x2x16x64, .f32⟩
  | .hbm, ⟨16, _⟩ => ⟨S2x16384x2x16x64, .f32⟩
  | .hbm, ⟨17, _⟩ => ⟨S2x16384x2x16x64, .f32⟩
  | .hbm, ⟨18, _⟩ => ⟨S2x16384x2x16x64, .f32⟩
  | .hbm, ⟨19, _⟩ => ⟨S2x16384x2x16x64, .f32⟩
  | .hbm, ⟨20, _⟩ => ⟨S2x16384x2x16x64, .f32⟩
  | .hbm, ⟨21, _⟩ => ⟨S2x16384x2x16x128, .f32⟩
  | .hbm, ⟨22, _⟩ => ⟨S2x16384x1x16x128, .f32⟩
  | .hbm, ⟨23, _⟩ => ⟨S2x16384x16x128, .f32⟩
  | .hbm, ⟨24, _⟩ => ⟨S32768x2048, .f32⟩
  | .hbm, ⟨25, _⟩ => ⟨S_, .f32⟩
  | .hbm, ⟨26, _⟩ => ⟨S32768x2048, .f32⟩
  | .hbm, ⟨27, _⟩ => ⟨S32768x2048, .f32⟩
  | .hbm, ⟨28, _⟩ => ⟨S2x16384x1x16x128, .f32⟩
  | .hbm, ⟨29, _⟩ => ⟨S2x16384x16x128, .f32⟩
  | .hbm, ⟨30, _⟩ => ⟨S32768x2048, .f32⟩
  | .hbm, ⟨31, _⟩ => ⟨S32768x4096, .f32⟩
  | .hbm, ⟨32, _⟩ => ⟨S32768x4096, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]
-- ==== Proof.Same.lean ====
/- The kernel read over words of bits and the kernel read over extended reals are one text, printed twice: the body, the table
   of bodies and the host program of the two prints are equal. A run of the one is therefore a run of the other. -/
module
public import proofs.«01_k».proof.Defs
public import proofs.«01_k».proof.Proof.Gen.Kernel
public import proofs.«01_k».proof.Proof.Gen.KernelIdeal
@[expose] public section
noncomputable section
namespace Cert.Same

open Idealize.ShloMosaic Idealize.SL.Sem

attribute [local instance] Cert.Kernel.Gen.facts Cert.KernelIdeal.Gen.facts

theorem body_eq : @Cert.Kernel.cc0_mla_flash_attention Bits _ _ = @Cert.KernelIdeal.cc0_mla_flash_attention Bits _ _ := rfl

theorem bodies_eq : @Cert.Kernel.defs₀ Bits _ _ = @Cert.KernelIdeal.defs₀ Bits _ _ := by
  unfold Cert.Kernel.defs₀ Cert.KernelIdeal.defs₀
  refine congrArg Defs.onTc ?_
  funext k x
  match k, x with
  | 0, (t, s) =>
    dsimp only
    rw [body_eq]
    rfl

theorem defs_eq : @Cert.Kernel.defs Bits _ _ = @Cert.KernelIdeal.defs Bits _ _ :=
  congrArg (Pipeline.defs (Cert.KernelIdeal.pcfgs (F := Bits))) bodies_eq

set_option maxHeartbeats 4000000 in
theorem main_eq : @Cert.Kernel.main Bits _ _ = @Cert.KernelIdeal.main Bits _ _ := rfl

end Cert.Same
-- ==== Proof.Units.lean ====
/-
The flash kernel's body as a nest of small programs. The printed body is the unrolling of eight heads by four
query chunks; each of its units is one of three programs, `scoreP`, `softP` and `pvP`, at a head `h` and a chunk
`c`. `update` runs them in the body's order, `epiP` finishes one head. `body_eq` says that the printed body is
these programs.
-/
module

public import proofs.«01_k».proof.Proof.Gen.KernelIdeal
public import Idealize.ShloMosaic.Lib.Pipeline.Regions

@[expose] public section

noncomputable section

namespace Cert.KernelIdeal.Attn

open Idealize.ShloMosaic Idealize.SL.Sem Cert.KernelIdeal Cert.KernelIdeal.Facts₀ Cert.KernelIdeal.Facts

variable {F : FTy → Type} [FloatOps F]

/-- A program of the kernel's body. -/
abbrev BodyProg (F : FTy → Type) (α : Type) := Prog (TpuEff nD τ sig (Elt F) Λ₀ .tc) α

/-- Run `f 0, …, f (n-1)` in order. -/
def forP : (n : ℕ) → ((i : ℕ) → i < n → BodyProg F PUnit) → BodyProg F PUnit
  | 0, _ => pure ⟨⟩
  | n + 1, f => do forP n (fun i h => f i (Nat.lt_succ_of_lt h)); f n (Nat.lt_succ_self n)

/-- The number of keys that chunk `c` meets: all of the tile, or on the diagonal those up to its last query. -/
def keys : Bool → ℕ → ℕ
  | false, _ => 1024
  | true, c => 256 * (c + 1)

theorem keys_pos (b : Bool) (c : ℕ) : 0 < keys b c := by cases b <;> simp [keys]
theorem keys_le (b : Bool) {c : ℕ} (hc : c < 4) : keys b c ≤ 1024 := by cases b <;> simp [keys]; omega

abbrev Sk (n : ℕ) : Shape := ⟨2, ![n, 256]⟩
abbrev S1k (n : ℕ) : Shape := ⟨3, ![1, n, 256]⟩
abbrev SK (n : ℕ) : Shape := ⟨4, ![1, 1, n, 256]⟩
abbrev SV (n : ℕ) : Shape := ⟨4, ![1, 1, 144, n]⟩
abbrev Sv (n : ℕ) : Shape := ⟨2, ![144, n]⟩

/-! ### The rectangles -/

theorem inb_K (n h : ℕ) (hn : n ≤ 1024) (hh : h < 8) : ∀ a, (![0, h, 0, 0] : Fin 4 → ℕ) a + (SK n).size a ≤ S1x8x1024x256.size a := by
  intro a; fin_cases a <;> simp [S1x8x1024x256] <;> omega
theorem inb_Q (h c : ℕ) (hh : h < 8) (hc : c < 4) : ∀ a, (![0, h, 256 * c, 0] : Fin 4 → ℕ) a + S1x1x256x256.size a ≤ S1x8x1024x256.size a := by
  intro a; fin_cases a <;> simp [S1x8x1024x256, S1x1x256x256] <;> omega
theorem inb_S (n s c : ℕ) (hn : n ≤ 1024) (hs : s < 2) (hc : c < 4) : ∀ a, (![s, 0, 256 * c] : Fin 3 → ℕ) a + (S1k n).size a ≤ S2x1024x1024.size a := by
  intro a; fin_cases a <;> simp [S2x1024x1024] <;> omega
theorem inb_X (s c : ℕ) (hs : s < 2) (hc : c < 4) : ∀ a, (![s, 0, 256 * c] : Fin 3 → ℕ) a + S1x1x256.size a ≤ S2x1x1024.size a := by
  intro a; fin_cases a <;> simp [S2x1x1024, S1x1x256] <;> omega
theorem inb_M (h c : ℕ) (hh : h < 8) (hc : c < 4) : ∀ a, (![h, 0, 256 * c] : Fin 3 → ℕ) a + S1x1x256.size a ≤ S8x1x1024.size a := by
  intro a; fin_cases a <;> simp [S8x1x1024, S1x1x256] <;> omega
theorem inb_A (h c : ℕ) (hh : h < 8) (hc : c < 4) : ∀ a, (![h, 0, 256 * c] : Fin 3 → ℕ) a + S1x144x256.size a ≤ S8x144x1024.size a := by
  intro a; fin_cases a <;> simp [S8x144x1024, S1x144x256] <;> omega
theorem inb_V (n h : ℕ) (hn : n ≤ 1024) (hh : h < 8) : ∀ a, (![0, h, 0, 0] : Fin 4 → ℕ) a + (SV n).size a ≤ S1x8x144x1024.size a := by
  intro a; fin_cases a <;> simp [S1x8x144x1024] <;> omega
theorem inb_Z (h : ℕ) (hh : h < 8) : ∀ a, (![0, 0, 128 * h] : Fin 3 → ℕ) a + S1x1024x128.size a ≤ S1x1024x1024.size a := by
  intro a; fin_cases a <;> simp [S1x1024x1024, S1x1024x128] <;> omega
theorem inb_H (h : ℕ) (hh : h < 8) : ∀ a, (![h, 0, 0] : Fin 3 → ℕ) a + S1x144x1024.size a ≤ S8x144x1024.size a := by
  intro a; fin_cases a <;> simp [S8x144x1024, S1x144x1024] <;> omega

/-- The keys `0 … n-1` of head `h`. -/
abbrev rK (n h : ℕ) (hn : n ≤ 1024) (hh : h < 8) : Rect S1x8x1024x256 := Rect.unit (s := S1x8x1024x256) ![0, h, 0, 0] (SK n).size (inb_K n h hn hh)
/-- The queries of chunk `c` of head `h`. -/
abbrev rQ (h c : ℕ) (hh : h < 8) (hc : c < 4) : Rect S1x8x1024x256 := Rect.unit (s := S1x8x1024x256) ![0, h, 256 * c, 0] S1x1x256x256.size (inb_Q h c hh hc)
/-- Chunk `c` of score slot `s`, its first `n` keys. -/
abbrev rS (n s c : ℕ) (hn : n ≤ 1024) (hs : s < 2) (hc : c < 4) : Rect S2x1024x1024 := Rect.unit (s := S2x1024x1024) ![s, 0, 256 * c] (S1k n).size (inb_S n s c hn hs hc)
/-- Chunk `c` of the slot `s` of the tile's maxima. -/
abbrev rX (s c : ℕ) (hs : s < 2) (hc : c < 4) : Rect S2x1x1024 := Rect.unit (s := S2x1x1024) ![s, 0, 256 * c] S1x1x256.size (inb_X s c hs hc)
/-- Chunk `c` of head `h` of the running maxima. -/
abbrev rM (h c : ℕ) (hh : h < 8) (hc : c < 4) : Rect S8x1x1024 := Rect.unit (s := S8x1x1024) ![h, 0, 256 * c] S1x1x256.size (inb_M h c hh hc)
/-- Chunk `c` of head `h` of the running sums. -/
abbrev rA (h c : ℕ) (hh : h < 8) (hc : c < 4) : Rect S8x144x1024 := Rect.unit (s := S8x144x1024) ![h, 0, 256 * c] S1x144x256.size (inb_A h c hh hc)
/-- The values of the keys `0 … n-1` of head `h`, transposed. -/
abbrev rV (n h : ℕ) (hn : n ≤ 1024) (hh : h < 8) : Rect S1x8x144x1024 := Rect.unit (s := S1x8x144x1024) ![0, h, 0, 0] (SV n).size (inb_V n h hn hh)
/-- The lanes of head `h` of the gate's and the result's block. -/
abbrev rZ (h : ℕ) (hh : h < 8) : Rect S1x1024x1024 := Rect.unit (s := S1x1024x1024) ![0, 0, 128 * h] S1x1024x128.size (inb_Z h hh)
/-- Head `h` of the running sums. -/
abbrev rH (h : ℕ) (hh : h < 8) : Rect S8x144x1024 := Rect.unit (s := S8x144x1024) ![h, 0, 0] S1x144x1024.size (inb_H h hh)

/-! ### Shape relations at a number of keys -/

theorem cast_K (n : ℕ) : (SK n).ShapeCasts (Sk n) := by simp [Shape.ShapeCasts, Shape.numel, Fin.prod_univ_succ]
theorem cast_S (n : ℕ) : (S1k n).ShapeCasts (Sk n) := by simp [Shape.ShapeCasts, Shape.numel, Fin.prod_univ_succ]
theorem cast_S' (n : ℕ) : (Sk n).ShapeCasts (S1k n) := by simp [Shape.ShapeCasts, Shape.numel, Fin.prod_univ_succ]
theorem cast_V (n : ℕ) : (SV n).ShapeCasts (Sv n) := by simp [Shape.ShapeCasts, Shape.numel, Fin.prod_univ_succ]
theorem numel_pos_K (n : ℕ) (hn : 0 < n) : 0 < (SK n).numel := by simp [Shape.numel, Fin.prod_univ_succ, hn]
theorem numel_pos_S (n : ℕ) (hn : 0 < n) : 0 < (S1k n).numel := by simp [Shape.numel, Fin.prod_univ_succ, hn]
theorem numel_pos_V (n : ℕ) (hn : 0 < n) : 0 < (SV n).numel := by simp [Shape.numel, Fin.prod_univ_succ, hn]
theorem red_S (n : ℕ) : (Sk n).Reduces [0] S256 :=
  ⟨rfl, Nat.one_pos, fun b => by fin_cases b; rfl⟩
theorem bc_S (n : ℕ) : S1x256.Broadcasts (Sk n) :=
  ⟨le_refl _, fun a => by fin_cases a; exacts [.inl rfl, .inr fun _ => rfl]⟩
theorem iota0 (n : ℕ) : (Sk n).Iotas .tc 32 [0] :=
  ⟨List.nodup_singleton _, fun _ => ⟨.inr rfl, le_refl _⟩, fun h => absurd rfl h⟩
theorem iota1 (n : ℕ) : (Sk n).Iotas .tc 32 [1] :=
  ⟨List.nodup_singleton _, fun _ => ⟨.inr rfl, le_refl _⟩, fun h => absurd rfl h⟩
theorem packedZ (h : ℕ) (hh : h < 8) : (rZ h hh).PackedRows (EltTy.packing .bf16) :=
  .inr ⟨Nat.le_of_ble_eq_true rfl, rfl, .inl ⟨Dvd.intro 0 rfl, Dvd.intro 512 rfl⟩⟩
theorem dotS_wf (n : ℕ) : DotDims.WF (Sk n) S256x256 (Sk n) [1] [1] [0] [0] [] [] :=
  (DotDims.transposedRhs n 256 256).wf
theorem dotV_wf (n : ℕ) : DotDims.WF (Sv n) (Sk n) S144x256 [1] [0] [0] [1] [] [] :=
  (DotDims.plain 144 n 256).wf

/-- Keys by queries, over the lanes. -/
def dotS (n : ℕ) : DotDims (Sk n) S256x256 (Sk n) where
  lhsContracting := [1]
  rhsContracting := [1]
  lhsNonContracting := [0]
  rhsNonContracting := [0]
  lhsBatch := []
  rhsBatch := []
  wf := dotS_wf n

/-- Transposed values by weights, over the keys. -/
def dotV (n : ℕ) : DotDims (Sv n) (Sk n) S144x256 where
  lhsContracting := [1]
  rhsContracting := [0]
  lhsNonContracting := [0]
  rhsNonContracting := [1]
  lhsBatch := []
  rhsBatch := []
  wf := dotV_wf n

/-! ### What a unit computes -/

/-- The products of a chunk's queries with `n` keys. -/
def rawV (n : ℕ) (k : Vec F (SK n) .bf16) (q : Vec F S1x1x256x256 .bf16) : FVec F (Sk n) .f32 :=
  matmul (dotS n) none (shapeCast (Sk n) k (cast_K n) : FVec F (Sk n) .bf16)
    (shapeCast S256x256 q shapeCasts_S1x1x256x256_S256x256 : FVec F S256x256 .bf16) (constant (Sk n) .f32 0x00000000#32)

/-- The scores that unit `(h, c)` stores: the products, on the diagonal `-inf` at a key after its query. -/
def scoreV : (b : Bool) → (c : ℕ) → (k : Vec F (SK (keys b c)) .bf16) → (q : Vec F S1x1x256x256 .bf16) → FVec F (Sk (keys b c)) .f32
  | false, c, k, q => rawV (keys false c) k q
  | true, c, k, q => select (cmpi .sge (addi (iota .tc (Sk (keys true c)) 32 [1] (iota1 _)) (broadcast (Sk (keys true c)) (BitVec.ofNat 32 (256 * c))))
      (iota .tc (Sk (keys true c)) 32 [0] (iota0 _))) (rawV (keys true c) k q) (broadcast (Sk (keys true c)) (Scalar.ofBits .f32 0xFF800000#32 : F .f32))

/-- Their greatest, query by query. -/
def maxV (n : ℕ) (s : FVec F (Sk n) .f32) : FVec F S1x256 .f32 :=
  shapeCast S1x256 (multiReduction .maximumf [0] S256 s 0xFF800000#32 (red_S n) (.inl rfl) rfl : FVec F S256 .f32) shapeCasts_S256_S1x256

/-- The new running maximum. -/
def newM (m x : Vec F S1x1x256 .f32) : FVec F S1x256 .f32 :=
  maximumf (shapeCast S1x256 m shapeCasts_S1x1x256_S1x256 : FVec F S1x256 .f32) (shapeCast S1x256 x shapeCasts_S1x1x256_S1x256 : FVec F S1x256 .f32)

/-- The factor that takes the old sums to the new maximum. -/
def alphaV (m x : Vec F S1x1x256 .f32) : FVec F S1x256 .f32 :=
  exp2 (subf (shapeCast S1x256 m shapeCasts_S1x1x256_S1x256 : FVec F S1x256 .f32) (newM m x))

/-- The tile's weights at the new maximum. -/
def weightV (n : ℕ) (m x : Vec F S1x1x256 .f32) (s : Vec F (S1k n) .f32) : FVec F (Sk n) .bf16 :=
  truncf .bf16 (exp2 (subf (shapeCast (Sk n) s (cast_S n) : FVec F (Sk n) .f32) (broadcastTo (Sk n) (newM m x) (bc_S n)))) bitsLt_bf16_f32

/-- The new running sums. -/
def newA (n : ℕ) (al : FVec F S1x256 .f32) (p : FVec F (Sk n) .bf16) (a : Vec F S1x144x256 .f32) (v : Vec F (SV n) .bf16) : FVec F S144x256 .f32 :=
  addf (mulf (broadcastTo S144x256 al broadcasts_S1x256_S144x256) (shapeCast S144x256 a shapeCasts_S1x144x256_S144x256 : FVec F S144x256 .f32))
    (matmul (dotV n) none (shapeCast (Sv n) v (cast_V n) : FVec F (Sv n) .bf16) p (constant S144x256 .f32 0x00000000#32))

/-- One head's result: the sums over the denominator, transposed, times the gate. -/
def outV (z : Vec F S1x1024x128 .bf16) (a : Vec F S1x144x1024 .f32) : FVec F S1024x128 .bf16 :=
  have zz : FVec F S1024x128 .f32 := extf .f32 (shapeCast S1024x128 z shapeCasts_S1x1024x128_S1024x128 : FVec F S1024x128 .bf16) bitsLt_bf16_f32
  have acc : FVec F S144x1024 .f32 := shapeCast S144x1024 a shapeCasts_S1x144x1024_S144x1024
  have rcp : FVec F S1x1024 .f32 := divf (broadcast S1x1024 (Scalar.ofBits .f32 0x3F800000#32 : F .f32)) (extractStridedSlice S1x1024 ![128, 0] acc slices_S144x1024_o128_0_S1x1024)
  have o : FVec F S1024x128 .f32 := transpose S1024x128 [1, 0]
    (mulf (extractStridedSlice S128x1024 ![0, 0] acc slices_S144x1024_o0_0_S128x1024 : FVec F S128x1024 .f32) (broadcastTo S128x1024 rcp broadcasts_S1x1024_S128x1024)) transposes_S128x1024_p1_0_S1024x128
  have g : FVec F S1024x128 .f32 := divf zz (addf (broadcast S1024x128 (Scalar.ofBits .f32 0x3F800000#32 : F .f32)) (exp (subf (broadcast S1024x128 (Scalar.ofBits .f32 0x00000000#32 : F .f32)) zz)))
  truncf .bf16 (mulf o g) bitsLt_bf16_f32

/-! ### The unit programs -/

section Programs

variable (arg5 : Memref sig .tc .vmem S1x8x1024x256 .bf16) (arg6 : Memref sig .tc .vmem S1x8x1024x256 .bf16) (arg7 : Memref sig .tc .vmem S1x8x144x1024 .bf16)
  (arg8 : Memref sig .tc .vmem S1x1024x1024 .bf16) (arg9 : Memref sig .tc .vmem S1x1024x1024 .bf16) (harg9 : arg9.IsWhole)
  (arg10 : Memref sig .tc .vmem S2x1024x1024 .f32) (arg11 : Memref sig .tc .vmem S2x1x1024 .f32) (arg12 : Memref sig .tc .vmem S8x1x1024 .f32)
  (arg13 : Memref sig .tc .vmem S8x144x1024 .f32)

/-- The scores of unit `(h, c)` into slot `h % 2`, and their maxima. -/
def scoreP (b : Bool) (h c : ℕ) (hh : h < 8) (hc : c < 4) : BodyProg F PUnit := do
  let k : Vec F (SK (keys b c)) .bf16 ← Prog.lift (.load arg6 (rK (keys b c) h (keys_le b hc) hh).toLoadRect (View.loadsAt_vmem (numel_pos_K _ (keys_pos b c))))
  let q : Vec F S1x1x256x256 .bf16 ← Prog.lift (.load arg5 (rQ h c hh hc).toLoadRect (View.loadsAt_vmem h_S1x1x256x256))
  let _ : Vec F (S1k (keys b c)) .f32 ← Prog.lift (.load arg10 (rS (keys b c) (h % 2) c (keys_le b hc) (Nat.mod_lt _ Nat.two_pos) hc).toLoadRect (View.loadsAt_vmem (numel_pos_S _ (keys_pos b c))))
  Prog.lift (.store arg10 (rS (keys b c) (h % 2) c (keys_le b hc) (Nat.mod_lt _ Nat.two_pos) hc)
    (shapeCast (S1k (keys b c)) (scoreV b c k q) (cast_S' _) : FVec F (S1k (keys b c)) .f32) Finset.univ (View.stores_vmem_bits_univ (numel_pos_S _ (keys_pos b c)) rfl) (.inl rfl))
  let _ : Vec F S1x1x256 .f32 ← Prog.lift (.load arg11 (rX (h % 2) c (Nat.mod_lt _ Nat.two_pos) hc).toLoadRect (View.loadsAt_vmem h_S1x1x256))
  Prog.lift (.store arg11 (rX (h % 2) c (Nat.mod_lt _ Nat.two_pos) hc)
    (shapeCast S1x1x256 (maxV _ (scoreV b c k q)) shapeCasts_S1x256_S1x1x256 : FVec F S1x1x256 .f32) Finset.univ (View.stores_vmem_bits_univ h_S1x1x256 rfl) (.inl rfl))

/-- The new maximum of unit `(h, c)` stored; its rescaling factor and its weights returned. -/
def softP (b : Bool) (h c : ℕ) (hh : h < 8) (hc : c < 4) : BodyProg F (FVec F S1x256 .f32 × FVec F (Sk (keys b c)) .bf16) := do
  let m : Vec F S1x1x256 .f32 ← Prog.lift (.load arg12 (rM h c hh hc).toLoadRect (View.loadsAt_vmem h_S1x1x256))
  let x : Vec F S1x1x256 .f32 ← Prog.lift (.load arg11 (rX (h % 2) c (Nat.mod_lt _ Nat.two_pos) hc).toLoadRect (View.loadsAt_vmem h_S1x1x256))
  let _ : Vec F S1x1x256 .f32 ← Prog.lift (.load arg12 (rM h c hh hc).toLoadRect (View.loadsAt_vmem h_S1x1x256))
  Prog.lift (.store arg12 (rM h c hh hc) (shapeCast S1x1x256 (newM m x) shapeCasts_S1x256_S1x1x256 : FVec F S1x1x256 .f32) Finset.univ (View.stores_vmem_bits_univ h_S1x1x256 rfl) (.inl rfl))
  let s : Vec F (S1k (keys b c)) .f32 ← Prog.lift (.load arg10 (rS (keys b c) (h % 2) c (keys_le b hc) (Nat.mod_lt _ Nat.two_pos) hc).toLoadRect (View.loadsAt_vmem (numel_pos_S _ (keys_pos b c))))
  pure (alphaV m x, weightV (keys b c) m x s)

/-- The running sums of unit `(h, c)` rescaled and the tile's added. -/
def pvP (b : Bool) (h c : ℕ) (hh : h < 8) (hc : c < 4) (al : FVec F S1x256 .f32) (p : FVec F (Sk (keys b c)) .bf16) : BodyProg F PUnit := do
  let a : Vec F S1x144x256 .f32 ← Prog.lift (.load arg13 (rA h c hh hc).toLoadRect (View.loadsAt_vmem h_S1x144x256))
  let v : Vec F (SV (keys b c)) .bf16 ← Prog.lift (.load arg7 (rV (keys b c) h (keys_le b hc) hh).toLoadRect (View.loadsAt_vmem (numel_pos_V _ (keys_pos b c))))
  let _ : Vec F S1x144x256 .f32 ← Prog.lift (.load arg13 (rA h c hh hc).toLoadRect (View.loadsAt_vmem h_S1x144x256))
  Prog.lift (.store arg13 (rA h c hh hc) (shapeCast S1x144x256 (newA (keys b c) al p a v) shapeCasts_S144x256_S1x144x256 : FVec F S1x144x256 .f32) Finset.univ (View.stores_vmem_bits_univ h_S1x144x256 rfl) (.inl rfl))

/-- Unit `(h, c)`: its softmax step, the next head's scores, its sums. -/
def unitP (b : Bool) (h c : ℕ) (hh : h < 8) (hc : c < 4) : BodyProg F PUnit := do
  let r ← softP arg10 arg11 arg12 b h c hh hc
  (if hn : h + 1 < 8 then scoreP arg5 arg6 arg10 arg11 b (h + 1) c hn hc else pure ⟨⟩)
  pvP arg7 arg13 b h c hh hc r.1 r.2

/-- One tile: the first head's scores, then the units, head by head. -/
def update (b : Bool) : BodyProg F PUnit := do
  forP 4 fun c hc => scoreP arg5 arg6 arg10 arg11 b 0 c (by decide) hc
  forP 8 fun h hh => forP 4 fun c hc => unitP arg5 arg6 arg7 arg10 arg11 arg12 arg13 b h c hh hc

/-- One head of the result's block. -/
def epiP (h : ℕ) (hh : h < 8) : BodyProg F PUnit := do
  let z : Vec F S1x1024x128 .bf16 ← Prog.lift (.load arg8 (rZ h hh).toLoadRect (View.loadsAt_vmem h_S1x1024x128))
  let a : Vec F S1x144x1024 .f32 ← Prog.lift (.load arg13 (rH h hh).toLoadRect (View.loadsAt_vmem h_S1x144x1024))
  let _ : Vec F S1x1024x128 .bf16 ← Prog.lift (.load arg9 (rZ h hh).toLoadRect (View.loadsAt_vmem h_S1x1024x128))
  Prog.lift (.store arg9 (rZ h hh) (shapeCast S1x1024x128 (outV z a) shapeCasts_S1024x128_S1x1024x128 : FVec F S1x1024x128 .bf16) Finset.univ
    (View.stores_vmem h_S1x1024x128 (harg9.storeExact_slice rfl _ (packedZ h hh)) (fun _ => rfl)) (.inl rfl))

/-- The first tile of a row of blocks: the maxima to `-inf`, the sums to zero. -/
def initP : BodyProg F PUnit := do
  let _ : Vec F S8x1x1024 .f32 ← Prog.lift (.load arg12 (Rect.unit (s := S8x1x1024) ![0, 0, 0] S8x1x1024.size inb_S8x1x1024_S8x1x1024_0_0_0).toLoadRect (View.loadsAt_vmem h_S8x1x1024))
  Prog.lift (.store arg12 (Rect.unit (s := S8x1x1024) ![0, 0, 0] S8x1x1024.size inb_S8x1x1024_S8x1x1024_0_0_0)
    (shapeCast S8x1x1024 (broadcast S8x1x1024 (Scalar.ofBits .f32 0xFF800000#32 : F .f32) : FVec F S8x1x1024 .f32) shapeCasts_S8x1x1024_S8x1x1024 : FVec F S8x1x1024 .f32) Finset.univ (View.stores_vmem_bits_univ h_S8x1x1024 rfl) (.inl rfl))
  let _ : Vec F S8x144x1024 .f32 ← Prog.lift (.load arg13 (Rect.unit (s := S8x144x1024) ![0, 0, 0] S8x144x1024.size inb_S8x144x1024_S8x144x1024_0_0_0).toLoadRect (View.loadsAt_vmem h_S8x144x1024))
  Prog.lift (.store arg13 (Rect.unit (s := S8x144x1024) ![0, 0, 0] S8x144x1024.size inb_S8x144x1024_S8x144x1024_0_0_0)
    (shapeCast S8x144x1024 (broadcast S8x144x1024 (Scalar.ofBits .f32 0x00000000#32 : F .f32) : FVec F S8x144x1024 .f32) shapeCasts_S8x144x1024_S8x144x1024 : FVec F S8x144x1024 .f32) Finset.univ (View.stores_vmem_bits_univ h_S8x144x1024 rfl) (.inl rfl))

/-- The body at the two words of its tables: the first tile's reset, a tile below the diagonal, the diagonal tile
    and the result. -/
def tileP (qi ki : BitVec 32) : BodyProg F PUnit := do
  if Scalar.cmpi .ne (Scalar.extui (Scalar.cmpi .eq ki 0#32) : BitVec 32) 0#32 = 1#1 then do
    initP arg12 arg13
  else do
    pure ⟨⟩
  if Scalar.cmpi .ne (Scalar.extui (Scalar.cmpi .slt ki qi) : BitVec 32) 0#32 = 1#1 then do
    update arg5 arg6 arg7 arg10 arg11 arg12 arg13 false
  else do
    pure ⟨⟩
  if k0_cond3 qi ki = 1#1 then do
    update arg5 arg6 arg7 arg10 arg11 arg12 arg13 true
    forP 8 fun h hh => epiP arg8 arg9 harg9 arg13 h hh
  else do
    pure ⟨⟩
  pure ⟨⟩

end Programs

section Branches

variable (i : grid0.Coords) (arg3 : Memref sig .tc .smem S136 .i32) (harg3 : arg3.IsWhole) (arg4 : Memref sig .tc .smem S136 .i32) (harg4 : arg4.IsWhole) (arg5 : Memref sig .tc .vmem S1x8x1024x256 .bf16) (harg5 : arg5.IsWhole) (arg6 : Memref sig .tc .vmem S1x8x1024x256 .bf16) (harg6 : arg6.IsWhole) (arg7 : Memref sig .tc .vmem S1x8x144x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S2x1024x1024 .f32) (harg10 : arg10.IsWhole) (arg11 : Memref sig .tc .vmem S2x1x1024 .f32) (harg11 : arg11.IsWhole) (arg12 : Memref sig .tc .vmem S8x1x1024 .f32) (harg12 : arg12.IsWhole) (arg13 : Memref sig .tc .vmem S8x144x1024 .f32) (harg13 : arg13.IsWhole)

set_option maxRecDepth 65536 in
/-- The printed body reads the point's two table words and runs `tileP` at them. -/
theorem body_eq : cc0_mla_flash_attention (F := F) i arg3 harg3 arg4 harg4 arg5 harg5 arg6 harg6 arg7 harg7 arg8 harg8 arg9 harg9 arg10 harg10 arg11 harg11 arg12 harg12 arg13 harg13
    = (do
      let qi : Elt F .i32 ← smemLoad arg3 (Rect.unit (s := S136) (k0_off1 i) S1.size (k0_off1_inb i)) numel1_S1 rfl
      let ki : Elt F .i32 ← smemLoad arg4 (Rect.unit (s := S136) (k0_off1 i) S1.size (k0_off1_inb i)) numel1_S1 rfl
      tileP arg5 arg6 arg7 arg8 arg9 harg9 arg10 arg11 arg12 arg13 qi ki) := by
  chain_rfl

end Branches

end Cert.KernelIdeal.Attn
-- ==== Proof.Effects.lean ====
/-
What the flash kernel's unit programs do to the buffers they hold. `Bufs` are the contents of the four scratch
buffers; each unit program is a function on them (`scoreE`, `softE`, `pvE`, `unitE`, `updateE`), and the rules
below say that a unit run from `held … σ` ends in `held …` at the function's value. The blocks of queries, keys,
values and gate are read only.
-/
module

public import proofs.«01_k».proof.Proof.Units
public import Idealize.ShloMosaic.Lib.Tactic
public import Idealize.ShloMosaic.Lib.Pipeline.Kit

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

/-- The resource algebra: the rounds of the pipeline library. -/
abbrev UU (nD : Nat) (τ : Topo) : Type := UR sig nD τ

local notation "𝕄" => MT nD τ sig Unit (Elt F) ℕ (UU nD τ) ℕ

/-! ### Loads and stores of an owned memref -/

section Rules

variable (c : Dev nD) {cs : CoreSpace} {s : Shape} {e : EltTy} {m : Memref sig .tc cs s e} {r : Rect s}

/-- A load through a rectangle of an owned memref reads its contents there. -/
theorem load_rule {α : Type} {hl : m.view.LoadsAt r.toLoadRect} {q : PosShare TreeShare} {X : s.Idx → Elt F e} {k : (r.shape.Idx → Elt F e) → BodyProg F α} {Q : α → sProp 𝕄} :
    (owns (c : Thread nD τ) m q X : sProp 𝕄)
      ⊢ iprop((owns (c : Thread nD τ) m q X -∗ wp frame (wpE (defs₀ (F := F)) Variants.none c none) Set.univ (k fun i => X (r.emb i)) Q)
        -∗ wp frame (wpE (defs₀ (F := F)) Variants.none c none) Set.univ (Prog.lift (.load m r.toLoadRect hl) >>= k) Q) := by
  unfold owns
  iintro ⟨%f, %hf, H⟩ Hk
  subst hf
  iapply (wp_load_rect (S := m.view.set) Variants.none (c : Thread nD τ) none Set.univ (k := k) (m := m) (r := r) (m.view.set_slice_subset r)) $$ H
  iintro H
  iapply Hk
  iexists f
  isplitr; · ipureintro; rfl
  iexact H

/-- A store through a rectangle of an owned memref replaces its contents there. -/
theorem store_rule {α : Type} {w : r.shape.Idx → Elt F e} {hx : (m.access r).Stores Finset.univ} {hm : Finset.univ = Finset.univ ∨ ∀ a, r.stride a = 1}
    {X : s.Idx → Elt F e} {k : PUnit → BodyProg F α} {Q : α → sProp 𝕄} :
    (owns (c : Thread nD τ) m fullShare X : sProp 𝕄)
      ⊢ iprop((owns (c : Thread nD τ) m fullShare (r.overlay X w) -∗ wp frame (wpE (defs₀ (F := F)) Variants.none c none) Set.univ (k ⟨⟩) Q)
        -∗ wp frame (wpE (defs₀ (F := F)) Variants.none c none) Set.univ (Prog.lift (.store m r w Finset.univ hx hm) >>= k) Q) := by
  unfold owns
  iintro ⟨%f, %hf, H⟩ Hk
  iapply (wp_store (S := m.view.set) Variants.none (c : Thread nD τ) none Set.univ (k := k) (m := m) (r := r) (w := w) (hx := hx) (hm := hm)
    (by rw [View.setOn_univ]; exact m.view.set_slice_subset r)) $$ H
  iintro H
  iapply Hk
  iexists _
  isplitr; swap; (· iexact H)
  ipureintro
  funext j
  by_cases hj : j ∈ r.set
  · obtain ⟨i, rfl⟩ := r.exists_idx_of_mem hj
    exact (View.read_slice_write_emb r f w (Finset.mem_univ i)).trans (Rect.overlay_emb r X w i).symm
  · rw [Rect.overlay_of_not_mem _ _ _ hj, ← hf]
    exact View.read_slice_write_of_not_mem r f w _ (by rw [Rect.map_emb_univ]; exact hj)

/-- A store that ends a program. -/
theorem store_end {w : r.shape.Idx → Elt F e} {hx : (m.access r).Stores Finset.univ} {hm : Finset.univ = Finset.univ ∨ ∀ a, r.stride a = 1}
    {X : s.Idx → Elt F e} {Q : PUnit → sProp 𝕄} :
    (owns (c : Thread nD τ) m fullShare X : sProp 𝕄)
      ⊢ iprop((owns (c : Thread nD τ) m fullShare (r.overlay X w) -∗ Q ⟨⟩)
        -∗ wp frame (wpE (defs₀ (F := F)) Variants.none c none) Set.univ (Prog.lift (.store m r w Finset.univ hx hm)) Q) := by
  iintro H Hk
  iapply (store_rule c (k := .ret) (w := w) (hx := hx) (hm := hm)) $$ H
  iintro H
  iapply (le_wp_ret _ _ _ _ _)
  iapply Hk; iexact H

end Rules

/-! ### The scratch buffers and the units' effects -/

/-- The contents of the four scratch buffers. -/
structure Bufs (F : FTy → Type) where
  s : S2x1024x1024.Idx → Elt F .f32
  x : S2x1x1024.Idx → Elt F .f32
  m : S8x1x1024.Idx → Elt F .f32
  a : S8x144x1024.Idx → Elt F .f32

/-- A step of `forP` on the buffers. -/
def forE {α : Type} : (n : ℕ) → ((i : ℕ) → i < n → α → α) → α → α
  | 0, _, σ => σ
  | n + 1, f, σ => f n (Nat.lt_succ_self n) (forE n (fun i h => f i (Nat.lt_succ_of_lt h)) σ)

section Effects

variable (Q K : S1x8x1024x256.Idx → Elt F .bf16) (V : S1x8x144x1024.Idx → Elt F .bf16)

/-- The scores of unit `(h, c)`. -/
def scoreB (b : Bool) (h c : ℕ) (hh : h < 8) (hc : c < 4) : FVec F (Sk (keys b c)) .f32 :=
  scoreV b c (fun i => K ((rK (keys b c) h (keys_le b hc) hh).emb i)) (fun i => Q ((rQ h c hh hc).emb i))

def scoreE (b : Bool) (h c : ℕ) (hh : h < 8) (hc : c < 4) (σ : Bufs F) : Bufs F :=
  { σ with
    s := (rS (keys b c) (h % 2) c (keys_le b hc) (Nat.mod_lt _ Nat.two_pos) hc).overlay σ.s (shapeCast (S1k (keys b c)) (scoreB Q K b h c hh hc) (cast_S' _))
    x := (rX (h % 2) c (Nat.mod_lt _ Nat.two_pos) hc).overlay σ.x (shapeCast S1x1x256 (maxV _ (scoreB Q K b h c hh hc)) shapeCasts_S1x256_S1x1x256) }

def mB (h c : ℕ) (hh : h < 8) (hc : c < 4) (σ : Bufs F) : Vec F S1x1x256 .f32 := fun i => σ.m ((rM h c hh hc).emb i)
def xB (h c : ℕ) (hc : c < 4) (σ : Bufs F) : Vec F S1x1x256 .f32 := fun i => σ.x ((rX (h % 2) c (Nat.mod_lt _ Nat.two_pos) hc).emb i)
def sB (b : Bool) (h c : ℕ) (hc : c < 4) (σ : Bufs F) : Vec F (S1k (keys b c)) .f32 :=
  fun i => σ.s ((rS (keys b c) (h % 2) c (keys_le b hc) (Nat.mod_lt _ Nat.two_pos) hc).emb i)
def aB (h c : ℕ) (hh : h < 8) (hc : c < 4) (σ : Bufs F) : Vec F S1x144x256 .f32 := fun i => σ.a ((rA h c hh hc).emb i)
def vB (b : Bool) (h c : ℕ) (hh : h < 8) (hc : c < 4) : Vec F (SV (keys b c)) .bf16 := fun i => V ((rV (keys b c) h (keys_le b hc) hh).emb i)

def softE (h c : ℕ) (hh : h < 8) (hc : c < 4) (σ : Bufs F) : Bufs F :=
  { σ with m := (rM h c hh hc).overlay σ.m (shapeCast S1x1x256 (newM (mB h c hh hc σ) (xB h c hc σ)) shapeCasts_S1x256_S1x1x256) }

def pvE (b : Bool) (h c : ℕ) (hh : h < 8) (hc : c < 4) (al : FVec F S1x256 .f32) (p : FVec F (Sk (keys b c)) .bf16) (σ : Bufs F) : Bufs F :=
  { σ with a := (rA h c hh hc).overlay σ.a (shapeCast S1x144x256 (newA (keys b c) al p (aB h c hh hc σ) (vB V b h c hh hc)) shapeCasts_S144x256_S1x144x256) }

/-- The next head's scores, where there is one. -/
def nextE (b : Bool) (h c : ℕ) (hc : c < 4) (σ : Bufs F) : Bufs F :=
  if hn : h + 1 < 8 then scoreE Q K b (h + 1) c hn hc σ else σ

def unitE (b : Bool) (h c : ℕ) (hh : h < 8) (hc : c < 4) (σ : Bufs F) : Bufs F :=
  pvE V b h c hh hc (alphaV (mB h c hh hc σ) (xB h c hc σ)) (weightV (keys b c) (mB h c hh hc σ) (xB h c hc σ) (sB b h c hc σ))
    (nextE Q K b h c hc (softE h c hh hc σ))

def updateE (b : Bool) (σ : Bufs F) : Bufs F :=
  forE 8 (fun h hh => forE 4 fun c hc => unitE Q K V b h c hh hc) (forE 4 (fun c hc => scoreE Q K b 0 c (by decide) hc) σ)

end Effects

/-! ### The units' rules -/

section Units

variable (c₀ : Dev nD) (arg5 : Memref sig .tc .vmem S1x8x1024x256 .bf16) (arg6 : Memref sig .tc .vmem S1x8x1024x256 .bf16) (arg7 : Memref sig .tc .vmem S1x8x144x1024 .bf16)
  (arg8 : Memref sig .tc .vmem S1x1024x1024 .bf16) (arg9 : Memref sig .tc .vmem S1x1024x1024 .bf16) (harg9 : arg9.IsWhole)
  (arg10 : Memref sig .tc .vmem S2x1024x1024 .f32) (arg11 : Memref sig .tc .vmem S2x1x1024 .f32) (arg12 : Memref sig .tc .vmem S8x1x1024 .f32)
  (arg13 : Memref sig .tc .vmem S8x144x1024 .f32)
  (Q K : S1x8x1024x256.Idx → Elt F .bf16) (V : S1x8x144x1024.Idx → Elt F .bf16)

local notation "𝕎" => wp frame (wpE (defs₀ (F := F)) Variants.none c₀ none) Set.univ

/-- The blocks read and the scratch buffers, held on core `c₀`. -/
def held (σ : Bufs F) : sProp 𝕄 :=
  iprop(owns (c₀ : Thread nD τ) arg5 fullShare Q ∗ owns (c₀ : Thread nD τ) arg6 fullShare K ∗ owns (c₀ : Thread nD τ) arg7 fullShare V
    ∗ owns (c₀ : Thread nD τ) arg10 fullShare σ.s ∗ owns (c₀ : Thread nD τ) arg11 fullShare σ.x ∗ owns (c₀ : Thread nD τ) arg12 fullShare σ.m
    ∗ owns (c₀ : Thread nD τ) arg13 fullShare σ.a)

local notation "H" => held (F := F) c₀ arg5 arg6 arg7 arg10 arg11 arg12 arg13 Q K V

theorem for_rule {α : Type} (n : ℕ) (f : (i : ℕ) → i < n → BodyProg F PUnit) (g : (i : ℕ) → i < n → α → α)
    (R : α → sProp 𝕄) (h : ∀ i hi σ, R σ ⊢ 𝕎 (f i hi) fun _ => R (g i hi σ)) (σ : α) :
    R σ ⊢ 𝕎 (forP n f) fun _ => R (forE n g σ) := by
  induction n generalizing σ with
  | zero => exact fupd_intro
  | succ n ih =>
    unfold forP forE
    rw [wp_bind]
    exact (ih _ _ (fun i hi => h i _) σ).trans (wp_mono _ _ _ fun _ => h n _ _)

theorem score_rule (b : Bool) (h c : ℕ) (hh : h < 8) (hc : c < 4) (σ : Bufs F) :
    H σ ⊢ 𝕎 (scoreP arg5 arg6 arg10 arg11 b h c hh hc) fun _ => H (scoreE Q K b h c hh hc σ) := by
  unfold scoreP held scoreE scoreB
  dsimp only
  iintro ⟨H5, H6, H7, H10, H11, H12, H13⟩
  iapply (load_rule c₀) $$ H6; iintro H6
  iapply (load_rule c₀) $$ H5; iintro H5
  iapply (load_rule c₀) $$ H10; iintro H10
  iapply (store_rule c₀) $$ H10; iintro H10
  iapply (load_rule c₀) $$ H11; iintro H11
  iapply (store_end c₀) $$ H11; iintro H11
  isplitl [H5]; · iexact H5
  isplitl [H6]; · iexact H6
  isplitl [H7]; · iexact H7
  isplitl [H10]; · iexact H10
  isplitl [H11]; · iexact H11
  isplitl [H12]; · iexact H12
  iexact H13

theorem soft_rule (b : Bool) (h c : ℕ) (hh : h < 8) (hc : c < 4) (σ : Bufs F) :
    H σ ⊢ 𝕎 (softP arg10 arg11 arg12 b h c hh hc) fun r =>
      iprop(⌜r = (alphaV (mB h c hh hc σ) (xB h c hc σ), weightV (keys b c) (mB h c hh hc σ) (xB h c hc σ) (sB b h c hc σ))⌝ ∗ H (softE h c hh hc σ)) := by
  unfold softP held softE mB xB sB
  dsimp only
  iintro ⟨H5, H6, H7, H10, H11, H12, H13⟩
  iapply (load_rule c₀) $$ H12; iintro H12
  iapply (load_rule c₀) $$ H11; iintro H11
  iapply (load_rule c₀) $$ H12; iintro H12
  iapply (store_rule c₀) $$ H12; iintro H12
  iapply (load_rule c₀) $$ H10; iintro H10
  iapply (le_wp_ret _ _ _ _ _)
  isplitr; · ipureintro; rfl
  isplitl [H5]; · iexact H5
  isplitl [H6]; · iexact H6
  isplitl [H7]; · iexact H7
  isplitl [H10]; · iexact H10
  isplitl [H11]; · iexact H11
  isplitl [H12]; · iexact H12
  iexact H13

theorem pv_rule (b : Bool) (h c : ℕ) (hh : h < 8) (hc : c < 4) (al : FVec F S1x256 .f32) (p : FVec F (Sk (keys b c)) .bf16) (σ : Bufs F) :
    H σ ⊢ 𝕎 (pvP arg7 arg13 b h c hh hc al p) fun _ => H (pvE V b h c hh hc al p σ) := by
  unfold pvP held pvE aB vB
  dsimp only
  iintro ⟨H5, H6, H7, H10, H11, H12, H13⟩
  iapply (load_rule c₀) $$ H13; iintro H13
  iapply (load_rule c₀) $$ H7; iintro H7
  iapply (load_rule c₀) $$ H13; iintro H13
  iapply (store_end c₀) $$ H13; iintro H13
  isplitl [H5]; · iexact H5
  isplitl [H6]; · iexact H6
  isplitl [H7]; · iexact H7
  isplitl [H10]; · iexact H10
  isplitl [H11]; · iexact H11
  isplitl [H12]; · iexact H12
  iexact H13

theorem unit_rule (b : Bool) (h c : ℕ) (hh : h < 8) (hc : c < 4) (σ : Bufs F) :
    H σ ⊢ 𝕎 (unitP arg5 arg6 arg7 arg10 arg11 arg12 arg13 b h c hh hc) fun _ => H (unitE Q K V b h c hh hc σ) := by
  unfold unitP
  rw [wp_bind]
  refine (soft_rule c₀ arg5 arg6 arg7 arg10 arg11 arg12 arg13 Q K V b h c hh hc σ).trans (wp_mono _ _ _ fun r => ?_)
  iintro ⟨%hr, HH⟩
  subst hr
  rw [wp_bind]
  by_cases hn : h + 1 < 8
  · rw [dif_pos hn]
    have h1 := score_rule c₀ arg5 arg6 arg7 arg10 arg11 arg12 arg13 Q K V b (h + 1) c hn hc (softE h c hh hc σ)
    have h2 := h1.trans (wp_mono _ _ _ fun _ => pv_rule c₀ arg5 arg6 arg7 arg10 arg11 arg12 arg13 Q K V b h c hh hc (alphaV (mB h c hh hc σ) (xB h c hc σ)) (weightV (keys b c) (mB h c hh hc σ) (xB h c hc σ) (sB b h c hc σ)) _)
    unfold unitE nextE; rw [dif_pos hn]
    iapply h2; iexact HH
  · rw [dif_neg hn]
    unfold unitE nextE; rw [dif_neg hn]
    iapply (le_wp_ret _ _ _ _ _)
    iapply (pv_rule c₀ arg5 arg6 arg7 arg10 arg11 arg12 arg13 Q K V b h c hh hc _ _ _); iexact HH

theorem scores_rule (b : Bool) (σ : Bufs F) :
    H σ ⊢ 𝕎 (forP 4 fun c hc => scoreP arg5 arg6 arg10 arg11 b 0 c (Nat.succ_pos 7) hc) fun _ => H (forE 4 (fun c hc => scoreE Q K b 0 c (Nat.succ_pos 7) hc) σ) :=
  for_rule c₀ 4 _ _ H (fun c hc σ => score_rule c₀ arg5 arg6 arg7 arg10 arg11 arg12 arg13 Q K V b 0 c (Nat.succ_pos 7) hc σ) σ

theorem head_rule (b : Bool) (h : ℕ) (hh : h < 8) (σ : Bufs F) :
    H σ ⊢ 𝕎 (forP 4 fun c hc => unitP arg5 arg6 arg7 arg10 arg11 arg12 arg13 b h c hh hc) fun _ => H (forE 4 (fun c hc => unitE Q K V b h c hh hc) σ) :=
  for_rule c₀ 4 _ _ H (fun c hc σ => unit_rule c₀ arg5 arg6 arg7 arg10 arg11 arg12 arg13 Q K V b h c hh hc σ) σ

theorem heads_rule (b : Bool) (σ : Bufs F) :
    H σ ⊢ 𝕎 (forP 8 fun h hh => forP 4 fun c hc => unitP arg5 arg6 arg7 arg10 arg11 arg12 arg13 b h c hh hc) fun _ =>
      H (forE 8 (fun h hh => forE 4 fun c hc => unitE Q K V b h c hh hc) σ) :=
  for_rule c₀ 8 _ _ H (fun h hh σ => head_rule c₀ arg5 arg6 arg7 arg10 arg11 arg12 arg13 Q K V b h hh σ) σ

theorem update_rule (b : Bool) (σ : Bufs F) :
    H σ ⊢ 𝕎 (update arg5 arg6 arg7 arg10 arg11 arg12 arg13 b) fun _ => H (updateE Q K V b σ) := by
  have h := heads_rule c₀ arg5 arg6 arg7 arg10 arg11 arg12 arg13 Q K V b (forE 4 (fun c hc => scoreE Q K b 0 c (Nat.succ_pos 7) hc) σ)
  have h1 := scores_rule c₀ arg5 arg6 arg7 arg10 arg11 arg12 arg13 Q K V b σ
  unfold update updateE
  rw [wp_bind]
  generalize (forE 8 (fun h hh => forE 4 fun c hc => unitE Q K V b h c hh hc) (forE 4 (fun c hc => scoreE Q K b 0 c (Nat.succ_pos 7) hc) σ)) = τ at h ⊢
  exact h1.trans (wp_mono _ _ _ fun _ => h)

/-! ### The reset, the result and the whole body -/

/-- The reset: the maxima to `-inf`, the sums to zero. -/
def initE (σ : Bufs F) : Bufs F :=
  { σ with
    m := (Rect.unit (s := S8x1x1024) ![0, 0, 0] S8x1x1024.size inb_S8x1x1024_S8x1x1024_0_0_0).overlay σ.m
      (shapeCast S8x1x1024 (broadcast S8x1x1024 (Scalar.ofBits .f32 0xFF800000#32 : F .f32) : FVec F S8x1x1024 .f32) shapeCasts_S8x1x1024_S8x1x1024 : FVec F S8x1x1024 .f32)
    a := (Rect.unit (s := S8x144x1024) ![0, 0, 0] S8x144x1024.size inb_S8x144x1024_S8x144x1024_0_0_0).overlay σ.a
      (shapeCast S8x144x1024 (broadcast S8x144x1024 (Scalar.ofBits .f32 0x00000000#32 : F .f32) : FVec F S8x144x1024 .f32) shapeCasts_S8x144x1024_S8x144x1024 : FVec F S8x144x1024 .f32) }

theorem init_rule (σ : Bufs F) : H σ ⊢ 𝕎 (initP arg12 arg13) fun _ => H (initE σ) := by
  unfold initP held initE
  dsimp only
  iintro ⟨H5, H6, H7, H10, H11, H12, H13⟩
  iapply (load_rule c₀) $$ H12; iintro H12
  iapply (store_rule c₀) $$ H12; iintro H12
  iapply (load_rule c₀) $$ H13; iintro H13
  iapply (store_end c₀) $$ H13; iintro H13
  isplitl [H5]; · iexact H5
  isplitl [H6]; · iexact H6
  isplitl [H7]; · iexact H7
  isplitl [H10]; · iexact H10
  isplitl [H11]; · iexact H11
  isplitl [H12]; · iexact H12
  iexact H13

variable (Z : S1x1024x1024.Idx → Elt F .bf16)

/-- Head `h`'s lanes of the result's block written from its sums. -/
def epiE (A : S8x144x1024.Idx → Elt F .f32) (h : ℕ) (hh : h < 8) (O : S1x1024x1024.Idx → Elt F .bf16) : S1x1024x1024.Idx → Elt F .bf16 :=
  (rZ h hh).overlay O (shapeCast S1x1024x128 (outV (fun i => Z ((rZ h hh).emb i)) (fun i => A ((rH h hh).emb i))) shapeCasts_S1024x128_S1x1024x128)

theorem epi_rule (σ : Bufs F) (h : ℕ) (hh : h < 8) (O : S1x1024x1024.Idx → Elt F .bf16) :
    iprop(H σ ∗ owns (c₀ : Thread nD τ) arg8 fullShare Z ∗ owns (c₀ : Thread nD τ) arg9 fullShare O)
      ⊢ 𝕎 (epiP arg8 arg9 harg9 arg13 h hh) fun _ => iprop(H σ ∗ owns (c₀ : Thread nD τ) arg8 fullShare Z ∗ owns (c₀ : Thread nD τ) arg9 fullShare (epiE Z σ.a h hh O)) := by
  unfold epiP held epiE
  dsimp only
  iintro ⟨⟨H5, H6, H7, H10, H11, H12, H13⟩, H8, H9⟩
  iapply (load_rule c₀) $$ H8; iintro H8
  iapply (load_rule c₀) $$ H13; iintro H13
  iapply (load_rule c₀) $$ H9; iintro H9
  iapply (store_end c₀) $$ H9; iintro H9
  isplitr [H8 H9]
  · isplitl [H5]; · iexact H5
    isplitl [H6]; · iexact H6
    isplitl [H7]; · iexact H7
    isplitl [H10]; · iexact H10
    isplitl [H11]; · iexact H11
    isplitl [H12]; · iexact H12
    iexact H13
  isplitl [H8]; · iexact H8
  iexact H9

theorem epis_rule (σ : Bufs F) (O : S1x1024x1024.Idx → Elt F .bf16) :
    iprop(H σ ∗ owns (c₀ : Thread nD τ) arg8 fullShare Z ∗ owns (c₀ : Thread nD τ) arg9 fullShare O)
      ⊢ 𝕎 (forP 8 fun h hh => epiP arg8 arg9 harg9 arg13 h hh) fun _ =>
        iprop(H σ ∗ owns (c₀ : Thread nD τ) arg8 fullShare Z ∗ owns (c₀ : Thread nD τ) arg9 fullShare (forE 8 (fun h hh => epiE Z σ.a h hh) O)) :=
  for_rule c₀ 8 _ _ (fun O => iprop(H σ ∗ owns (c₀ : Thread nD τ) arg8 fullShare Z ∗ owns (c₀ : Thread nD τ) arg9 fullShare O))
    (fun h hh O => epi_rule c₀ arg5 arg6 arg7 arg8 arg9 harg9 arg10 arg11 arg12 arg13 Q K V Z σ h hh O) O

/-- The body's three conditions at its two words. -/
abbrev isFirst (ki : BitVec 32) : Prop := Scalar.cmpi .ne (Scalar.extui (Scalar.cmpi .eq ki 0#32) : BitVec 32) 0#32 = 1#1
abbrev isBelow (qi ki : BitVec 32) : Prop := Scalar.cmpi .ne (Scalar.extui (Scalar.cmpi .slt ki qi) : BitVec 32) 0#32 = 1#1
abbrev isDiag (qi ki : BitVec 32) : Prop := k0_cond3 qi ki = 1#1

theorem tileP_eq (qi ki : BitVec 32) : tileP (F := F) arg5 arg6 arg7 arg8 arg9 harg9 arg10 arg11 arg12 arg13 qi ki
    = ((if isFirst ki then initP arg12 arg13 else pure ⟨⟩) >>= fun _ =>
      (if isBelow qi ki then update arg5 arg6 arg7 arg10 arg11 arg12 arg13 false else pure ⟨⟩) >>= fun _ =>
      (if isDiag qi ki then update arg5 arg6 arg7 arg10 arg11 arg12 arg13 true >>= fun _ => forP 8 fun h hh => epiP arg8 arg9 harg9 arg13 h hh else pure ⟨⟩)) := by
  have hr : ∀ p : BodyProg F PUnit, (p >>= fun _ => Prog.ret PUnit.unit) = p := fun p => Prog.bind_pure p
  unfold tileP isFirst isBelow isDiag
  split_ifs <;> simp [Prog.bind_assoc, hr]

/-- A step taken where a condition holds. -/
def onlyIf {α : Type} (p : Prop) [Decidable p] (f : α → α) (σ : α) : α := if p then f σ else σ

theorem onlyIf_pos {α : Type} {p : Prop} [Decidable p] (h : p) (f : α → α) (σ : α) : onlyIf p f σ = f σ := if_pos h
theorem onlyIf_neg {α : Type} {p : Prop} [Decidable p] (h : ¬p) (f : α → α) (σ : α) : onlyIf p f σ = σ := if_neg h

/-- The scratch buffers after a tile, and the result's block. -/
def tileE (qi ki : BitVec 32) (σ : Bufs F) : Bufs F :=
  onlyIf (isDiag qi ki) (updateE Q K V true) (onlyIf (isBelow qi ki) (updateE Q K V false) (onlyIf (isFirst ki) initE σ))

def tileO (qi ki : BitVec 32) (σ : Bufs F) (O : S1x1024x1024.Idx → Elt F .bf16) : S1x1024x1024.Idx → Elt F .bf16 :=
  onlyIf (isDiag qi ki) (forE 8 (fun h hh => epiE Z (tileE Q K V qi ki σ).a h hh)) O

theorem onlyIf_rule (p : Prop) [Decidable p] (P : BodyProg F PUnit) (f : Bufs F → Bufs F) (σ : Bufs F) (h : H σ ⊢ 𝕎 P fun _ => H (f σ)) :
    H σ ⊢ 𝕎 (if p then P else pure ⟨⟩) fun _ => H (onlyIf p f σ) := by
  unfold onlyIf
  by_cases hp : p
  · simp only [if_pos hp]; exact h
  · simp only [if_neg hp]; exact fupd_intro

theorem diag_rule (p : Prop) [Decidable p] (σ : Bufs F) (O : S1x1024x1024.Idx → Elt F .bf16) :
    iprop(H σ ∗ owns (c₀ : Thread nD τ) arg8 fullShare Z ∗ owns (c₀ : Thread nD τ) arg9 fullShare O)
      ⊢ 𝕎 (if p then update arg5 arg6 arg7 arg10 arg11 arg12 arg13 true >>= fun _ => forP 8 fun h hh => epiP arg8 arg9 harg9 arg13 h hh else pure ⟨⟩) fun _ =>
        iprop(H (onlyIf p (updateE Q K V true) σ) ∗ owns (c₀ : Thread nD τ) arg8 fullShare Z
          ∗ owns (c₀ : Thread nD τ) arg9 fullShare (onlyIf p (forE 8 (fun h hh => epiE Z (onlyIf p (updateE Q K V true) σ).a h hh)) O)) := by
  by_cases hp : p
  · have h3 := update_rule c₀ arg5 arg6 arg7 arg10 arg11 arg12 arg13 Q K V true σ
    have h4 := epis_rule c₀ arg5 arg6 arg7 arg8 arg9 harg9 arg10 arg11 arg12 arg13 Q K V Z (updateE Q K V true σ) O
    rw [if_pos hp, onlyIf_pos hp, onlyIf_pos hp]
    generalize updateE Q K V true σ = σ' at h3 h4 ⊢
    generalize (forE 8 (fun h hh => epiE Z σ'.a h hh) O) = O' at h4 ⊢
    rw [wp_bind]
    generalize (forP 8 fun h hh => epiP (F := F) arg8 arg9 harg9 arg13 h hh) = P at h4 ⊢
    exact (sep_mono h3 .rfl).trans ((wp_frame_r _ _ _).trans (wp_mono _ _ _ fun _ => h4))
  · rw [if_neg hp, onlyIf_neg hp, onlyIf_neg hp]; exact fupd_intro

theorem tile_rule (qi ki : BitVec 32) (σ : Bufs F) (O : S1x1024x1024.Idx → Elt F .bf16) :
    iprop(H σ ∗ owns (c₀ : Thread nD τ) arg8 fullShare Z ∗ owns (c₀ : Thread nD τ) arg9 fullShare O)
      ⊢ 𝕎 (tileP arg5 arg6 arg7 arg8 arg9 harg9 arg10 arg11 arg12 arg13 qi ki) fun _ =>
        iprop(H (tileE Q K V qi ki σ) ∗ owns (c₀ : Thread nD τ) arg8 fullShare Z ∗ owns (c₀ : Thread nD τ) arg9 fullShare (tileO Q K V Z qi ki σ O)) := by
  rw [tileP_eq]
  unfold tileO tileE
  have h1 := onlyIf_rule c₀ arg5 arg6 arg7 arg10 arg11 arg12 arg13 Q K V (isFirst ki) (initP arg12 arg13) initE σ (init_rule c₀ arg5 arg6 arg7 arg10 arg11 arg12 arg13 Q K V σ)
  generalize onlyIf (isFirst ki) initE σ = σ₁ at h1 ⊢
  have h2 := onlyIf_rule c₀ arg5 arg6 arg7 arg10 arg11 arg12 arg13 Q K V (isBelow qi ki) (update arg5 arg6 arg7 arg10 arg11 arg12 arg13 false) (updateE Q K V false) σ₁
    (update_rule c₀ arg5 arg6 arg7 arg10 arg11 arg12 arg13 Q K V false σ₁)
  generalize onlyIf (isBelow qi ki) (updateE Q K V false) σ₁ = σ₂ at h2 ⊢
  have h3 := diag_rule c₀ arg5 arg6 arg7 arg8 arg9 harg9 arg10 arg11 arg12 arg13 Q K V Z (isDiag qi ki) σ₂ O
  generalize onlyIf (isDiag qi ki) (updateE Q K V true) σ₂ = σ₃ at h3 ⊢
  generalize onlyIf (isDiag qi ki) (forE 8 (fun h hh => epiE Z σ₃.a h hh)) O = O' at h3 ⊢
  rw [wp_bind]
  refine (sep_mono h1 .rfl).trans ((wp_frame_r _ _ _).trans (wp_mono _ _ _ fun _ => ?_))
  rw [wp_bind]
  exact (sep_mono h2 .rfl).trans ((wp_frame_r _ _ _).trans (wp_mono _ _ _ fun _ => h3))

end Units

end Cert.KernelIdeal.Attn
-- ==== Proof.Tables.lean ====
/-
The kernel's two tables: the query tile and the key tile of each of the 136 steps of a (batch, head group), in the
order (0,0), (1,0), (1,1), (2,0), …; what the index maps read from them, and that the windows they give lie inside
their arrays.
-/
module

public import proofs.«01_k».proof.Proof.Effects
public import Idealize.ShloMosaic.Lib.Affine

@[expose] public section

noncomputable section

namespace Cert.KernelIdeal.Attn

open Idealize.ShloMosaic Idealize.ShloMosaic.TcCoe
open Cert.KernelIdeal Cert.KernelIdeal.Facts₀ Cert.KernelIdeal.Facts

variable {F : FTy → Type} [FloatOps F]

set_option backward.proofsInPublic true in
/-- The tables' contents: the query tiles and the key tiles. -/
def tbl : pre0.Contents (Elt F) := fun
  | ⟨0, _⟩ => fun x => lit0 (S136.rowMajor x)
  | ⟨1, _⟩ => fun x => lit1 (S136.rowMajor x)
  | ⟨_ + 2, h⟩ => absurd h (by simp)

/-- The step (third grid coordinate) of a grid point, as an entry of the tables. -/
abbrev step (i : grid0.Coords) : Fin 136 := ⟨(i 2).val, (i 2).isLt⟩

/-- The query tile and the key tile of a grid point. -/
abbrev qw (i : grid0.Coords) : BitVec 32 := lit0 (step i)
abbrev kw (i : grid0.Coords) : BitVec 32 := lit1 (step i)

theorem lit0_lt : ∀ j : Fin 136, (lit0 j).toNat < 16 := by decide
theorem lit1_le : ∀ j : Fin 136, (lit1 j).toNat ≤ (lit0 j).toNat := by decide
theorem lit1_lt (j : Fin 136) : (lit1 j).toNat < 16 := (lit1_le j).trans_lt (lit0_lt j)

theorem off_val (i : grid0.Coords) : (Scalar.indexCast (BitVec.ofNat 32 (i 2).val)).toNat = (i 2).val := by
  have h : (i 2).val < 136 := (i 2).isLt
  show (BitVec.ofNat 32 (i 2).val).toNat = _
  rw [BitVec.toNat_ofNat, Nat.mod_eq_of_lt (by omega)]

theorem rowMajor_136 (x : S136.Idx) : (S136.rowMajor x).val = (x 0).val := Shape.rowMajor_val_one x

/-- An index at the step of a grid point reads the point's tiles. -/
theorem lit0_at (x : S136.Idx) (i : grid0.Coords) (h : (x 0).val = (i 2).val) : lit0 (S136.rowMajor x) = qw i :=
  congrArg lit0 (Fin.ext ((rowMajor_136 x).trans h))
theorem lit1_at (x : S136.Idx) (i : grid0.Coords) (h : (x 0).val = (i 2).val) : lit1 (S136.rowMajor x) = kw i :=
  congrArg lit1 (Fin.ext ((rowMajor_136 x).trans h))

theorem first_val (h : 0 < S1.numel) : ((Shape.Idx.first h) 0).val = 0 := Nat.lt_one_iff.1 ((Shape.Idx.first h) 0).isLt

/-- The table index a load at a grid point reads. -/
theorem emb_step (i : grid0.Coords) {off : Fin 1 → Nat} (hoff : off 0 = (i 2).val) (inb : ∀ a, off a + S1.size a ≤ S136.size a) (h : 0 < S1.numel) :
    (((Rect.unit (s := S136) off S1.size inb).emb (Shape.Idx.first h)) 0).val = (i 2).val := by
  rw [Rect.emb_apply]
  show off 0 + 1 * ((Shape.Idx.first h) 0).val = _
  rw [first_val, hoff]; rfl

theorem k0_off1_zero (i : grid0.Coords) : k0_off1 i 0 = (i 2).val := off_val i

variable [Facts]

theorem at0 (i : grid0.Coords) : (tbl (F := F)).at 0 (Rect.unit (s := S136) (k0_off1 i) S1.size (k0_off1_inb i)) numel1_S1 = qw i :=
  lit0_at _ i (emb_step i (k0_off1_zero i) _ _)
theorem at1 (i : grid0.Coords) : (tbl (F := F)).at 1 (Rect.unit (s := S136) (k0_off1 i) S1.size (k0_off1_inb i)) numel1_S1 = kw i :=
  lit1_at _ i (emb_step i (k0_off1_zero i) _ _)

theorem inb_one (i : grid0.Coords) : ∀ a : Fin 1, k0_off1 i a + 1 ≤ S136.size a := fun a => by
  have h := k0_off1_inb i a
  revert h
  fin_cases a
  exact id

theorem atD0 (i : grid0.Coords) : (tbl (F := F)).atD 0 (k0_off1 i) = qw i := by
  unfold Pipeline.Prefetch.Contents.atD
  split
  · exact lit0_at _ i (k0_off1_zero i)
  · rename_i h; exact absurd (inb_one i) h
theorem atD1 (i : grid0.Coords) : (tbl (F := F)).atD 1 (k0_off1 i) = kw i := by
  unfold Pipeline.Prefetch.Contents.atD
  split
  · exact lit1_at _ i (k0_off1_zero i)
  · rename_i h; exact absurd (inb_one i) h

theorem ofNat_val {n k : Nat} (i : Fin k) (hk : k ≤ 4294967296) (h : i.val = n) : (BitVec.ofNat 32 i.val).toNat = n := by
  rw [BitVec.toNat_ofNat, Nat.mod_eq_of_lt (i.isLt.trans_le hk), h]

/-- The block a grid point takes of the queries: batch, head group, query tile; -/
theorem tile_q (i : grid0.Coords) : cc0_transform_0 k0_off1_inb numel1_S1 (tbl (F := F)) i = ![(i 0).val, (i 1).val, (qw i).toNat, 0] := by
  show ![(BitVec.ofNat 32 (i 0).val).toNat, (BitVec.ofNat 32 (i 1).val).toNat, ((tbl (F := F)).at 0 (Rect.unit (s := S136) (k0_off1 i) S1.size (k0_off1_inb i)) numel1_S1 : BitVec 32).toNat, 0] = _
  rw [ofNat_val (i 0) (by decide) rfl, ofNat_val (i 1) (by decide) rfl, at0]
/-- of the keys: batch, head group, key tile; -/
theorem tile_k (i : grid0.Coords) : cc0_transform_1 k0_off1_inb numel1_S1 (tbl (F := F)) i = ![(i 0).val, (i 1).val, (kw i).toNat, 0] := by
  show ![(BitVec.ofNat 32 (i 0).val).toNat, (BitVec.ofNat 32 (i 1).val).toNat, ((tbl (F := F)).at 1 (Rect.unit (s := S136) (k0_off1 i) S1.size (k0_off1_inb i)) numel1_S1 : BitVec 32).toNat, 0] = _
  rw [ofNat_val (i 0) (by decide) rfl, ofNat_val (i 1) (by decide) rfl, at1]
/-- of the transposed values; -/
theorem tile_v (i : grid0.Coords) : cc0_transform_2 k0_off1_inb numel1_S1 (tbl (F := F)) i = ![(i 0).val, (i 1).val, 0, (kw i).toNat] := by
  show ![(BitVec.ofNat 32 (i 0).val).toNat, (BitVec.ofNat 32 (i 1).val).toNat, 0, ((tbl (F := F)).at 1 (Rect.unit (s := S136) (k0_off1 i) S1.size (k0_off1_inb i)) numel1_S1 : BitVec 32).toNat] = _
  rw [ofNat_val (i 0) (by decide) rfl, ofNat_val (i 1) (by decide) rfl, at1]
/-- of the gate: batch, query tile, head group; -/
theorem tile_z (i : grid0.Coords) : cc0_transform_3 k0_off1_inb numel1_S1 (tbl (F := F)) i = ![(i 0).val, (qw i).toNat, (i 1).val] := by
  show ![(BitVec.ofNat 32 (i 0).val).toNat, ((tbl (F := F)).at 0 (Rect.unit (s := S136) (k0_off1 i) S1.size (k0_off1_inb i)) numel1_S1 : BitVec 32).toNat, (BitVec.ofNat 32 (i 1).val).toNat] = _
  rw [ofNat_val (i 0) (by decide) rfl, ofNat_val (i 1) (by decide) rfl, at0]
/-- and of the result, the same. -/
theorem tile_o (i : grid0.Coords) : cc0_transform_4 k0_off1_inb numel1_S1 (tbl (F := F)) i = ![(i 0).val, (qw i).toNat, (i 1).val] := tile_z i

theorem qw_lt (i : grid0.Coords) : (qw i).toNat < 16 := lit0_lt _
theorem kw_lt (i : grid0.Coords) : (kw i).toNat < 16 := lit1_lt _

/-- Every window's block lies inside its array, in whole words. -/
theorem ok_tbl : ok0 (tbl (F := F)) := by
  have b0 : ∀ i : grid0.Coords, (i 0).val < 2 := fun i => (i 0).isLt
  have b1 : ∀ i : grid0.Coords, (i 1).val < 2 := fun i => (i 1).isLt
  unfold ok0
  refine ⟨fun i => ⟨?_, .inr (Affine.block_words_dvd (by decide) (by decide))⟩, fun i => ⟨?_, .inr (Affine.block_words_dvd (by decide) (by decide))⟩,
    fun i => ⟨?_, .inr (Affine.block_words_dvd (by decide) (by decide))⟩, fun i => ⟨?_, .inr (Affine.block_words_dvd (by decide) (by decide))⟩,
    fun i => ⟨?_, .inr (Affine.block_words_dvd (by decide) (by decide))⟩⟩ <;>
  · have := b0 i; have := b1 i; have := qw_lt i; have := kw_lt i
    simp only [tile_q, tile_k, tile_v, tile_z, tile_o]
    intro a
    fin_cases a <;> simp [Shape.size] <;> omega

/-- The tables as admissible contents. -/
def adm : (pcfg0 (F := F)).Adm := ⟨tbl, ok_tbl⟩

end Cert.KernelIdeal.Attn
-- ==== Proof.Steps.lean ====
/-
What one tile leaves in the running maxima and sums, block by block: `updateE_m` and `updateE_a` give head `h`'s
chunk `c` after a tile from the same block before it and the tile's own scores. The scores pass through the two
score slots, one for each parity of the head: `Ready` says which slots hold which head's scores as the units go.
-/
module

public import proofs.«01_k».proof.Proof.Effects

@[expose] public section

noncomputable section

namespace Cert.KernelIdeal.Attn

open Idealize.ShloMosaic Cert.KernelIdeal Cert.KernelIdeal.Facts₀ Cert.KernelIdeal.Facts

variable {F : FTy → Type} [FloatOps F]

/-- An invariant of the steps of `forE` holds after them. -/
theorem forE_inv {α : Type} (P : ℕ → α → Prop) (n : ℕ) (f : (i : ℕ) → i < n → α → α) (σ : α) (h0 : P 0 σ)
    (hs : ∀ i hi σ, P i σ → P (i + 1) (f i hi σ)) : P n (forE n f σ) := by
  induction n with
  | zero => exact h0
  | succ n ih => exact hs n _ _ (ih _ fun i hi => hs i _)

/-- A block read through one rectangle after a write through another that meets it nowhere. -/
theorem overlay_apart {s : Shape} {α : Type} (r r' : Rect s) (X : s.Idx → α) (G : r.shape.Idx → α) (a : Fin s.rank) (i : r'.shape.Idx)
    (ha : r.stride a = 1) (ha' : r'.stride a = 1) (h : r.off a + r.size a ≤ r'.off a ∨ r'.off a + r'.size a ≤ r.off a) :
    r.overlay X G (r'.emb i) = X (r'.emb i) := by
  refine Rect.overlay_of_not_mem _ _ _ fun hm => ?_
  obtain ⟨j, hj⟩ := r.exists_idx_of_mem hm
  have h1 := congrArg (fun y : s.Idx => (y a : ℕ)) hj
  have h2 : (r.emb j a : ℕ) = (r'.emb i a : ℕ) := h1
  rw [Rect.emb_apply, Rect.emb_apply, ha, ha'] at h2
  have := (j a).isLt
  have := (i a).isLt
  have e1 : r.shape.size a = r.size a := rfl
  have e2 : r'.shape.size a = r'.size a := rfl
  omega

/-- Writes at two heads, slots or chunks do not meet. -/
theorem rS_apart {α : Type} (n n' s s' c c' : ℕ) (hn hn' hs hs' hc hc') (h : s ≠ s' ∨ c ≠ c') (X : S2x1024x1024.Idx → α) (G) (i) :
    (rS n s c hn hs hc).overlay X G ((rS n' s' c' hn' hs' hc').emb i) = X ((rS n' s' c' hn' hs' hc').emb i) := by
  rcases h with h | h
  · refine overlay_apart _ _ _ _ (0 : Fin 3) i rfl rfl ?_
    show s + 1 ≤ s' ∨ s' + 1 ≤ s; omega
  · refine overlay_apart _ _ _ _ (2 : Fin 3) i rfl rfl ?_
    show 256 * c + 256 ≤ 256 * c' ∨ 256 * c' + 256 ≤ 256 * c; omega

theorem rX_apart {α : Type} (s s' c c' : ℕ) (hs hs' hc hc') (h : s ≠ s' ∨ c ≠ c') (X : S2x1x1024.Idx → α) (G) (i) :
    (rX s c hs hc).overlay X G ((rX s' c' hs' hc').emb i) = X ((rX s' c' hs' hc').emb i) := by
  rcases h with h | h
  · refine overlay_apart _ _ _ _ (0 : Fin 3) i rfl rfl ?_
    show s + 1 ≤ s' ∨ s' + 1 ≤ s; omega
  · refine overlay_apart _ _ _ _ (2 : Fin 3) i rfl rfl ?_
    show 256 * c + 256 ≤ 256 * c' ∨ 256 * c' + 256 ≤ 256 * c; omega

theorem rM_apart {α : Type} (h h' c c' : ℕ) (hh hh' hc hc') (e : h ≠ h' ∨ c ≠ c') (X : S8x1x1024.Idx → α) (G) (i) :
    (rM h c hh hc).overlay X G ((rM h' c' hh' hc').emb i) = X ((rM h' c' hh' hc').emb i) := by
  rcases e with e | e
  · refine overlay_apart _ _ _ _ (0 : Fin 3) i rfl rfl ?_
    show h + 1 ≤ h' ∨ h' + 1 ≤ h; omega
  · refine overlay_apart _ _ _ _ (2 : Fin 3) i rfl rfl ?_
    show 256 * c + 256 ≤ 256 * c' ∨ 256 * c' + 256 ≤ 256 * c; omega

theorem rA_apart {α : Type} (h h' c c' : ℕ) (hh hh' hc hc') (e : h ≠ h' ∨ c ≠ c') (X : S8x144x1024.Idx → α) (G) (i) :
    (rA h c hh hc).overlay X G ((rA h' c' hh' hc').emb i) = X ((rA h' c' hh' hc').emb i) := by
  rcases e with e | e
  · refine overlay_apart _ _ _ _ (0 : Fin 3) i rfl rfl ?_
    show h + 1 ≤ h' ∨ h' + 1 ≤ h; omega
  · refine overlay_apart _ _ _ _ (2 : Fin 3) i rfl rfl ?_
    show 256 * c + 256 ≤ 256 * c' ∨ 256 * c' + 256 ≤ 256 * c; omega

section

variable (Q K : S1x8x1024x256.Idx → Elt F .bf16) (V : S1x8x144x1024.Idx → Elt F .bf16) (b : Bool)

/-- A unit's scores and their maxima as its slot holds them. -/
def sIn (h c : ℕ) (hh : h < 8) (hc : c < 4) : Vec F (S1k (keys b c)) .f32 := shapeCast (S1k (keys b c)) (scoreB Q K b h c hh hc) (cast_S' _)
def xIn (h c : ℕ) (hh : h < 8) (hc : c < 4) : Vec F S1x1x256 .f32 := shapeCast S1x1x256 (maxV _ (scoreB Q K b h c hh hc)) shapeCasts_S1x256_S1x1x256

/-- The block of maxima, and of sums, that unit `(h, c)` writes. -/
def mOut (h c : ℕ) (hh : h < 8) (hc : c < 4) (σ : Bufs F) : Vec F S1x1x256 .f32 :=
  shapeCast S1x1x256 (newM (mB h c hh hc σ) (xIn Q K b h c hh hc)) shapeCasts_S1x256_S1x1x256
def aOut (h c : ℕ) (hh : h < 8) (hc : c < 4) (σ : Bufs F) : Vec F S1x144x256 .f32 :=
  shapeCast S1x144x256 (newA (keys b c) (alphaV (mB h c hh hc σ) (xIn Q K b h c hh hc))
    (weightV (keys b c) (mB h c hh hc σ) (xIn Q K b h c hh hc) (sIn Q K b h c hh hc)) (aB h c hh hc σ) (vB V b h c hh hc)) shapeCasts_S144x256_S1x144x256

/-- Unit `(h', c')`'s scores and maxima are in its slot. -/
def Ready (h' c' : ℕ) (σ : Bufs F) : Prop :=
  ∀ (hh : h' < 8) (hc : c' < 4), sB b h' c' hc σ = sIn Q K b h' c' hh hc ∧ xB h' c' hc σ = xIn Q K b h' c' hh hc

/-- Before unit `(h, c)` of the tile that began at `σ₀`. -/
structure Mid (σ₀ : Bufs F) (h c : ℕ) (σ : Bufs F) : Prop where
  ready : ∀ h' c', (h' = h ∧ c ≤ c') ∨ (h' = h + 1 ∧ c' < c) → Ready Q K b h' c' σ
  done : ∀ h' c' (hh : h' < 8) (hc : c' < 4), (h' < h ∨ (h' = h ∧ c' < c)) →
    mB h' c' hh hc σ = mOut Q K b h' c' hh hc σ₀ ∧ aB h' c' hh hc σ = aOut Q K V b h' c' hh hc σ₀
  todo : ∀ h' c' (hh : h' < 8) (hc : c' < 4), ¬(h' < h ∨ (h' = h ∧ c' < c)) →
    mB h' c' hh hc σ = mB h' c' hh hc σ₀ ∧ aB h' c' hh hc σ = aB h' c' hh hc σ₀

theorem score_ready (h c : ℕ) (hh : h < 8) (hc : c < 4) (σ : Bufs F) : Ready Q K b h c (scoreE Q K b h c hh hc σ) := by
  intro hh' hc'
  unfold sB xB scoreE sIn xIn
  dsimp only
  constructor
  · funext i; rw [Rect.overlay_emb]
  · funext i; rw [Rect.overlay_emb]

theorem score_keeps (h c : ℕ) (hh : h < 8) (hc : c < 4) (σ : Bufs F) (h' c' : ℕ) (e : h % 2 ≠ h' % 2 ∨ c ≠ c') (hr : Ready Q K b h' c' σ) :
    Ready Q K b h' c' (scoreE Q K b h c hh hc σ) := by
  intro hh' hc'
  obtain ⟨h1, h2⟩ := hr hh' hc'
  rw [← h1, ← h2]
  unfold sB xB scoreE
  dsimp only
  constructor
  · funext i; rw [rS_apart _ _ _ _ _ _ _ _ _ _ _ _ e]
  · funext i; rw [rX_apart _ _ _ _ _ _ _ _ e]

theorem next_m (h c : ℕ) (hc : c < 4) (σ : Bufs F) : (nextE Q K b h c hc σ).m = σ.m := by
  unfold nextE scoreE; split_ifs <;> rfl
theorem next_a (h c : ℕ) (hc : c < 4) (σ : Bufs F) : (nextE Q K b h c hc σ).a = σ.a := by
  unfold nextE scoreE; split_ifs <;> rfl

/-- `Ready` looks at the score slots only. -/
theorem Ready.of_eq {h' c' : ℕ} {σ σ' : Bufs F} (hs : σ'.s = σ.s) (hx : σ'.x = σ.x) (hr : Ready Q K b h' c' σ) : Ready Q K b h' c' σ' := by
  intro hh hc
  obtain ⟨h1, h2⟩ := hr hh hc
  rw [← h1, ← h2]; unfold sB xB; rw [hs, hx]; exact ⟨rfl, rfl⟩

theorem mB_same (h c : ℕ) (hh : h < 8) (hc : c < 4) (σ σ' : Bufs F) (G : Vec F S1x1x256 .f32) (e : σ'.m = (rM h c hh hc).overlay σ.m G) : mB h c hh hc σ' = G := by
  unfold mB; rw [e]; funext i; rw [Rect.overlay_emb]
theorem aB_same (h c : ℕ) (hh : h < 8) (hc : c < 4) (σ σ' : Bufs F) (G : Vec F S1x144x256 .f32) (e : σ'.a = (rA h c hh hc).overlay σ.a G) : aB h c hh hc σ' = G := by
  unfold aB; rw [e]; funext i; rw [Rect.overlay_emb]
theorem mB_other (h c h' c' : ℕ) (hh : h < 8) (hc : c < 4) (hh' : h' < 8) (hc' : c' < 4) (σ σ' : Bufs F) (G : Vec F S1x1x256 .f32)
    (e : σ'.m = (rM h c hh hc).overlay σ.m G) (d : h ≠ h' ∨ c ≠ c') : mB h' c' hh' hc' σ' = mB h' c' hh' hc' σ := by
  unfold mB; rw [e]; funext i; rw [rM_apart _ _ _ _ _ _ _ _ d]
theorem aB_other (h c h' c' : ℕ) (hh : h < 8) (hc : c < 4) (hh' : h' < 8) (hc' : c' < 4) (σ σ' : Bufs F) (G : Vec F S1x144x256 .f32)
    (e : σ'.a = (rA h c hh hc).overlay σ.a G) (d : h ≠ h' ∨ c ≠ c') : aB h' c' hh' hc' σ' = aB h' c' hh' hc' σ := by
  unfold aB; rw [e]; funext i; rw [rA_apart _ _ _ _ _ _ _ _ d]

theorem unit_mid (σ₀ : Bufs F) (h c : ℕ) (hh : h < 8) (hc : c < 4) (σ : Bufs F) (M : Mid Q K V b σ₀ h c σ) :
    Mid Q K V b σ₀ h (c + 1) (unitE Q K V b h c hh hc σ) := by
  obtain ⟨hs, hx⟩ := M.ready h c (.inl ⟨rfl, le_refl _⟩) hh hc
  obtain ⟨hm, ha⟩ := M.todo h c hh hc (by omega)
  have em : (unitE Q K V b h c hh hc σ).m = (rM h c hh hc).overlay σ.m (mOut Q K b h c hh hc σ₀) := by
    unfold unitE pvE
    dsimp only
    rw [next_m]
    unfold softE mOut
    dsimp only
    rw [hx, hm]
  have ea : (unitE Q K V b h c hh hc σ).a = (rA h c hh hc).overlay σ.a (aOut Q K V b h c hh hc σ₀) := by
    have e : (nextE Q K b h c hc (softE h c hh hc σ)).a = σ.a := by
      rw [next_a]; unfold softE; dsimp only
    have e' : aB h c hh hc (nextE Q K b h c hc (softE h c hh hc σ)) = aB h c hh hc σ₀ := by
      rw [← ha]; unfold aB; rw [e]
    unfold unitE pvE aOut
    dsimp only
    rw [e', hx, hs, hm, e]
  have er : ∀ h' c', Ready Q K b h' c' (nextE Q K b h c hc (softE h c hh hc σ)) → Ready Q K b h' c' (unitE Q K V b h c hh hc σ) := fun _ _ hr =>
    hr.of_eq _ _ _ (by unfold unitE pvE; dsimp only) (by unfold unitE pvE; dsimp only)
  have es : ∀ h' c', Ready Q K b h' c' σ → Ready Q K b h' c' (softE h c hh hc σ) := fun _ _ hr =>
    hr.of_eq _ _ _ (by unfold softE; dsimp only) (by unfold softE; dsimp only)
  generalize unitE Q K V b h c hh hc σ = σ' at em ea er ⊢
  refine ⟨fun h' c' hc' => ?_, fun h' c' hh' hc' hd => ?_, fun h' c' hh' hc' hd => ?_⟩
  · apply er
    unfold nextE
    by_cases hn : h + 1 < 8
    · rw [dif_pos hn]
      by_cases he : h' = h + 1 ∧ c' = c
      · obtain ⟨rfl, rfl⟩ := he; exact score_ready Q K b _ _ _ _ _
      · exact score_keeps Q K b _ _ _ _ _ _ _ (by omega) (es _ _ (M.ready h' c' (by omega)))
    · rw [dif_neg hn]
      by_cases he : h' = h
      · exact es _ _ (M.ready h' c' (by omega))
      · intro hh'; omega
  · by_cases he : h' = h ∧ c' = c
    · obtain ⟨rfl, rfl⟩ := he
      exact ⟨mB_same _ _ _ _ _ _ _ em, aB_same _ _ _ _ _ _ _ ea⟩
    · obtain ⟨h1, h2⟩ := M.done h' c' hh' hc' (by omega)
      rw [← h1, ← h2]
      exact ⟨mB_other _ _ _ _ hh hc _ _ _ _ _ em (by omega), aB_other _ _ _ _ hh hc _ _ _ _ _ ea (by omega)⟩
  · obtain ⟨h1, h2⟩ := M.todo h' c' hh' hc' (by omega)
    rw [← h1, ← h2]
    exact ⟨mB_other _ _ _ _ hh hc _ _ _ _ _ em (by omega), aB_other _ _ _ _ hh hc _ _ _ _ _ ea (by omega)⟩

theorem head_mid (σ₀ : Bufs F) (h : ℕ) (hh : h < 8) (σ : Bufs F) (M : Mid Q K V b σ₀ h 0 σ) :
    Mid Q K V b σ₀ (h + 1) 0 (forE 4 (fun c hc => unitE Q K V b h c hh hc) σ) := by
  have M4 := forE_inv (fun c σ => Mid Q K V b σ₀ h c σ) 4 (fun c hc => unitE Q K V b h c hh hc) σ M (fun c hc σ => unit_mid Q K V b σ₀ h c hh hc σ)
  refine ⟨fun h' c' e => ?_, fun h' c' hh' hc' e => M4.done h' c' hh' hc' (by omega), fun h' c' hh' hc' e => M4.todo h' c' hh' hc' (by omega)⟩
  intro hh' hc'
  exact M4.ready h' c' (by omega) hh' hc'

theorem first_mid (σ₀ : Bufs F) : Mid Q K V b σ₀ 0 0 (forE 4 (fun c hc => scoreE Q K b 0 c (Nat.succ_pos 7) hc) σ₀) := by
  have M4 := forE_inv (fun c σ => (∀ c', c' < c → Ready Q K b 0 c' σ) ∧ σ.m = σ₀.m ∧ σ.a = σ₀.a) 4 (fun c hc => scoreE Q K b 0 c (Nat.succ_pos 7) hc) σ₀
    ⟨fun c' h => absurd h (Nat.not_lt_zero _), rfl, rfl⟩ (fun c hc σ ⟨h1, h2, h3⟩ => ⟨fun c' h => by
      by_cases e : c' = c
      · subst e; exact score_ready Q K b _ _ _ _ _
      · exact score_keeps Q K b _ _ _ _ _ _ _ (by omega) (h1 c' (by omega)), h2, h3⟩)
  obtain ⟨h1, h2, h3⟩ := M4
  generalize forE 4 (fun c hc => scoreE Q K b 0 c (Nat.succ_pos 7) hc) σ₀ = σ at h1 h2 h3 ⊢
  refine ⟨fun h' c' e hh' hc' => ?_, fun h' c' hh' hc' e => absurd e (by omega), fun h' c' hh' hc' e => ?_⟩
  · obtain rfl : h' = 0 := by omega
    exact h1 c' hc' hh' hc'
  · unfold mB aB; rw [h2, h3]; exact ⟨rfl, rfl⟩

/-- After a tile each block of the maxima and the sums is its unit's. -/
theorem updateE_blocks (σ : Bufs F) (h c : ℕ) (hh : h < 8) (hc : c < 4) :
    mB h c hh hc (updateE Q K V b σ) = mOut Q K b h c hh hc σ ∧ aB h c hh hc (updateE Q K V b σ) = aOut Q K V b h c hh hc σ := by
  have M := forE_inv (fun h σ' => Mid Q K V b σ h 0 σ') 8 (fun h hh => forE 4 fun c hc => unitE Q K V b h c hh hc)
    (forE 4 (fun c hc => scoreE Q K b 0 c (Nat.succ_pos 7) hc) σ) (first_mid Q K V b σ) (fun h hh σ' => head_mid Q K V b σ h hh σ')
  exact M.done h c hh hc (.inl hh)

end

end Cert.KernelIdeal.Attn
-- ==== Proof.Track.lean ====
/-
What passes from one grid point to the next: the running maxima and sums. A tile's maxima and sums depend on those
before it alone (`tick_of_eq`), the first tile's on nothing, and the result's block depends on the sums alone
(`epi_cover`).
-/
module

public import proofs.«01_k».proof.Proof.Steps

@[expose] public section

noncomputable section

namespace Cert.KernelIdeal.Attn

open Idealize.ShloMosaic Cert.KernelIdeal Cert.KernelIdeal.Facts₀ Cert.KernelIdeal.Facts

variable {F : FTy → Type} [FloatOps F]

/-- The running maxima and sums. -/
abbrev MA (F : FTy → Type) : Type := (S8x1x1024.Idx → Elt F .f32) × (S8x144x1024.Idx → Elt F .f32)

def Bufs.ma (σ : Bufs F) : MA F := (σ.m, σ.a)

/-- Every place of the maxima, of the sums and of the result lies in a block. -/
theorem rM_cover (j : S8x1x1024.Idx) : ∃ i, (rM (j 0).val ((j 2).val / 256) (j 0).isLt (Nat.div_lt_of_lt_mul (j 2).isLt)).emb i = j := by
  refine (rM (j 0).val ((j 2).val / 256) (j 0).isLt (Nat.div_lt_of_lt_mul (j 2).isLt)).exists_idx_of_mem (Rect.mem_set_unit.2 fun a => ?_)
  have := Nat.div_add_mod (j 2).val 256
  have := Nat.mod_lt (j 2).val (show 256 > 0 by decide)
  have : (j 1).val < 1 := (j 1).isLt
  fin_cases a
  · show (j 0).val ≤ (j 0).val ∧ (j 0).val < (j 0).val + 1; omega
  · show 0 ≤ (j 1).val ∧ (j 1).val < 0 + 1; omega
  · show 256 * ((j 2).val / 256) ≤ (j 2).val ∧ (j 2).val < 256 * ((j 2).val / 256) + 256; omega

theorem rA_cover (j : S8x144x1024.Idx) : ∃ i, (rA (j 0).val ((j 2).val / 256) (j 0).isLt (Nat.div_lt_of_lt_mul (j 2).isLt)).emb i = j := by
  refine (rA (j 0).val ((j 2).val / 256) (j 0).isLt (Nat.div_lt_of_lt_mul (j 2).isLt)).exists_idx_of_mem (Rect.mem_set_unit.2 fun a => ?_)
  have := Nat.div_add_mod (j 2).val 256
  have := Nat.mod_lt (j 2).val (show 256 > 0 by decide)
  have : (j 1).val < 144 := (j 1).isLt
  fin_cases a
  · show (j 0).val ≤ (j 0).val ∧ (j 0).val < (j 0).val + 1; omega
  · show 0 ≤ (j 1).val ∧ (j 1).val < 0 + 144; omega
  · show 256 * ((j 2).val / 256) ≤ (j 2).val ∧ (j 2).val < 256 * ((j 2).val / 256) + 256; omega

theorem rZ_cover (j : S1x1024x1024.Idx) : ∃ i, (rZ ((j 2).val / 128) (Nat.div_lt_of_lt_mul (j 2).isLt)).emb i = j := by
  refine (rZ ((j 2).val / 128) (Nat.div_lt_of_lt_mul (j 2).isLt)).exists_idx_of_mem (Rect.mem_set_unit.2 fun a => ?_)
  have := Nat.div_add_mod (j 2).val 128
  have := Nat.mod_lt (j 2).val (show 128 > 0 by decide)
  have : (j 0).val < 1 := (j 0).isLt
  have : (j 1).val < 1024 := (j 1).isLt
  fin_cases a
  · show 0 ≤ (j 0).val ∧ (j 0).val < 0 + 1; omega
  · show 0 ≤ (j 1).val ∧ (j 1).val < 0 + 1024; omega
  · show 128 * ((j 2).val / 128) ≤ (j 2).val ∧ (j 2).val < 128 * ((j 2).val / 128) + 128; omega

theorem rZ_apart {α : Type} (h h' : ℕ) (hh hh') (e : h ≠ h') (X : S1x1024x1024.Idx → α) (G) (i) :
    (rZ h hh).overlay X G ((rZ h' hh').emb i) = X ((rZ h' hh').emb i) := by
  refine overlay_apart _ _ _ _ (2 : Fin 3) i rfl rfl ?_
  show 128 * h + 128 ≤ 128 * h' ∨ 128 * h' + 128 ≤ 128 * h; omega

/-- Buffers with the same blocks hold the same maxima and sums. -/
theorem ma_of_blocks {σ σ' : Bufs F} (hm : ∀ h c hh hc, mB h c hh hc σ = mB h c hh hc σ') (ha : ∀ h c hh hc, aB h c hh hc σ = aB h c hh hc σ') :
    σ.ma = σ'.ma := by
  unfold Bufs.ma
  congr 1
  · funext j
    obtain ⟨i, hi⟩ := rM_cover j
    have := congrFun (hm _ _ (j 0).isLt (show (j 2).val / 256 < 4 from Nat.div_lt_of_lt_mul (j 2).isLt)) i
    unfold mB at this
    rwa [hi] at this
  · funext j
    obtain ⟨i, hi⟩ := rA_cover j
    have := congrFun (ha _ _ (j 0).isLt (show (j 2).val / 256 < 4 from Nat.div_lt_of_lt_mul (j 2).isLt)) i
    unfold aB at this
    rwa [hi] at this

theorem ma_m {σ σ' : Bufs F} (h : σ.ma = σ'.ma) : σ.m = σ'.m := congrArg Prod.fst h
theorem ma_a {σ σ' : Bufs F} (h : σ.ma = σ'.ma) : σ.a = σ'.a := congrArg Prod.snd h

section

variable (Q K : S1x8x1024x256.Idx → Elt F .bf16) (V : S1x8x144x1024.Idx → Elt F .bf16)

theorem mB_of_eq {σ σ' : Bufs F} (h : σ.ma = σ'.ma) (n c hh hc) : mB n c hh hc σ = mB n c hh hc σ' := by
  unfold mB; rw [ma_m h]
theorem aB_of_eq {σ σ' : Bufs F} (h : σ.ma = σ'.ma) (n c hh hc) : aB n c hh hc σ = aB n c hh hc σ' := by
  unfold aB; rw [ma_a h]

theorem update_of_eq (b : Bool) {σ σ' : Bufs F} (h : σ.ma = σ'.ma) : (updateE Q K V b σ).ma = (updateE Q K V b σ').ma := by
  refine ma_of_blocks (fun n c hh hc => ?_) fun n c hh hc => ?_
  · rw [(updateE_blocks Q K V b σ n c hh hc).1, (updateE_blocks Q K V b σ' n c hh hc).1]
    unfold mOut; rw [mB_of_eq h]
  · rw [(updateE_blocks Q K V b σ n c hh hc).2, (updateE_blocks Q K V b σ' n c hh hc).2]
    unfold aOut; rw [mB_of_eq h, aB_of_eq h]

/-- The maxima and sums a pass starts from: `-inf` and zero. -/
def ma₀ : MA F := (fun _ => Scalar.ofBits .f32 0xFF800000#32, fun _ => Scalar.ofBits .f32 0x00000000#32)

/-- A write of one value over a whole buffer. -/
theorem overlay_const {s : Shape} {α : Type} (off : Fin s.rank → ℕ) (h : ∀ a, off a = 0) (inb : ∀ a, off a + s.size a ≤ s.size a) (X : s.Idx → α)
    (G : s.Idx → α) (v : α) (hG : ∀ i, G i = v) (j : s.Idx) : (Rect.unit (s := s) off s.size inb).overlay X G j = v := by
  obtain ⟨i, hi⟩ := (Rect.unit (s := s) off s.size inb).exists_idx_of_mem
    (Rect.mem_set_unit.2 fun a => ⟨by rw [h]; exact Nat.zero_le _, by rw [h, Nat.zero_add]; exact (j a).isLt⟩)
  have hj : (Rect.unit (s := s) off s.size inb).emb i = j := hi
  rw [← hj, Rect.overlay_emb]
  exact hG i

theorem init_ma (σ : Bufs F) : (initE σ).ma = ma₀ := by
  unfold Bufs.ma initE ma₀
  dsimp only
  congr 1
  · funext j
    exact overlay_const (s := S8x1x1024) ![0, 0, 0] (by intro a; fin_cases a <;> rfl) _ _ _ _ (fun _ => rfl) j
  · funext j
    exact overlay_const (s := S8x144x1024) ![0, 0, 0] (by intro a; fin_cases a <;> rfl) _ _ _ _ (fun _ => rfl) j

theorem onlyIf_of_eq {p : Prop} [Decidable p] {f : Bufs F → Bufs F} (hf : ∀ {σ σ' : Bufs F}, σ.ma = σ'.ma → (f σ).ma = (f σ').ma)
    {σ σ' : Bufs F} (h : σ.ma = σ'.ma) : (onlyIf p f σ).ma = (onlyIf p f σ').ma := by
  by_cases hp : p
  · rw [onlyIf_pos hp, onlyIf_pos hp]; exact hf h
  · rw [onlyIf_neg hp, onlyIf_neg hp]; exact h

/-- A tile's maxima and sums depend on those before it alone; -/
theorem tile_of_eq (qi ki : BitVec 32) {σ σ' : Bufs F} (h : σ.ma = σ'.ma) : (tileE Q K V qi ki σ).ma = (tileE Q K V qi ki σ').ma := by
  unfold tileE
  exact onlyIf_of_eq (update_of_eq Q K V true) (onlyIf_of_eq (update_of_eq Q K V false) (onlyIf_of_eq (fun _ => (init_ma _).trans (init_ma _).symm) h))

/-- the first tile's on nothing. -/
theorem tile_of_first (qi ki : BitVec 32) (hk : isFirst ki) (σ σ' : Bufs F) : (tileE Q K V qi ki σ).ma = (tileE Q K V qi ki σ').ma := by
  unfold tileE
  rw [onlyIf_pos hk, onlyIf_pos hk]
  exact onlyIf_of_eq (update_of_eq Q K V true) (onlyIf_of_eq (update_of_eq Q K V false) ((init_ma _).trans (init_ma _).symm))

/-- Buffers that hold given maxima and sums, the score slots at the same values whatever they are. -/
def ofMA (S : MA F) : Bufs F := ⟨fun _ => Scalar.ofBits .f32 0x00000000#32, fun _ => Scalar.ofBits .f32 0x00000000#32, S.1, S.2⟩

theorem ofMA_ma (S : MA F) : (ofMA S).ma = S := rfl

/-- A tile on the running maxima and sums. -/
def tick (qi ki : BitVec 32) (S : MA F) : MA F := (tileE Q K V qi ki (ofMA S)).ma

theorem tick_of_eq (qi ki : BitVec 32) (σ : Bufs F) : (tileE Q K V qi ki σ).ma = tick Q K V qi ki σ.ma :=
  tile_of_eq Q K V qi ki rfl
theorem tick_of_first (qi ki : BitVec 32) (hk : isFirst ki) (σ : Bufs F) (S : MA F) : (tileE Q K V qi ki σ).ma = tick Q K V qi ki S :=
  tile_of_first Q K V qi ki hk _ _

variable (Z : S1x1024x1024.Idx → Elt F .bf16)

/-- The result's block is each head's lanes, from the sums and the gate. -/
theorem epi_block (A : S8x144x1024.Idx → Elt F .f32) (O : S1x1024x1024.Idx → Elt F .bf16) (h : ℕ) (hh : h < 8) (i : (rZ h hh).shape.Idx) :
    forE 8 (fun h hh => epiE Z A h hh) O ((rZ h hh).emb i)
      = shapeCast S1x1024x128 (outV (fun i => Z ((rZ h hh).emb i)) (fun i => A ((rH h hh).emb i))) shapeCasts_S1024x128_S1x1024x128 i := by
  have key := forE_inv (fun n (O : S1x1024x1024.Idx → Elt F .bf16) => ∀ h hh i, h < n → O ((rZ h hh).emb i)
    = shapeCast S1x1024x128 (outV (fun i => Z ((rZ h hh).emb i)) (fun i => A ((rH h hh).emb i))) shapeCasts_S1024x128_S1x1024x128 i) 8
    (fun h hh => epiE Z A h hh) O (fun h hh i e => absurd e (Nat.not_lt_zero _)) (fun n hn O ih h hh i e => by
      unfold epiE
      by_cases he : h = n
      · subst he; rw [Rect.overlay_emb]
      · rw [rZ_apart _ _ _ _ (fun h' => he h'.symm)]; exact ih h hh i (by omega))
  exact key h hh i hh

/-- It does not depend on what the block held. -/
theorem epi_cover (A : S8x144x1024.Idx → Elt F .f32) (O O' : S1x1024x1024.Idx → Elt F .bf16) :
    forE 8 (fun h hh => epiE Z A h hh) O = forE 8 (fun h hh => epiE Z A h hh) O' := by
  funext j
  obtain ⟨i, hi⟩ := rZ_cover j
  rw [← hi, epi_block, epi_block]

/-- The block a pass's last tile writes. -/
def outB (S : MA F) : S1x1024x1024.Idx → Elt F .bf16 := forE 8 (fun h hh => epiE Z S.2 h hh) Z

theorem tileO_diag (qi ki : BitVec 32) (hd : isDiag qi ki) (σ : Bufs F) (O : S1x1024x1024.Idx → Elt F .bf16) :
    tileO Q K V Z qi ki σ O = outB Z (tileE Q K V qi ki σ).ma := by
  unfold tileO outB
  rw [onlyIf_pos hd]
  exact epi_cover Z _ _ _
theorem tileO_below (qi ki : BitVec 32) (hd : ¬isDiag qi ki) (σ : Bufs F) (O : S1x1024x1024.Idx → Elt F .bf16) :
    tileO Q K V Z qi ki σ O = O := by
  unfold tileO
  rw [onlyIf_neg hd]

end

end Cert.KernelIdeal.Attn
-- ==== Proof.Point.lean ====
/-
One grid point of the kernel: the body reads the point's query tile and key tile from the tables and runs the tile.
-/
module

public import proofs.«01_k».proof.Proof.Tables
public import proofs.«01_k».proof.Proof.Track
public import proofs.«01_k».proof.Proof.Gen.KernelIdeal.Launch
public import Idealize.ShloMosaic.Lib.Pipeline.Frame

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ (UU nD τ) ℕ

/-- A table held, at the share the body reads it at. -/
abbrev tab (c : Dev nD) (b : Ref sig .tc) (f : Buf (Elt F) ((c : Thread nD τ).loc b)) : sProp 𝕄 :=
  ((c : Thread nD τ).loc b) ↦{fullShare.right} f

/-- The two tables, one by one. -/
theorem tables_eq (c : Dev nD) : (Pipeline.ΦT (U := UU nD τ) pre0 (tbl (F := F)) c : sProp 𝕄)
    = iprop(tab c main_c (fun x => lit0 (S136.rowMajor x)) ∗ tab c main_c_0 (fun x => lit1 (S136.rowMajor x))) := by
  unfold Pipeline.ΦT Pipeline.prefHeld
  exact bigSep_univ_eq_bigSepL [(0 : Fin 2), (1 : Fin 2)] (by decide) (by decide) _

section

variable (c : Dev nD) (i : grid0.Coords)
  (arg5 : Memref sig .tc .vmem S1x8x1024x256 .bf16) (harg5 : arg5.IsWhole) (arg6 : Memref sig .tc .vmem S1x8x1024x256 .bf16) (harg6 : arg6.IsWhole)
  (arg7 : Memref sig .tc .vmem S1x8x144x1024 .bf16) (harg7 : arg7.IsWhole) (arg8 : Memref sig .tc .vmem S1x1024x1024 .bf16) (harg8 : arg8.IsWhole)
  (arg9 : Memref sig .tc .vmem S1x1024x1024 .bf16) (harg9 : arg9.IsWhole) (arg10 : Memref sig .tc .vmem S2x1024x1024 .f32) (harg10 : arg10.IsWhole)
  (arg11 : Memref sig .tc .vmem S2x1x1024 .f32) (harg11 : arg11.IsWhole) (arg12 : Memref sig .tc .vmem S8x1x1024 .f32) (harg12 : arg12.IsWhole)
  (arg13 : Memref sig .tc .vmem S8x144x1024 .f32) (harg13 : arg13.IsWhole)
  (Q K : S1x8x1024x256.Idx → Elt F .bf16) (V : S1x8x144x1024.Idx → Elt F .bf16) (Z : S1x1024x1024.Idx → Elt F .bf16)

theorem point_rule (σ : Bufs F) (O : S1x1024x1024.Idx → Elt F .bf16) :
    iprop((tab c main_c (fun x => lit0 (S136.rowMajor x)) ∗ tab c main_c_0 (fun x => lit1 (S136.rowMajor x)))
        ∗ held (F := F) c arg5 arg6 arg7 arg10 arg11 arg12 arg13 Q K V σ ∗ owns (c : Thread nD τ) arg8 fullShare Z ∗ owns (c : Thread nD τ) arg9 fullShare O)
      ⊢ wp frame (wpE (defs₀ (F := F)) Variants.none c none) Set.univ
        (cc0_mla_flash_attention (F := F) i (Memref.whole main_c) (Memref.isWhole_whole _) (Memref.whole main_c_0) (Memref.isWhole_whole _) arg5 harg5 arg6 harg6 arg7 harg7 arg8 harg8 arg9 harg9
          arg10 harg10 arg11 harg11 arg12 harg12 arg13 harg13) fun _ =>
        iprop((tab c main_c (fun x => lit0 (S136.rowMajor x)) ∗ tab c main_c_0 (fun x => lit1 (S136.rowMajor x)))
          ∗ held (F := F) c arg5 arg6 arg7 arg10 arg11 arg12 arg13 Q K V (tileE Q K V (qw i) (kw i) σ) ∗ owns (c : Thread nD τ) arg8 fullShare Z
          ∗ owns (c : Thread nD τ) arg9 fullShare (tileO Q K V Z (qw i) (kw i) σ O)) := by
  rw [body_eq]
  have key := tile_rule c arg5 arg6 arg7 arg8 arg9 harg9 arg10 arg11 arg12 arg13 Q K V Z (qw i) (kw i) σ O
  generalize tileE Q K V (qw i) (kw i) σ = σ' at key ⊢
  generalize tileO Q K V Z (qw i) (kw i) σ O = O' at key ⊢
  generalize hP : (fun a b => tileP (F := F) arg5 arg6 arg7 arg8 arg9 harg9 arg10 arg11 arg12 arg13 a b) = P
  have hP' : ∀ a b, tileP (F := F) arg5 arg6 arg7 arg8 arg9 harg9 arg10 arg11 arg12 arg13 a b = P a b := fun a b => by rw [← hP]
  simp only [hP'] at key ⊢
  have h0 : 0 < S1.numel := by rw [numel1_S1]; exact Nat.one_pos
  have e0 : lit0 (S136.rowMajor ((Rect.unit (s := S136) (k0_off1 i) S1.size (k0_off1_inb i)).emb (Shape.Idx.first h0))) = qw i :=
    lit0_at _ i (emb_step i (k0_off1_zero i) _ _)
  have e1 : lit1 (S136.rowMajor ((Rect.unit (s := S136) (k0_off1 i) S1.size (k0_off1_inb i)).emb (Shape.Idx.first h0))) = kw i :=
    lit1_at _ i (emb_step i (k0_off1_zero i) _ _)
  have key' : ∀ a b : BitVec 32, a = qw i → b = kw i → _ := fun a b ha hb => ha ▸ hb ▸ ((sep_mono (.rfl (P := iprop(tab (F := F) c main_c (fun x => lit0 (S136.rowMajor x)) ∗ tab c main_c_0 (fun x => lit1 (S136.rowMajor x))))) key).trans (wp_frame_l _ _ _))
  unfold smemLoad smemLoadElt
  simp only [Prog.bind_op, Prog.bind_ret]
  iintro ⟨⟨T0, T1⟩, HH⟩
  iapply (wp_load_rect Variants.none (c : Thread nD τ) none Set.univ (m := Memref.whole main_c) (r := Rect.unit (s := S136) (k0_off1 i) S1.size (k0_off1_inb i)) (Finset.subset_univ _)) $$ T0
  iintro T0
  iapply (wp_load_rect Variants.none (c : Thread nD τ) none Set.univ (m := Memref.whole main_c_0) (r := Rect.unit (s := S136) (k0_off1 i) S1.size (k0_off1_inb i)) (Finset.subset_univ _)) $$ T1
  iintro T1
  iapply (key' _ _ e0 e1)
  isplitl [T0 T1]
  · isplitl [T0]; · iexact T0
    iexact T1
  iexact HH

end

end Cert.KernelIdeal.Attn
-- ==== Proof.Run.lean ====
/-
The launch: the host operations, the pipeline over the tables' schedule, what each window's buffer and the scratch
hold at every point, and the run of the whole program, for any float values.
-/
module

public import proofs.«01_k».proof.Proof.Point
public import Idealize.ShloMosaic.Lib.Pipeline.FrameBody
public import Idealize.ShloMosaic.Lib.Pipeline.Value

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ (UU nD τ) ℕ

/-! ## The grid's points -/

theorem stride0 : grid0.stride 0 = 272 := by decide
theorem stride1 : grid0.stride 1 = 136 := by decide
theorem stride2 : grid0.stride 2 = 1 := by decide

theorem coord0 (t : Fin grid0.N) : (grid0.coords t 0).val = t.val / 272 % 2 := Pipeline.Grid.coords_val t 0 stride0 rfl
theorem coord1 (t : Fin grid0.N) : (grid0.coords t 1).val = t.val / 136 % 2 := Pipeline.Grid.coords_val t 1 stride1 rfl
theorem coord2 (t : Fin grid0.N) : (grid0.coords t 2).val = t.val % 136 := by
  rw [Pipeline.Grid.coords_val t 2 stride2 rfl, Nat.div_one]; rfl

/-- The tables' order: each row of tiles starts at key tile 0 … -/
theorem first_zero : lit1 0 = 0#32 := by decide
/-- … and a step off the diagonal is followed by a step of the same row. -/
theorem below_next : ∀ j : Fin 136, ¬isDiag (lit0 j) (lit1 j) → ∃ h : j.val + 1 < 136, lit0 ⟨j.val + 1, h⟩ = lit0 j := by decide

/-! ## The proof data -/

variable (W : (c : Dev nD) → (b : Ref sig .tc) → Buf (Elt F) ((c : Thread nD τ).loc b))

/-- The blocks staged at a point. -/
def Qb (c : Dev nD) (t : Fin grid0.N) : S1x8x1024x256.Idx → Elt F .bf16 := (((cfg0 (F := F) adm).win 0).blk t).view.read (Elt F) (W c main_v9)
def Kb (c : Dev nD) (t : Fin grid0.N) : S1x8x1024x256.Idx → Elt F .bf16 := (((cfg0 (F := F) adm).win 1).blk t).view.read (Elt F) (W c main_v14)
def Vb (c : Dev nD) (t : Fin grid0.N) : S1x8x144x1024.Idx → Elt F .bf16 := (((cfg0 (F := F) adm).win 2).blk t).view.read (Elt F) (W c main_v19)
def Zb (c : Dev nD) (t : Fin grid0.N) : S1x1024x1024.Idx → Elt F .bf16 := (((cfg0 (F := F) adm).win 3).blk t).view.read (Elt F) (W c main_v20)

/-- The running maxima and sums before point `n`. -/
def St (c : Dev nD) : ℕ → MA F
  | 0 => ma₀
  | n + 1 => if h : n < grid0.N then
      tick (Qb W c ⟨n, h⟩) (Kb W c ⟨n, h⟩) (Vb W c ⟨n, h⟩) (qw (grid0.coords ⟨n, h⟩)) (kw (grid0.coords ⟨n, h⟩)) (St c n)
    else ma₀

theorem St_succ (c : Dev nD) (t : Fin grid0.N) :
    St W c (t.val + 1) = tick (Qb W c t) (Kb W c t) (Vb W c t) (qw (grid0.coords t)) (kw (grid0.coords t)) (St W c t.val) := by
  rw [St, dif_pos t.isLt]

/-- The scratch, at `σ`. -/
def scr (c : Dev nD) (σ : Bufs F) : sProp 𝕄 :=
  iprop(owns (c : Thread nD τ) (Memref.whole cc0_scratch0) fullShare σ.s ∗ owns (c : Thread nD τ) (Memref.whole cc0_scratch1) fullShare σ.x
    ∗ owns (c : Thread nD τ) (Memref.whole cc0_scratch2) fullShare σ.m ∗ owns (c : Thread nD τ) (Memref.whole cc0_scratch3) fullShare σ.a)

/-- What holds before point `n`: the running maxima and sums in the scratch, the tables. -/
def Inv (c : Dev nD) (n : ℕ) : sProp 𝕄 :=
  iprop((∃ σ : Bufs F, ⌜n = 0 ∨ σ.ma = St W c n⌝ ∗ scr c σ) ∗ (∃ r, prngReg c r) ∗ Pipeline.ΦT (U := UU nD τ) pre0 (tbl (F := F)) c)

def dats (_ : Fin 1) (c : Dev nD) : Dat τ (Elt F) Unit ℕ (UU nD τ) ℕ (cfg0 (F := F) adm) c where
  A w := W c (Pipeline.arrRef spec0 w)
  after w t := match w with
    | ⟨0, _⟩ => Qb W c t
    | ⟨1, _⟩ => Kb W c t
    | ⟨2, _⟩ => Vb W c t
    | ⟨3, _⟩ => Zb W c t
    | ⟨4, _⟩ => outB (Zb W c t) (St W c (t.val + 1))
    | ⟨_ + 5, h⟩ => absurd h (Nat.not_lt.2 (Nat.le_add_left _ _))
  Φ n := Inv W c n.val
  q _ := fullShare
  owed _ := 0

theorem A_eq (c : Dev nD) (w : Fin 5) : (dats W 0 c).A w = W c (Pipeline.arrRef spec0 w) := by dsimp only [dats]

theorem before0 (c : Dev nD) (t : Fin grid0.N) (d) : (dats W 0 c).before 0 t d = Qb W c t :=
  ((dats W 0 c).before_in_eq_fetched 0 rfl (fun _ => rfl) (fun _ _ _ => rfl) (fun _ => rfl) t d).trans rfl
theorem before1 (c : Dev nD) (t : Fin grid0.N) (d) : (dats W 0 c).before 1 t d = Kb W c t :=
  ((dats W 0 c).before_in_eq_fetched 1 rfl (fun _ => rfl) (fun _ _ _ => rfl) (fun _ => rfl) t d).trans rfl
theorem before2 (c : Dev nD) (t : Fin grid0.N) (d) : (dats W 0 c).before 2 t d = Vb W c t :=
  ((dats W 0 c).before_in_eq_fetched 2 rfl (fun _ => rfl) (fun _ _ _ => rfl) (fun _ => rfl) t d).trans rfl
theorem before3 (c : Dev nD) (t : Fin grid0.N) (d) : (dats W 0 c).before 3 t d = Zb W c t :=
  ((dats W 0 c).before_in_eq_fetched 3 rfl (fun _ => rfl) (fun _ _ _ => rfl) (fun _ => rfl) t d).trans rfl

/-! ## The result's window: idle off the diagonal, and not written back there -/

theorem idle4 (i : grid0.Coords) : (cfg0 (F := F) adm).idle 4 i = !(k0_cond3 (qw i) (kw i) == 1#1) := by
  show (!(k0_cond3 ((tbl (F := F)).atD 0 (k0_off1 i)) ((tbl (F := F)).atD 1 (k0_off1 i)) == 1#1)) = _
  rw [atD0, atD1]

theorem flush_below (t : Fin grid0.N) (hd : ¬isDiag (qw (grid0.coords t)) (kw (grid0.coords t))) : ((cfg0 (F := F) adm).win 4).flush t = false := by
  obtain ⟨hj, e⟩ := below_next (step (grid0.coords t)) hd
  have hj' : (grid0.coords t 2).val + 1 < 136 := hj
  have h2 := coord2 t
  have hN : t.val < 544 := N_0 ▸ t.isLt
  have ht : t.val + 1 < grid0.N := lt_of_lt_of_eq (show t.val + 1 < 544 by omega) N_0.symm
  unfold Window.flush
  rw [decide_eq_false (p := t.val + 1 = grid0.N) (by omega), decide_eq_false, Bool.false_or, Bool.and_false]
  rintro ⟨h, hne⟩
  apply hne
  show cc0_transform_4 k0_off1_inb numel1_S1 (tbl (F := F)) (grid0.coords ⟨t.val + 1, h⟩) = cc0_transform_4 k0_off1_inb numel1_S1 (tbl (F := F)) (grid0.coords t)
  rw [tile_o, tile_o]
  have e0 : (grid0.coords ⟨t.val + 1, h⟩ 0).val = (grid0.coords t 0).val := by rw [coord0, coord0]; show (t.val + 1) / 272 % 2 = _; omega
  have e1 : (grid0.coords ⟨t.val + 1, h⟩ 1).val = (grid0.coords t 1).val := by rw [coord1, coord1]; show (t.val + 1) / 136 % 2 = _; omega
  have e2 : qw (grid0.coords ⟨t.val + 1, h⟩) = qw (grid0.coords t) := by
    refine Eq.trans ?_ e
    refine congrArg lit0 (Fin.ext ?_)
    show (grid0.coords ⟨t.val + 1, h⟩ 2).val = (grid0.coords t 2).val + 1
    rw [coord2, h2]; show (t.val + 1) % 136 = _; omega
  rw [e0, e1, e2]

/-! ## The body at a point -/

abbrev st0 (c : Dev nD) (t : Fin grid0.N) (X : S1x8x1024x256.Idx → Elt F .bf16) : sProp 𝕄 :=
  owns (c : Thread nD τ) (spec0_0.stage ((cfg0 (F := F) adm).slots t 0)) fullShare X
abbrev st1 (c : Dev nD) (t : Fin grid0.N) (X : S1x8x1024x256.Idx → Elt F .bf16) : sProp 𝕄 :=
  owns (c : Thread nD τ) (spec0_1.stage ((cfg0 (F := F) adm).slots t 1)) fullShare X
abbrev st2 (c : Dev nD) (t : Fin grid0.N) (X : S1x8x144x1024.Idx → Elt F .bf16) : sProp 𝕄 :=
  owns (c : Thread nD τ) (spec0_2.stage ((cfg0 (F := F) adm).slots t 2)) fullShare X
abbrev st3 (c : Dev nD) (t : Fin grid0.N) (X : S1x1024x1024.Idx → Elt F .bf16) : sProp 𝕄 :=
  owns (c : Thread nD τ) (spec0_3.stage ((cfg0 (F := F) adm).slots t 3)) fullShare X
abbrev st4 (c : Dev nD) (t : Fin grid0.N) (X : S1x1024x1024.Idx → Elt F .bf16) : sProp 𝕄 :=
  owns (c : Thread nD τ) (spec0_4.stage ((cfg0 (F := F) adm).slots t 4)) fullShare X

/-- What the result's buffer holds before the body, and what the proof data say it holds after. -/
def bef4 (c : Dev nD) (t : Fin grid0.N) (d : S1x1024x1024.Idx → Elt F .bf16) : S1x1024x1024.Idx → Elt F .bf16 := (dats W 0 c).before 4 t d

theorem body_rule (c : Dev nD) (t : Fin grid0.N) (Q K : S1x8x1024x256.Idx → Elt F .bf16) (V : S1x8x144x1024.Idx → Elt F .bf16)
    (Z O : S1x1024x1024.Idx → Elt F .bf16) (σ : Bufs F) :
    iprop(Pipeline.ΦT (U := UU nD τ) pre0 (tbl (F := F)) c ∗ scr c σ ∗ st0 c t Q ∗ st1 c t K ∗ st2 c t V ∗ st3 c t Z ∗ st4 c t O)
      ⊢ wp frame (wpE (defs₀ (F := F)) Variants.none c none) Set.univ
        (defs₀ (F := F) .tc (cfg0 (F := F) adm).body ((cfg0 (F := F) adm).bodyArgs t ((cfg0 (F := F) adm).slots t))) fun _ =>
        iprop(Pipeline.ΦT (U := UU nD τ) pre0 (tbl (F := F)) c ∗ scr c (tileE Q K V (qw (grid0.coords t)) (kw (grid0.coords t)) σ) ∗ st0 c t Q ∗ st1 c t K ∗ st2 c t V
          ∗ st3 c t Z ∗ st4 c t (tileO Q K V Z (qw (grid0.coords t)) (kw (grid0.coords t)) σ O)) := by
  have key := point_rule c (grid0.coords t) (spec0_0.stage ((cfg0 (F := F) adm).slots t 0)) (hstage0_0 (((cfg0 (F := F) adm).slots t 0).cast nbuf0_0))
    (spec0_1.stage ((cfg0 (F := F) adm).slots t 1)) (hstage0_1 (((cfg0 (F := F) adm).slots t 1).cast nbuf0_1))
    (spec0_2.stage ((cfg0 (F := F) adm).slots t 2)) (hstage0_2 (((cfg0 (F := F) adm).slots t 2).cast nbuf0_2))
    (spec0_3.stage ((cfg0 (F := F) adm).slots t 3)) (hstage0_3 (((cfg0 (F := F) adm).slots t 3).cast nbuf0_3))
    (spec0_4.stage ((cfg0 (F := F) adm).slots t 4)) (hstage0_4 (((cfg0 (F := F) adm).slots t 4).cast nbuf0_4))
    (Memref.whole cc0_scratch0) (Memref.isWhole_whole _) (Memref.whole cc0_scratch1) (Memref.isWhole_whole _)
    (Memref.whole cc0_scratch2) (Memref.isWhole_whole _) (Memref.whole cc0_scratch3) (Memref.isWhole_whole _) Q K V Z σ O
  rw [tables_eq]
  generalize tileE Q K V (qw (grid0.coords t)) (kw (grid0.coords t)) σ = σ' at key ⊢
  generalize tileO Q K V Z (qw (grid0.coords t)) (kw (grid0.coords t)) σ O = O' at key ⊢
  unfold scr
  unfold held at key
  refine BIBase.Entails.trans ?_ (BIBase.Entails.trans key (wp_mono _ _ _ fun _ => ?_))
  · iintro ⟨T, ⟨S0, S1, S2, S3⟩, A0, A1, A2, A3, A4⟩
    isplitl [T]; · iexact T
    isplitr [A3 A4]
    · isplitl [A0]; · iexact A0
      isplitl [A1]; · iexact A1
      isplitl [A2]; · iexact A2
      isplitl [S0]; · iexact S0
      isplitl [S1]; · iexact S1
      isplitl [S2]; · iexact S2
      iexact S3
    isplitl [A3]; · iexact A3
    iexact A4
  · iintro ⟨T, ⟨A0, A1, A2, S0, S1, S2, S3⟩, A3, A4⟩
    isplitl [T]; · iexact T
    isplitl [S0 S1 S2 S3]
    · isplitl [S0]; · iexact S0
      isplitl [S1]; · iexact S1
      isplitl [S2]; · iexact S2
      iexact S3
    isplitl [A0]; · iexact A0
    isplitl [A1]; · iexact A1
    isplitl [A2]; · iexact A2
    isplitl [A3]; · iexact A3
    iexact A4

/-- The state after a point: its tile taken into the state before it. -/
theorem ma_next (c : Dev nD) (t : Fin grid0.N) (σ : Bufs F) (h : t.val = 0 ∨ σ.ma = St W c t.val) :
    (tileE (Qb W c t) (Kb W c t) (Vb W c t) (qw (grid0.coords t)) (kw (grid0.coords t)) σ).ma = St W c (t.val + 1) := by
  rw [St_succ]
  rcases h with h | h
  · refine tick_of_first _ _ _ _ _ ?_ _ _
    have : kw (grid0.coords t) = 0#32 := by
      refine Eq.trans (congrArg lit1 (Fin.ext ?_)) first_zero
      show (grid0.coords t 2).val = 0
      rw [coord2, h]
    rw [this]; decide
  · rw [tick_of_eq, h]

/-- The window of the result after the body: off the diagonal as found, on it the finished block. -/
def left4 (c : Dev nD) (t : Fin grid0.N) : sProp 𝕄 :=
  match (cfg0 (F := F) adm).idle 4 (grid0.coords t) with
  | true =>
    match ((cfg0 (F := F) adm).win 4).flush t with
    | false => iprop(∃ d, st4 c t (bef4 W c t d))
    | true => st4 c t (outB (Zb W c t) (St W c (t.val + 1)))
  | false => st4 c t (outB (Zb W c t) (St W c (t.val + 1)))

theorem left4_of (c : Dev nD) (t : Fin grid0.N) (σ : Bufs F) (h : t.val = 0 ∨ σ.ma = St W c t.val) (d) :
    st4 c t (tileO (Qb W c t) (Kb W c t) (Vb W c t) (Zb W c t) (qw (grid0.coords t)) (kw (grid0.coords t)) σ (bef4 W c t d)) ⊢ left4 W c t := by
  unfold left4
  rw [idle4]
  by_cases hd : isDiag (qw (grid0.coords t)) (kw (grid0.coords t))
  · rw [tileO_diag _ _ _ _ _ _ hd, ma_next W c t σ h, show k0_cond3 (qw (grid0.coords t)) (kw (grid0.coords t)) = 1#1 from hd]
    exact .rfl
  · rw [tileO_below _ _ _ _ _ _ hd, flush_below t hd, show (k0_cond3 (qw (grid0.coords t)) (kw (grid0.coords t)) == 1#1) = false from beq_eq_false_iff_ne.2 hd]
    show _ ⊢ iprop(∃ d, st4 c t (bef4 W c t d))
    iintro H
    iexists d
    iexact H

theorem Phi_castSucc (c : Dev nD) (t : Fin grid0.N) : (dats W 0 c).Φ t.castSucc = Inv W c t.val := by
  dsimp only [dats]
  exact Dat.Φ_castSucc (fun n _ => Inv W c n) t
theorem Phi_succ (c : Dev nD) (t : Fin grid0.N) : (dats W 0 c).Φ t.succ = Inv W c (t.val + 1) := by
  dsimp only [dats]
  exact congrArg (Inv W c) (Fin.val_succ t)

/-- The body at a point, from the invariant before it to the invariant after it. -/
theorem body_at (c : Dev nD) (t : Fin grid0.N) :
    iprop(Inv W c t.val ∗ st0 c t (Qb W c t) ∗ st1 c t (Kb W c t) ∗ st2 c t (Vb W c t) ∗ st3 c t (Zb W c t) ∗ (∃ d, st4 c t (bef4 W c t d)))
      ⊢ wp frame (wpE (defs₀ (F := F)) Variants.none c none) Set.univ
        (defs₀ (F := F) .tc (cfg0 (F := F) adm).body ((cfg0 (F := F) adm).bodyArgs t ((cfg0 (F := F) adm).slots t))) fun _ =>
        iprop(Inv W c (t.val + 1) ∗ st0 c t (Qb W c t) ∗ st1 c t (Kb W c t) ∗ st2 c t (Vb W c t) ∗ st3 c t (Zb W c t) ∗ left4 W c t) := by
  unfold Inv
  iintro ⟨⟨⟨%σ, %hσ, HS⟩, HP, HT⟩, H0, H1, H2, H3, ⟨%d4, H4⟩⟩
  have hl := left4_of W c t σ hσ d4
  have hn := ma_next W c t σ hσ
  have key := (sep_mono (.rfl (P := iprop(∃ r, prngReg (Ix := Unit) (Val := Elt F) (Name := ℕ) (U := UU nD τ) (Lvl := ℕ) c r)))
    (body_rule c t (Qb W c t) (Kb W c t) (Vb W c t) (Zb W c t) (bef4 W c t d4) σ)).trans (wp_frame_l _ _ _)
  generalize tileE (Qb W c t) (Kb W c t) (Vb W c t) (qw (grid0.coords t)) (kw (grid0.coords t)) σ = σ' at key hn
  generalize tileO (Qb W c t) (Kb W c t) (Vb W c t) (Zb W c t) (qw (grid0.coords t)) (kw (grid0.coords t)) σ (bef4 W c t d4) = O' at key hl
  have hpost : iprop((∃ r, prngReg (Ix := Unit) (Val := Elt F) (Name := ℕ) (U := UU nD τ) (Lvl := ℕ) c r) ∗ Pipeline.ΦT (U := UU nD τ) pre0 (tbl (F := F)) c ∗ scr c σ'
        ∗ st0 c t (Qb W c t) ∗ st1 c t (Kb W c t) ∗ st2 c t (Vb W c t) ∗ st3 c t (Zb W c t) ∗ st4 c t O')
      ⊢ iprop(((∃ σ : Bufs F, ⌜t.val + 1 = 0 ∨ σ.ma = St W c (t.val + 1)⌝ ∗ scr c σ) ∗ (∃ r, prngReg c r) ∗ Pipeline.ΦT (U := UU nD τ) pre0 (tbl (F := F)) c)
        ∗ st0 c t (Qb W c t) ∗ st1 c t (Kb W c t) ∗ st2 c t (Vb W c t) ∗ st3 c t (Zb W c t) ∗ left4 W c t) := by
    iintro ⟨HP, HT, HS, H0, H1, H2, H3, H4⟩
    isplitl [HP HT HS]
    · isplitl [HS]
      · iexists σ'
        isplitr
        · ipureintro; exact .inr hn
        · iexact HS
      isplitl [HP]; · iexact HP
      iexact HT
    isplitl [H0]; · iexact H0
    isplitl [H1]; · iexact H1
    isplitl [H2]; · iexact H2
    isplitl [H3]; · iexact H3
    iapply hl
    iexact H4
  iapply (key.trans (wp_mono _ _ _ fun _ => hpost))
  isplitl [HP]; · iexact HP
  isplitl [HT]; · iexact HT
  isplitl [HS]; · iexact HS
  isplitl [H0]; · iexact H0
  isplitl [H1]; · iexact H1
  isplitl [H2]; · iexact H2
  isplitl [H3]; · iexact H3
  iexact H4

theorem in0 (c : Dev nD) (t : Fin grid0.N) (d) :
    owns (c : Thread nD τ) (((cfg0 (F := F) adm).win 0).stage ((cfg0 (F := F) adm).slots t 0)) fullShare ((dats W 0 c).before 0 t d) ⊢ st0 c t (Qb W c t) :=
  Entails.of_eq (congrArg (owns (c : Thread nD τ) (spec0_0.stage ((cfg0 (F := F) adm).slots t 0)) fullShare) (before0 W c t d))
theorem in1 (c : Dev nD) (t : Fin grid0.N) (d) :
    owns (c : Thread nD τ) (((cfg0 (F := F) adm).win 1).stage ((cfg0 (F := F) adm).slots t 1)) fullShare ((dats W 0 c).before 1 t d) ⊢ st1 c t (Kb W c t) :=
  Entails.of_eq (congrArg (owns (c : Thread nD τ) (spec0_1.stage ((cfg0 (F := F) adm).slots t 1)) fullShare) (before1 W c t d))
theorem in2 (c : Dev nD) (t : Fin grid0.N) (d) :
    owns (c : Thread nD τ) (((cfg0 (F := F) adm).win 2).stage ((cfg0 (F := F) adm).slots t 2)) fullShare ((dats W 0 c).before 2 t d) ⊢ st2 c t (Vb W c t) :=
  Entails.of_eq (congrArg (owns (c : Thread nD τ) (spec0_2.stage ((cfg0 (F := F) adm).slots t 2)) fullShare) (before2 W c t d))
theorem in3 (c : Dev nD) (t : Fin grid0.N) (d) :
    owns (c : Thread nD τ) (((cfg0 (F := F) adm).win 3).stage ((cfg0 (F := F) adm).slots t 3)) fullShare ((dats W 0 c).before 3 t d) ⊢ st3 c t (Zb W c t) :=
  Entails.of_eq (congrArg (owns (c : Thread nD τ) (spec0_3.stage ((cfg0 (F := F) adm).slots t 3)) fullShare) (before3 W c t d))

theorem out4 (c : Dev nD) (t : Fin grid0.N) : left4 W c t ⊢
    match (cfg0 (F := F) adm).idle 4 ((cfg0 (F := F) adm).grid.coords t) with
    | true =>
      match ((cfg0 (F := F) adm).win 4).flush t with
      | false => iprop(∃ d, owns (c : Thread nD τ) (((cfg0 (F := F) adm).win 4).stage ((cfg0 (F := F) adm).slots t 4)) fullShare ((dats W 0 c).before 4 t d))
      | true => owns (c : Thread nD τ) (((cfg0 (F := F) adm).win 4).stage ((cfg0 (F := F) adm).slots t 4)) fullShare ((dats W 0 c).after 4 t)
    | false => owns (c : Thread nD τ) (((cfg0 (F := F) adm).win 4).stage ((cfg0 (F := F) adm).slots t 4)) fullShare ((dats W 0 c).after 4 t) := .rfl

theorem body_obligation (c : Dev nD) : BodyObligation (dats W 0 c) (defs₀ (F := F)) Variants.none () Set.univ := fun t => by
  have key := (sep_mono (.rfl (P := (dats W 0 c).owesAt () t.castSucc)) (body_at W c t)).trans (wp_frame_l _ _ _)
  rw [bigSep_W0, bigSep_W0, Phi_castSucc, Phi_succ]
  refine BIBase.Entails.trans ?_ (BIBase.Entails.trans key (wp_mono _ _ _ fun _ => ?_))
  · iintro ⟨HI, HO, ⟨%d0, H0⟩, ⟨%d1, H1⟩, ⟨%d2, H2⟩, ⟨%d3, H3⟩, H4⟩
    isplitl [HO]; · iexact HO
    isplitl [HI]; · iexact HI
    isplitl [H0]; · iapply (in0 W c t d0); iexact H0
    isplitl [H1]; · iapply (in1 W c t d1); iexact H1
    isplitl [H2]; · iapply (in2 W c t d2); iexact H2
    isplitl [H3]; · iapply (in3 W c t d3); iexact H3
    iexact H4
  · refine BIBase.Entails.trans (sep_mono .rfl (sep_mono .rfl (sep_mono .rfl (sep_mono .rfl (sep_mono .rfl (sep_mono .rfl (out4 W c t))))))) ?_
    refine BIBase.Entails.trans ?_ (show _ ⊢ _ from .rfl)
    iintro ⟨HO, HI, H0, H1, H2, H3, H4⟩
    isplitl [HI]; · iexact HI
    isplitl [HO]; · iexact HO
    isplitl [H0]; · iexact H0
    isplitl [H1]; · iexact H1
    isplitl [H2]; · iexact H2
    isplitl [H3]; · iexact H3
    iexact H4

end Cert.KernelIdeal.Attn
-- ==== Proof.Launch.lean ====
/-
The run of the whole program: the host operations leave the arguments as they were and the tables at their contents,
and the pipeline leaves the result's array at what its write-backs make of it.
-/
module

public import proofs.«01_k».proof.Proof.Run
public import Idealize.ShloMosaic.Lib.StableHlo.RunRead

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ (UU nD τ) ℕ

variable (m : (ℓ : Loc nD τ sig) → Buf (Elt F) ℓ) (ρ : Dev nD → PrngReg)

/-- The buffers when the pipeline is entered: the host operations have run. -/
abbrev V (c : Dev nD) (b : Ref sig .tc) : Buf (Elt F) ((c : Thread nD τ).loc b) := StableHlo.after hostOps0 (fun b => m (c, b)) b

/-- The buffers the host operations write. -/
abbrev written : List (Ref sig .tc) := [main_c, main_c_0, main_cst, main_v0, main_v1, main_cst_1, main_v2, main_cst_2, main_v3, main_v4, main_cst_3, main_v5, main_v6,
  main_v7, main_v8, main_v9, main_v10, main_v11, main_v12, main_v13, main_v14, main_cst_4, main_v15, main_cst_5, main_v16, main_v17, main_v18, main_v19, main_v20]

theorem not_written (b : Ref sig .tc) (hb : b ∉ written) : ∀ op ∈ (hostOps0 (F := F)), Proc.devRef .tc b ∉ op.writes := by
  simp only [List.mem_cons, List.mem_nil_iff, or_false, not_or] at hb
  intro op hop
  simp only [List.mem_cons, List.mem_nil_iff, or_false] at hop
  obtain ⟨h0, h1, h2, h3, h4, h5, h6, h7, h8, h9, h10, h11, h12, h13, h14, h15, h16, h17, h18, h19, h20, h21, h22, h23, h24, h25, h26, h27, h28⟩ := hb
  rcases hop with rfl | rfl | rfl | rfl | rfl | rfl | rfl | rfl | rfl | rfl | rfl | rfl | rfl | rfl | rfl | rfl | rfl | rfl | rfl | rfl | rfl | rfl | rfl | rfl | rfl | rfl | rfl | rfl | rfl <;>
    simp only [StableHlo.unary_writes, StableHlo.binary_writes, StableHlo.nullary_writes, StableHlo.nary_writes, Finset.mem_singleton] <;>
    exact StableHlo.devRef_ne_of_ne ‹_›

/-- A buffer no host operation writes is as at launch. -/
theorem V_unwritten (c : Dev nD) (b : Ref sig .tc) (hb : b ∉ written) : V m c b = m ((c : Thread nD τ).loc b) :=
  StableHlo.after_of_forall_not_mem (b := Proc.devRef .tc b) hostOps0 (fun b => m (c, b)) (not_written b hb)

/-- The tables hold their contents. -/
theorem V_c (c : Dev nD) : V m c main_c = fun x => lit0 (S136.rowMajor x) := by after_reads_simp; rfl
theorem V_c_0 (c : Dev nD) : V m c main_c_0 = fun x => lit1 (S136.rowMajor x) := by after_reads_simp; rfl
theorem V_tables (c : Dev nD) : ∀ k : Fin 2, V m c (pre0.ref k) = tbl k
  | 0 => V_c m c
  | 1 => V_c_0 m c

theorem Phi_last (c : Dev nD) (W : (c : Dev nD) → (b : Ref sig .tc) → Buf (Elt F) ((c : Thread nD τ).loc b)) :
    (dats W 0 c).Φ (Fin.last (cfg0 (F := F) adm).N) = Inv W c grid0.N := by dsimp only [dats]; rfl
theorem Phi_zero (c : Dev nD) (W : (c : Dev nD) → (b : Ref sig .tc) → Buf (Elt F) ((c : Thread nD τ).loc b)) :
    (dats W 0 c).Φ 0 = Inv W c 0 := by dsimp only [dats]; rfl

theorem scr_intro (c : Dev nD) (f0 : S2x1024x1024.Idx → Elt F .f32) (f1 : S2x1x1024.Idx → Elt F .f32) (f2 : S8x1x1024.Idx → Elt F .f32) (f3 : S8x144x1024.Idx → Elt F .f32) :
    iprop((((c : Thread nD τ).loc cc0_scratch0) ↦{fullShare} f0) ∗ (((c : Thread nD τ).loc cc0_scratch1) ↦{fullShare} f1)
      ∗ (((c : Thread nD τ).loc cc0_scratch2) ↦{fullShare} f2) ∗ (((c : Thread nD τ).loc cc0_scratch3) ↦{fullShare} f3)) ⊢ (scr c ⟨f0, f1, f2, f3⟩ : sProp 𝕄) := by
  unfold scr
  simp only [owns_whole_eq]
  iintro ⟨H0, H1, H2, H3⟩
  isplitl [H0]; · iexists f0; isplitr; (· ipureintro; rfl); iexact H0
  isplitl [H1]; · iexists f1; isplitr; (· ipureintro; rfl); iexact H1
  isplitl [H2]; · iexists f2; isplitr; (· ipureintro; rfl); iexact H2
  iexists f3; isplitr; (· ipureintro; rfl); iexact H3

theorem hin (c : Dev nD) (W : (c : Dev nD) → (b : Ref sig .tc) → Buf (Elt F) ((c : Thread nD τ).loc b)) :
    iprop(Pipeline.ΦA (U := UU nD τ) (Val := Elt F) spec0 c ∗ Pipeline.ΦT (U := UU nD τ) pre0 (tbl (F := F)) c) ⊢ (dats W 0 c).Φ 0 := by
  rw [Phi_zero]
  unfold Inv Pipeline.ΦA
  rw [scopedRest0_eq]
  iintro ⟨⟨⟨⟨%f0, H0⟩, ⟨%f1, H1⟩, ⟨%f2, H2⟩, ⟨%f3, H3⟩⟩, HP⟩, HT⟩
  isplitl [H0 H1 H2 H3]
  · iexists (⟨f0, f1, f2, f3⟩ : Bufs F)
    isplitr
    · ipureintro; exact .inl rfl
    iapply (scr_intro c f0 f1 f2 f3)
    isplitl [H0]; · iexact H0
    isplitl [H1]; · iexact H1
    isplitl [H2]; · iexact H2
    iexact H3
  isplitl [HP]; · iexact HP
  iexact HT

theorem hout (c : Dev nD) (W : (c : Dev nD) → (b : Ref sig .tc) → Buf (Elt F) ((c : Thread nD τ).loc b)) :
    (dats W 0 c).Φ (Fin.last (cfg0 (F := F) adm).N) ⊢ Pipeline.ΦA (U := UU nD τ) (Val := Elt F) spec0 c := by
  rw [Phi_last]
  unfold Inv Pipeline.ΦA scr
  rw [scopedRest0_eq]
  simp only [owns_whole_eq]
  iintro ⟨⟨%σ, -, ⟨⟨%f0, -, H0⟩, ⟨%f1, -, H1⟩, ⟨%f2, -, H2⟩, ⟨%f3, -, H3⟩⟩⟩, HP, -⟩
  isplitr [HP]
  · isplitl [H0]; · iexists f0; iexact H0
    isplitl [H1]; · iexists f1; iexact H1
    isplitl [H2]; · iexists f2; iexact H2
    iexists f3; iexact H3
  iexact HP

theorem hmain : Pipeline.HMainP (Ix := Unit) (Name := ℕ) (U := UR sig nD τ) (Lvl := ℕ) (pcfgs (F := F)) 0 defs₀ Variants.none m main (V m) :=
  Pipeline.hmainP_prefix (pcfgs (F := F)) 0 defs₀ Variants.none m main hostOps0 hostOps0_sub
    ⟨rfl, rfl, rfl, rfl, rfl, rfl, rfl, rfl, rfl, rfl, rfl, rfl, rfl, rfl, rfl, rfl, rfl, rfl, rfl, rfl, rfl, rfl, rfl, rfl, rfl, rfl, rfl, rfl, rfl⟩ main_chain

theorem shares (c : Dev nD) (w : Fin 5) : (dats (V m) 0 c).share w = fullShare := (dats (V m) 0 c).share_full (fun _ => rfl) w
theorem owes (c : Dev nD) (t) : (dats (V m) 0 c).owed t = 0 := rfl

/-- The proof data, at the pinned configuration. -/
abbrev pdats : (p : Fin 1) → (c : Dev nD) → Dat τ (Elt F) Unit ℕ (UR sig nD τ) ℕ (Pipeline.pin (pcfgs (F := F)) (fun _ => adm) p) c := dats (V m)

theorem body_loose (c : Dev nD) : Pipeline.BodyObligationLoose (pdats m 0 c) (defs₀ (F := F)) Variants.none () Set.univ := (body_obligation (V m) c).loose

set_option backward.isDefEq.respectTransparency.types false in
/-- The post: the windows' arrays at what the pipeline's account computes, every other buffer as at its entry, every
    counter at zero. -/
theorem run_frame :
    θ_run (Pipeline.defs (pcfgs (F := F)) defs₀) (onTc (τ := τ) (main (F := F))) (s₀ m ρ)
      (fun r => Pipeline.FramePost (Pipeline.pin (pcfgs (F := F)) fun _ => adm) (pdats m) 0 (V m) r ∧ r.2.sem = fun _ => 0) :=
  Pipeline.θ_run_frameP_track (pcfgs (F := F)) (fun _ => adm) (pdats m) 0 launch0 defs₀ Variants.none m ρ main
    (body_loose m) (shares m) (owes m) (V m) (hmain m) (fun c w => A_eq (V m) c w) (fun c k => V_tables m c k) (fun c => hin c (V m)) (fun c => hout c (V m))
    (fun r => Pipeline.FramePost (Pipeline.pin (pcfgs (F := F)) fun _ => adm) (pdats m) 0 (V m) r ∧ r.2.sem = fun _ => 0) (fun _ h => h)

/-- An argument ends as at launch. -/
theorem arg_kept {r : PUnit × MemSt nD τ sig (Elt F)} (h : Pipeline.FramePost (Pipeline.pin (pcfgs (F := F)) fun _ => adm) (pdats m) 0 (V m) r)
    (c : Dev nD) (b : Ref sig .tc) (hs : b.isScoped = false) (ha : ∀ w, (spec0 w).arr.view.ref ≠ b) (hb : b ∉ written) :
    r.2.mem ((c : Thread nD τ).loc b) = m ((c : Thread nD τ).loc b) :=
  ((h c).2 b (Pipeline.mem_restRefs_of b hs ha)).trans (V_unwritten m c b hb)

/-- The run, as the claims state it: every argument as at launch, the result at what the pipeline's account computes, every
    counter at zero. -/
theorem run_main :
    θ_run (defs (F := F)) (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_v21) = (dats (V m) 0 c).arrAt 4 grid0.N)
      ∧ r.2.sem = fun _ => 0) :=
  (θ_run (defs (F := F)) _ _).mono (fun r h => ⟨fun c =>
    ⟨arg_kept m h.1 c main_arg0 rfl (by decide) (by decide), arg_kept m h.1 c main_arg1 rfl (by decide) (by decide),
      arg_kept m h.1 c main_arg2 rfl (by decide) (by decide), arg_kept m h.1 c main_arg3 rfl (by decide) (by decide),
      arg_kept m h.1 c main_arg4 rfl (by decide) (by decide), arg_kept m h.1 c main_arg5 rfl (by decide) (by decide), (h.1 c).1 4⟩, h.2⟩) (run_frame m ρ)

end Cert.KernelIdeal.Attn
-- ==== Proof.Soft.lean ====
/-
The softmax of one query, as the kernel takes it and as it is defined. The kernel keeps the greatest score so far and
the sums of the weights relative to it, and takes both past a tile of keys by one rescaling (`mx_add`, `sm_add`); its
exponentials are powers of two of scores scaled by `1 / log 2`. `soft_eq` says that its sums over its denominator are
the softmax's mean of the values, whatever extended reals the values are.
-/
module

public import Idealize.ShloMosaic.PureOps.Ideal

@[expose] public section

noncomputable section

namespace Cert.Soft

open Idealize.ShloMosaic

/-! ### Powers of two -/

theorem exp2_bot : Ideal.exp2 ⊥ = 0 := rfl
theorem exp2_coe (r : ℝ) : Ideal.exp2 (r : EReal) = ((2 : ℝ) ^ r : ℝ) := rfl
theorem exp_bot : Ideal.exp ⊥ = 0 := rfl
theorem exp_coe (r : ℝ) : Ideal.exp (r : EReal) = (Real.exp r : ℝ) := rfl

theorem exp2_nonneg (x : EReal) : 0 ≤ Ideal.exp2 x := by
  induction x with
  | bot => exact le_refl _
  | top => exact le_top
  | coe r => rw [exp2_coe]; exact EReal.coe_nonneg.2 (Real.rpow_nonneg (by norm_num) r)

theorem exp2_ne_top {x : EReal} (h : x ≠ ⊤) : Ideal.exp2 x ≠ ⊤ := by
  induction x with
  | bot => rw [exp2_bot]; exact EReal.zero_ne_top
  | top => exact absurd rfl h
  | coe r => rw [exp2_coe]; exact EReal.coe_ne_top _

theorem bot_sub (x : EReal) : (⊥ : EReal) - x = ⊥ := by rw [sub_eq_add_neg, EReal.bot_add]

theorem sub_ne_top {p n : EReal} (h : p ≤ n) (ht : n ≠ ⊤) : p - n ≠ ⊤ := by
  induction n with
  | bot => rw [le_bot_iff.1 h, bot_sub]; exact bot_ne_top
  | top => exact absurd rfl ht
  | coe n =>
    induction p with
    | bot => rw [bot_sub]; exact bot_ne_top
    | top => exact absurd h (by simp)
    | coe p => rw [← EReal.coe_sub]; exact EReal.coe_ne_top _

/-- A weight relative to an earlier maximum, rescaled, is the weight relative to the later one. -/
theorem rescale {s p n : EReal} (hs : s ≤ p) (hn : p ≤ n) (ht : n ≠ ⊤) :
    Ideal.exp2 (p - n) * Ideal.exp2 (s - p) = Ideal.exp2 (s - n) := by
  induction s with
  | bot => rw [bot_sub, bot_sub, exp2_bot, mul_zero]
  | top => exact absurd (top_le_iff.1 (hs.trans hn)) ht
  | coe s =>
    induction p with
    | bot => exact absurd hs (by simp)
    | top => exact absurd (top_le_iff.1 hn) ht
    | coe p =>
      induction n with
      | bot => exact absurd hn (by simp)
      | top => exact absurd rfl ht
      | coe n =>
        rw [← EReal.coe_sub, ← EReal.coe_sub, ← EReal.coe_sub, exp2_coe, exp2_coe, exp2_coe, ← EReal.coe_mul,
          ← Real.rpow_add (by norm_num)]
        congr 2; ring

/-! ### Sums -/

theorem mul_sum_of_nonneg {ι : Type*} (t : Finset ι) (f : ι → EReal) {c : EReal} (h : 0 ≤ c) (ht : c ≠ ⊤) :
    c * ∑ i ∈ t, f i = ∑ i ∈ t, c * f i := by
  classical
  induction t using Finset.induction_on with
  | empty => simp
  | insert a t ha ih => rw [Finset.sum_insert ha, Finset.sum_insert ha, EReal.left_distrib_of_nonneg_of_ne_top h ht, ih]

theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-! ### The running maximum and sums -/

section Running

variable (s v : ℕ → EReal)

/-- The greatest of the first `n` scores. -/
def mx (n : ℕ) : EReal := Finset.univ.sup fun k : Fin n => s k
/-- The values of the first `n` keys under their weights relative to that maximum. -/
def sm (n : ℕ) : EReal := ∑ k : Fin n, v k * Ideal.exp2 (s k - mx s n)

theorem mx_zero : mx s 0 = ⊥ := by simp [mx]
theorem sm_zero : sm s v 0 = 0 := by simp [sm]

theorem le_mx {n k : ℕ} (h : k < n) : s k ≤ mx s n :=
  Finset.le_sup (f := fun k : Fin n => s k) (Finset.mem_univ ⟨k, h⟩)

theorem mx_ne_top (h : ∀ k, s k ≠ ⊤) (n : ℕ) : mx s n ≠ ⊤ :=
  ((Finset.sup_lt_iff (f := fun k : Fin n => s k) bot_lt_top).2 fun k _ => (h k).lt_top).ne

theorem mx_add (n w : ℕ) : mx s (n + w) = max (mx s n) (Finset.univ.sup fun i : Fin w => s (n + i)) := by
  refine le_antisymm (Finset.sup_le fun k _ => ?_) (max_le (Finset.sup_le fun k _ => ?_) (Finset.sup_le fun k _ => ?_))
  · by_cases h : k.val < n
    · exact le_max_of_le_left (le_mx s h)
    · refine le_max_of_le_right ?_
      have e : n + (k.val - n) = k.val := by omega
      have := Finset.le_sup (f := fun i : Fin w => s (n + i)) (Finset.mem_univ ⟨k.val - n, by omega⟩)
      simpa only [e] using this
  · exact le_mx s (by omega)
  · exact le_mx s (by omega)

theorem sum_add (f : ℕ → EReal) (n w : ℕ) : ∑ k : Fin (n + w), f k = (∑ k : Fin n, f k) + ∑ i : Fin w, f (n + i) := by
  rw [Fin.sum_univ_add]; rfl

/-- The sums past `w` more keys: those so far rescaled to the new maximum, and the new keys' own. -/
theorem sm_add (h : ∀ k, s k ≠ ⊤) (n w : ℕ) :
    sm s v (n + w) = Ideal.exp2 (mx s n - mx s (n + w)) * sm s v n + ∑ i : Fin w, v (n + i) * Ideal.exp2 (s (n + i) - mx s (n + w)) := by
  have hle : mx s n ≤ mx s (n + w) := by rw [mx_add]; exact le_max_left _ _
  have ht := mx_ne_top s h (n + w)
  unfold sm
  rw [sum_add (fun k => v k * Ideal.exp2 (s k - mx s (n + w))), mul_sum_of_nonneg _ _ (exp2_nonneg _) (exp2_ne_top (sub_ne_top hle ht))]
  congr 1
  refine Finset.sum_congr rfl fun k _ => ?_
  rw [mul_left_comm, rescale (le_mx s k.isLt) hle ht]

end Running

/-! ### Against the softmax -/

/-- `1 / log 2`, and a score below its query as the softmax's, `-∞` after it. -/
def L : ℝ := 1 / Real.log 2
def masked (q : ℕ) (x : ℕ → ℝ) (k : ℕ) : EReal := if k ≤ q then (x k : EReal) else ⊥

theorem L_pos : 0 < L := one_div_pos.2 (Real.log_pos (by norm_num))

/-- The kernel's scores: the softmax's times `1 / log 2`. -/
def scaled (q : ℕ) (x : ℕ → ℝ) : ℕ → EReal := masked q fun k => L * x k

theorem masked_ne_top (q : ℕ) (x : ℕ → ℝ) (k : ℕ) : masked q x k ≠ ⊤ := by
  unfold masked; split_ifs
  · exact EReal.coe_ne_top _
  · exact bot_ne_top

/-- The softmax's own maximum over `N` keys. -/
def top (q : ℕ) (x : ℕ → ℝ) (N : ℕ) : EReal := Finset.univ.sup fun k : Fin N => masked q x k

theorem top_real (q : ℕ) (x : ℕ → ℝ) {N : ℕ} (h : q < N) : ∃ μ : ℝ, top q x N = μ := by
  have h1 : top q x N ≠ ⊤ := mx_ne_top _ (masked_ne_top q x) N
  have h2 : top q x N ≠ ⊥ := by
    have : masked q x q ≤ top q x N := le_mx (masked q x) h
    rw [masked, if_pos (le_refl _)] at this
    intro e
    rw [e] at this
    exact absurd this (by simp)
  exact ⟨_, (EReal.coe_toReal h1 h2).symm⟩

/-- Past the query every key count gives one maximum. -/
theorem mx_past (q : ℕ) (x : ℕ → ℝ) {n N : ℕ} (h : q < n) (hN : n ≤ N) : mx (masked q x) n = mx (masked q x) N := by
  refine le_antisymm (Finset.sup_le fun k _ => le_mx _ (k.isLt.trans_le hN)) (Finset.sup_le fun k _ => ?_)
  by_cases hk : k.val < n
  · exact le_mx _ hk
  · rw [masked, if_neg (by omega)]; exact bot_le

theorem mx_scaled (q : ℕ) (x : ℕ → ℝ) {n N : ℕ} (h : q < n) (hN : n ≤ N) {μ : ℝ} (hμ : top q x N = μ) :
    mx (scaled q x) n = ((L * μ : ℝ) : EReal) := by
  rw [scaled, mx_past q _ h hN, EReal.coe_mul, ← hμ]
  have hm : Monotone fun y : EReal => (L : EReal) * y := fun a b hab => mul_le_mul_of_nonneg_left hab (EReal.coe_nonneg.2 L_pos.le)
  have := Finset.comp_sup_eq_sup_comp_of_is_total (s := (Finset.univ : Finset (Fin N))) (f := fun k : Fin N => masked q x k)
    (fun y : EReal => (L : EReal) * y) hm (EReal.coe_mul_bot_of_pos L_pos)
  rw [top]
  refine Eq.trans ?_ this.symm
  unfold mx
  congr 1
  funext k
  show masked q _ k = (L : EReal) * masked q x k
  unfold masked
  split_ifs
  · rw [EReal.coe_mul]
  · rw [EReal.coe_mul_bot_of_pos L_pos]

/-- The kernel's weight is the softmax's exponential. -/
theorem weight_eq (q : ℕ) (x : ℕ → ℝ) (k : ℕ) (μ : ℝ) : Ideal.exp2 (scaled q x k - ((L * μ : ℝ) : EReal)) = Ideal.exp (masked q x k - μ) := by
  unfold scaled masked
  split_ifs
  · rw [← EReal.coe_sub, ← EReal.coe_sub, exp2_coe, exp_coe, Real.rpow_def_of_pos (by norm_num), ← mul_sub, ← mul_assoc]
    have : Real.log 2 * L = 1 := by
      unfold L; rw [mul_one_div, div_self (Real.log_pos (by norm_num)).ne']
    rw [this, one_mul]
  · rw [bot_sub, bot_sub]; rfl

/-- The sums past the query are over all the keys: a later key's weight is zero. -/
theorem sm_past (q : ℕ) (x : ℕ → ℝ) (v : ℕ → EReal) {n N : ℕ} (h : q < n) (hN : n ≤ N) {μ : ℝ} (hμ : top q x N = μ) :
    sm (scaled q x) v n = ∑ k : Fin N, v k * Ideal.exp (masked q x k - μ) := by
  unfold sm
  rw [mx_scaled q x h hN hμ]
  simp only [weight_eq]
  obtain ⟨w, rfl⟩ := Nat.exists_eq_add_of_le hN
  rw [sum_add (fun k => v k * Ideal.exp (masked q x k - μ))]
  rw [Finset.sum_eq_zero (s := (Finset.univ : Finset (Fin w))), add_zero]
  intro i _
  rw [masked, if_neg (by omega), bot_sub, exp_bot, mul_zero]

/-- The denominator is a positive real number. -/
theorem den_real (q : ℕ) (x : ℕ → ℝ) {N : ℕ} (h : q < N) (μ : ℝ) :
    ∃ l : ℝ, 0 < l ∧ ∑ k : Fin N, Ideal.exp (masked q x k - μ) = l := by
  have e : ∀ k : ℕ, Ideal.exp (masked q x k - μ) = ((if k ≤ q then Real.exp (x k - μ) else 0 : ℝ) : EReal) := by
    intro k
    unfold masked
    split_ifs
    · rw [← EReal.coe_sub, exp_coe]
    · rw [bot_sub, exp_bot]; rfl
  refine ⟨∑ k : Fin N, if k.val ≤ q then Real.exp (x k - μ) else 0, ?_, ?_⟩
  · refine Finset.sum_pos' (fun k _ => ?_) ⟨⟨q, h⟩, Finset.mem_univ _, ?_⟩
    · split_ifs
      · exact (Real.exp_pos _).le
      · exact le_refl _
    · rw [if_pos (le_refl _)]; exact Real.exp_pos _
  · rw [coe_sum]; exact Finset.sum_congr rfl fun k _ => e k

theorem div_coe_pos (x : EReal) {l : ℝ} (h : 0 < l) : Ideal.div x l = x * ((l⁻¹ : ℝ) : EReal) := by
  rw [Ideal.div, if_neg (by exact_mod_cast h.ne'), EReal.coe_inv]

/-- The kernel's sums over its denominator are the softmax's mean of the values. -/
theorem soft_eq (q : ℕ) (x : ℕ → ℝ) (v : ℕ → EReal) {n N : ℕ} (h : q < n) (hN : n ≤ N) :
    sm (scaled q x) v n * Ideal.div 1 (sm (scaled q x) (fun _ => 1) n)
      = ∑ k : Fin N, v k * Ideal.div (Ideal.exp (masked q x k - top q x N)) (∑ j : Fin N, Ideal.exp (masked q x j - top q x N)) := by
  obtain ⟨μ, hμ⟩ := top_real q x (h.trans_le hN)
  obtain ⟨l, hl, e⟩ := den_real q x (h.trans_le hN) μ
  rw [sm_past q x v h hN hμ, sm_past q x _ h hN hμ, hμ]
  simp only [one_mul]
  rw [e]
  simp only [div_coe_pos _ hl, one_mul]
  rw [mul_comm, mul_sum_of_nonneg _ _ (EReal.coe_nonneg.2 (inv_pos.2 hl).le) (EReal.coe_ne_top _)]
  exact Finset.sum_congr rfl fun k _ => by rw [mul_comm, mul_assoc]

/-- The gate, as the kernel divides it and as the reference multiplies it. -/
theorem gate_eq (z : EReal) : Ideal.div z (1 + Ideal.exp (0 - z)) = z * Ideal.div 1 (1 + Ideal.exp (-z)) := by
  rw [zero_sub]
  have h : (1 : EReal) + Ideal.exp (-z) ≠ 0 := by
    have h0 : 0 ≤ Ideal.exp (-z) := by
      induction -z with
      | bot => exact le_refl _
      | top => exact le_top
      | coe r => rw [exp_coe]; exact EReal.coe_nonneg.2 (Real.exp_pos r).le
    exact (lt_of_lt_of_le zero_lt_one (le_add_of_nonneg_right h0)).ne'
  rw [Ideal.div, if_neg h, Ideal.div, if_neg h, one_mul]

end Cert.Soft
-- ==== Proof.Tile.lean ====
/-
One tile on the extended reals, element by element: head `h`'s running maximum at query `r` becomes the greater of
itself and the tile's scores, and each of its running sums is rescaled and the tile's weighted values are added
(`update_m`, `update_a`). On the diagonal a query meets the keys of its chunk, a key after the query scoring `-∞`.
-/
module

public import proofs.«01_k».proof.Proof.Track
public import proofs.«01_k».proof.Proof.Soft
public import Idealize.ShloMosaic.Lib.MatmulPlain
public import Idealize.ShloMosaic.Lib.ValueLayout
public import Idealize.ShloMosaic.Lib.ValueIdx
public import Idealize.ShloMosaic.Lib.IdealHost
public import Idealize.ShloMosaic.Lib.Pipeline.Value
public import Idealize.ShloMosaic.PureOps.Ideal.Laws

@[expose] public section

noncomputable section

namespace Cert.KernelIdeal.Attn

open Idealize.ShloMosaic Idealize.ShloMosaic.ValueIdx Cert.KernelIdeal Cert.KernelIdeal.Facts₀ Cert.KernelIdeal.Facts

/-! ### The body's operations at an index -/

theorem negInf : (FloatOps.ofBits .f32 0xFF800000#32 : Ideal .f32) = ⊥ := by
  show Ideal.ofBits _ _ = _
  simp [Ideal.ofBits, Ideal.ieee]

theorem fold_max_bot {ι : Type} (t : Finset ι) (f : ι → EReal) : t.fold max ⊥ f = t.sup f := rfl

theorem rawV_apply (n : ℕ) (k : Vec Ideal (SK n) .bf16) (q : Vec Ideal S1x1x256x256 .bf16) (i : Fin n) (j : Fin 256) :
    rawV n k q (ix2 i j) = ∑ l : Fin 256, (k (ix4 (0 : Fin 1) (0 : Fin 1) i l) : EReal) * q (ix4 (0 : Fin 1) (0 : Fin 1) j l) := by
  have e : rawV n k q (ix2 i j) = (constant (Sk n) .f32 0x00000000#32 : FVec Ideal (Sk n) .f32) (ix2 i j)
      + ∑ l : Fin 256, (shapeCast (Sk n) k (cast_K n) (ix2 i l) : EReal) * shapeCast S256x256 q shapeCasts_S1x1x256x256_S256x256 (ix2 j l) :=
    Ideal.matmul_transposedRhs_apply (M := n) (K := 256) (N := 256) (φ₁ := .bf16) (φ₂ := .bf16) none _ _ _ i j
  rw [e, show (constant (Sk n) .f32 0x00000000#32 : FVec Ideal (Sk n) .f32) (ix2 i j) = (0 : EReal) from Ideal.ofBits_zero_f32, zero_add]
  refine Finset.sum_congr rfl fun l _ => ?_
  rw [shapeCast_apply k (cast_K n) (ix2 i l) (ix4 (0 : Fin 1) (0 : Fin 1) i l) (by
      rw [Shape.rowMajor_val_four, Shape.rowMajor_val_two]; show ((0 * 1 + 0) * n + i.val) * 256 + l.val = i.val * 256 + l.val; simp),
    shapeCast_apply q _ (ix2 j l) (ix4 (0 : Fin 1) (0 : Fin 1) j l) (by
      rw [Shape.rowMajor_val_four, Shape.rowMajor_val_two]; show ((0 * 1 + 0) * 256 + j.val) * 256 + l.val = j.val * 256 + l.val; simp)]

/-- Which keys of chunk `c` a query sees. -/
def seen : Bool → ℕ → ℕ → ℕ → Prop
  | false, _, _, _ => True
  | true, c, k, j => k ≤ 256 * c + j
instance (b c k j) : Decidable (seen b c k j) := by cases b <;> (unfold seen; infer_instance)

theorem scoreV_apply (b : Bool) (c : ℕ) (hc : c < 4) (k : Vec Ideal (SK (keys b c)) .bf16) (q : Vec Ideal S1x1x256x256 .bf16) (i : Fin (keys b c)) (j : Fin 256) :
    scoreV b c k q (ix2 i j) = if seen b c i.val j.val then (rawV _ k q (ix2 i j) : EReal) else ⊥ := by
  cases b
  · rfl
  · have hi : i.val < 1024 := lt_of_lt_of_le i.isLt (keys_le true hc)
    have hj := j.isLt
    show (if _ = 1#1 then _ else _) = _
    have e : (cmpi .sge (addi (iota .tc (Sk (keys true c)) 32 [1] (iota1 _)) (broadcast (Sk (keys true c)) (BitVec.ofNat 32 (256 * c))))
      (iota .tc (Sk (keys true c)) 32 [0] (iota0 _))) (ix2 i j) = 1#1 ↔ seen true c i.val j.val := by
      show IntOp.cmpi .sge (IntOp.addi (iota .tc (Sk (keys true c)) 32 [1] (iota1 _) (ix2 i j)) (BitVec.ofNat 32 (256 * c)))
        (iota .tc (Sk (keys true c)) 32 [0] (iota0 _) (ix2 i j)) = 1#1 ↔ i.val ≤ 256 * c + j.val
      rw [iota_single_apply, iota_single_apply, IntOp.cmpi_sge]
      show (BitVec.ofNat 32 i.val).toInt ≤ (BitVec.ofNat 32 j.val + BitVec.ofNat 32 (256 * c)).toInt ↔ _
      rw [← BitVec.ofNat_add, BitVec.toInt_eq_toNat_of_lt (by rw [BitVec.toNat_ofNat]; omega),
        BitVec.toInt_eq_toNat_of_lt (by rw [BitVec.toNat_ofNat]; omega), BitVec.toNat_ofNat, BitVec.toNat_ofNat]
      omega
    by_cases h : seen true c i.val j.val
    · rw [if_pos h, if_pos (e.2 h)]
    · rw [if_neg h, if_neg (mt e.1 h)]; exact negInf

theorem maxV_apply (n : ℕ) (s : FVec Ideal (Sk n) .f32) (u : Fin 1) (j : Fin 256) :
    maxV n s (ix2 u j) = (Finset.univ.sup fun k : Fin n => (s (ix2 k j) : EReal)) := by
  unfold maxV
  rw [shapeCast_a_1a_apply]
  refine (Ideal.multiReduction_maximumf_single (s := Sk n) (t := S256) (a := 0) s _ (red_S n) _ _ _).trans ?_
  rw [negInf, fold_max_bot]
  refine congrArg (Finset.univ.sup) (funext fun k => congrArg s (funext fun a => Fin.ext ?_))
  fin_cases a <;> rfl

theorem cast_M (x : Vec Ideal S1x1x256 .f32) (h : S1x1x256.ShapeCasts S1x256) (u : Fin 1) (j : Fin 256) :
    shapeCast S1x256 x h (ix2 u j) = x (ix3 (0 : Fin 1) u j) := shapeCast_1ab_ab_apply x h u j

theorem newM_apply (m x : Vec Ideal S1x1x256 .f32) (u : Fin 1) (j : Fin 256) :
    newM m x (ix2 u j) = max (m (ix3 (0 : Fin 1) u j) : EReal) (x (ix3 (0 : Fin 1) u j)) := by
  show max (shapeCast S1x256 m _ (ix2 u j) : EReal) (shapeCast S1x256 x _ (ix2 u j)) = _
  rw [cast_M, cast_M]

theorem alphaV_apply (m x : Vec Ideal S1x1x256 .f32) (u : Fin 1) (j : Fin 256) :
    alphaV m x (ix2 u j) = Ideal.exp2 ((m (ix3 (0 : Fin 1) u j) : EReal) - newM m x (ix2 u j)) := by
  show Ideal.exp2 ((shapeCast S1x256 m _ (ix2 u j) : EReal) - _) = _
  rw [cast_M]

theorem bc_row {a : ℕ} (x : FVec Ideal S1x256 .f32) (h : S1x256.Broadcasts ⟨2, ![a, 256]⟩) (i : Fin a) (j : Fin 256) :
    broadcastTo ⟨2, ![a, 256]⟩ x h (ix2 i j) = x (ix2 (0 : Fin 1) j) :=
  broadcastTo_apply x h _ _ fun ax => match ax with | ⟨0, _⟩ => rfl | ⟨1, _⟩ => rfl

theorem weightV_apply (n : ℕ) (m x : Vec Ideal S1x1x256 .f32) (s : Vec Ideal (S1k n) .f32) (i : Fin n) (j : Fin 256) :
    weightV n m x s (ix2 i j) = Ideal.exp2 ((s (ix3 (0 : Fin 1) i j) : EReal) - newM m x (ix2 (0 : Fin 1) j)) := by
  show Ideal.exp2 ((shapeCast (Sk n) s _ (ix2 i j) : EReal) - broadcastTo (Sk n) (newM m x) _ (ix2 i j)) = _
  rw [bc_row, shapeCast_1ab_ab_apply (a := n) (b := 256)]

theorem newA_apply (n : ℕ) (al : FVec Ideal S1x256 .f32) (p : FVec Ideal (Sk n) .bf16) (a : Vec Ideal S1x144x256 .f32) (v : Vec Ideal (SV n) .bf16) (d : Fin 144) (j : Fin 256) :
    newA n al p a v (ix2 d j) = (al (ix2 (0 : Fin 1) j) : EReal) * a (ix3 (0 : Fin 1) d j)
      + ∑ k : Fin n, (v (ix4 (0 : Fin 1) (0 : Fin 1) d k) : EReal) * p (ix2 k j) := by
  have e : newA n al p a v (ix2 d j) = (broadcastTo S144x256 al broadcasts_S1x256_S144x256 (ix2 d j) : EReal) * shapeCast S144x256 a shapeCasts_S1x144x256_S144x256 (ix2 d j)
      + ((constant S144x256 .f32 0x00000000#32 : FVec Ideal S144x256 .f32) (ix2 d j) + ∑ k : Fin n, (shapeCast (Sv n) v (cast_V n) (ix2 d k) : EReal) * p (ix2 k j)) :=
    congrArg (((broadcastTo S144x256 al broadcasts_S1x256_S144x256 (ix2 d j) : EReal) * shapeCast S144x256 a shapeCasts_S1x144x256_S144x256 (ix2 d j)) + ·)
      (Ideal.matmul_plain_apply (M := 144) (K := n) (N := 256) (φ₁ := .bf16) (φ₂ := .bf16) none _ _ _ d j)
  rw [e, bc_row, shapeCast_1ab_ab_apply, show (constant S144x256 .f32 0x00000000#32 : FVec Ideal S144x256 .f32) (ix2 d j) = (0 : EReal) from Ideal.ofBits_zero_f32, zero_add]
  refine congrArg _ (Finset.sum_congr rfl fun k _ => ?_)
  rw [shapeCast_apply v (cast_V n) (ix2 d k) (ix4 (0 : Fin 1) (0 : Fin 1) d k) (by
      rw [Shape.rowMajor_val_four, Shape.rowMajor_val_two]; show ((0 * 1 + 0) * 144 + d.val) * n + k.val = d.val * n + k.val; simp)]

theorem one_f32 : (FloatOps.ofBits .f32 0x3F800000#32 : Ideal .f32) = (1 : EReal) := Ideal.ofBits_one_f32

theorem zero_f32 : (FloatOps.ofBits .f32 0x00000000#32 : Ideal .f32) = (0 : EReal) := Ideal.ofBits_zero_f32

/-- The result of a head: the sum over the denominator, times the gate. -/
theorem outV_apply (z : Vec Ideal S1x1024x128 .bf16) (a : Vec Ideal S1x144x1024 .f32) (r : Fin 1024) (j : Fin 128) :
    outV z a (ix2 r j) = ((a (ix3 (0 : Fin 1) (⟨j.val, by omega⟩ : Fin 144) r) : EReal) * Ideal.div 1 (a (ix3 (0 : Fin 1) (128 : Fin 144) r)))
      * Ideal.div (z (ix3 (0 : Fin 1) r j)) (1 + Ideal.exp (0 - (z (ix3 (0 : Fin 1) r j) : EReal))) := by
  have e1 : ∀ (rcp : FVec Ideal S1x1024 .f32), broadcastTo S128x1024 rcp broadcasts_S1x1024_S128x1024 (ix2 j r) = rcp (ix2 (0 : Fin 1) r) := fun rcp =>
    broadcastTo_apply rcp _ _ _ fun ax => match ax with | ⟨0, _⟩ => rfl | ⟨1, _⟩ => rfl
  have e2 : ∀ (acc : FVec Ideal S144x1024 .f32), extractStridedSlice S128x1024 ![0, 0] acc slices_S144x1024_o0_0_S128x1024 (ix2 j r) = acc (ix2 (⟨j.val, by omega⟩ : Fin 144) r) := fun acc =>
    slice2_axis0_apply 0 acc _ j r _ (Nat.zero_add _).symm
  have e3 : ∀ (acc : FVec Ideal S144x1024 .f32), extractStridedSlice S1x1024 ![128, 0] acc slices_S144x1024_o128_0_S1x1024 (ix2 (0 : Fin 1) r) = acc (ix2 (128 : Fin 144) r) := fun acc =>
    slice2_axis0_apply 128 acc _ (0 : Fin 1) r _ rfl
  have e4 : ∀ d : Fin 144, shapeCast S144x1024 a shapeCasts_S1x144x1024_S144x1024 (ix2 d r) = a (ix3 (0 : Fin 1) d r) := fun d => shapeCast_1ab_ab_apply a _ d r
  have e5 : shapeCast S1024x128 z shapeCasts_S1x1024x128_S1024x128 (ix2 r j) = z (ix3 (0 : Fin 1) r j) := shapeCast_1ab_ab_apply z _ r j
  have ho : ∀ (o : FVec Ideal S128x1024 .f32), transpose S1024x128 [1, 0] o transposes_S128x1024_p1_0_S1024x128 (ix2 r j) = o (ix2 j r) := fun o =>
    transpose_ix2_apply o _ r j
  unfold outV
  dsimp only
  show (transpose S1024x128 [1, 0] _ transposes_S128x1024_p1_0_S1024x128 (ix2 r j) : EReal)
    * Ideal.div (shapeCast S1024x128 z shapeCasts_S1x1024x128_S1024x128 (ix2 r j))
      ((FloatOps.ofBits .f32 0x3F800000#32 : Ideal .f32) + Ideal.exp ((FloatOps.ofBits .f32 0x00000000#32 : Ideal .f32) - (shapeCast S1024x128 z shapeCasts_S1x1024x128_S1024x128 (ix2 r j) : EReal))) = _
  rw [ho, e5, one_f32, zero_f32]
  refine congrArg (· * _) ?_
  refine congrArg₂ (fun x y : EReal => x * y) ((e2 _).trans (e4 _)) ((e1 _).trans ?_)
  refine congrArg₂ Ideal.div rfl ((e3 _).trans (e4 _))

/-! ### The blocks at an index -/

theorem rK_emb (n h : ℕ) (hn : n ≤ 1024) (hh : h < 8) (u v : Fin 1) (i : Fin n) (l : Fin 256) :
    (rK n h hn hh).emb (ix4 u v i l) = ix4 (0 : Fin 1) (⟨h, hh⟩ : Fin 8) (⟨i.val, by omega⟩ : Fin 1024) l := by
  have := u.isLt; have := v.isLt
  funext a; apply Fin.ext; rw [Rect.emb_apply]
  fin_cases a
  · show 0 + 1 * u.val = 0; omega
  · show h + 1 * v.val = h; omega
  · show 0 + 1 * i.val = i.val; omega
  · show 0 + 1 * l.val = l.val; omega
theorem rQ_emb (h c : ℕ) (hh : h < 8) (hc : c < 4) (u v : Fin 1) (j : Fin 256) (l : Fin 256) :
    (rQ h c hh hc).emb (ix4 u v j l) = ix4 (0 : Fin 1) (⟨h, hh⟩ : Fin 8) (⟨256 * c + j.val, by omega⟩ : Fin 1024) l := by
  have := u.isLt; have := v.isLt
  funext a; apply Fin.ext; rw [Rect.emb_apply]
  fin_cases a
  · show 0 + 1 * u.val = 0; omega
  · show h + 1 * v.val = h; omega
  · show 256 * c + 1 * j.val = 256 * c + j.val; omega
  · show 0 + 1 * l.val = l.val; omega
theorem rV_emb (n h : ℕ) (hn : n ≤ 1024) (hh : h < 8) (u v : Fin 1) (d : Fin 144) (i : Fin n) :
    (rV n h hn hh).emb (ix4 u v d i) = ix4 (0 : Fin 1) (⟨h, hh⟩ : Fin 8) d (⟨i.val, by omega⟩ : Fin 1024) := by
  have := u.isLt; have := v.isLt
  funext a; apply Fin.ext; rw [Rect.emb_apply]
  fin_cases a
  · show 0 + 1 * u.val = 0; omega
  · show h + 1 * v.val = h; omega
  · show 0 + 1 * d.val = d.val; omega
  · show 0 + 1 * i.val = i.val; omega
theorem rM_emb (h c : ℕ) (hh : h < 8) (hc : c < 4) (u v : Fin 1) (j : Fin 256) :
    (rM h c hh hc).emb (ix3 u v j) = ix3 (⟨h, hh⟩ : Fin 8) (0 : Fin 1) (⟨256 * c + j.val, by omega⟩ : Fin 1024) := by
  have := u.isLt; have := v.isLt
  funext a; apply Fin.ext; rw [Rect.emb_apply]
  fin_cases a
  · show h + 1 * u.val = h; omega
  · show 0 + 1 * v.val = 0; omega
  · show 256 * c + 1 * j.val = 256 * c + j.val; omega
theorem rA_emb (h c : ℕ) (hh : h < 8) (hc : c < 4) (u : Fin 1) (d : Fin 144) (j : Fin 256) :
    (rA h c hh hc).emb (ix3 u d j) = ix3 (⟨h, hh⟩ : Fin 8) d (⟨256 * c + j.val, by omega⟩ : Fin 1024) := by
  have := u.isLt
  funext a; apply Fin.ext; rw [Rect.emb_apply]
  fin_cases a
  · show h + 1 * u.val = h; omega
  · show 0 + 1 * d.val = d.val; omega
  · show 256 * c + 1 * j.val = 256 * c + j.val; omega
theorem rZ_emb (h : ℕ) (hh : h < 8) (u : Fin 1) (r : Fin 1024) (j : Fin 128) :
    (rZ h hh).emb (ix3 u r j) = ix3 (0 : Fin 1) r (⟨128 * h + j.val, by omega⟩ : Fin 1024) := by
  have := u.isLt
  funext a; apply Fin.ext; rw [Rect.emb_apply]
  fin_cases a
  · show 0 + 1 * u.val = 0; omega
  · show 0 + 1 * r.val = r.val; omega
  · show 128 * h + 1 * j.val = 128 * h + j.val; omega
theorem rH_emb (h : ℕ) (hh : h < 8) (u : Fin 1) (d : Fin 144) (r : Fin 1024) :
    (rH h hh).emb (ix3 u d r) = ix3 (⟨h, hh⟩ : Fin 8) d r := by
  have := u.isLt
  funext a; apply Fin.ext; rw [Rect.emb_apply]
  fin_cases a
  · show h + 1 * u.val = h; omega
  · show 0 + 1 * d.val = d.val; omega
  · show 0 + 1 * r.val = r.val; omega

section

variable (Q K : S1x8x1024x256.Idx → EReal) (V : S1x8x144x1024.Idx → EReal) (b : Bool) (σ : Bufs Ideal)

/-- A query's product with a key. -/
def prod (h : Fin 8) (k r : Fin 1024) : EReal := ∑ l : Fin 256, K (ix4 (0 : Fin 1) h k l) * Q (ix4 (0 : Fin 1) h r l)

/-- Key `k`'s score for query `256 c + j` of a tile. -/
def score (c : ℕ) (hc : c < 4) (h : Fin 8) (k : Fin (keys b c)) (j : Fin 256) : EReal :=
  if seen b c k.val j.val then prod Q K h ⟨k.val, k.isLt.trans_le (keys_le b hc)⟩ ⟨256 * c + j.val, by omega⟩ else ⊥

theorem scoreB_apply (h c : ℕ) (hh : h < 8) (hc : c < 4) (k : Fin (keys b c)) (j : Fin 256) :
    scoreB (F := Ideal) Q K b h c hh hc (ix2 k j) = score Q K b c hc ⟨h, hh⟩ k j := by
  unfold scoreB score prod
  rw [scoreV_apply b c hc, rawV_apply]
  refine if_congr Iff.rfl (Finset.sum_congr rfl fun l _ => ?_) rfl
  rw [rK_emb, rQ_emb]

/-- The maximum after a tile. -/
theorem update_m (h c : ℕ) (hh : h < 8) (hc : c < 4) (j : Fin 256) :
    (updateE (F := Ideal) Q K V b σ).m (ix3 (⟨h, hh⟩ : Fin 8) (0 : Fin 1) (⟨256 * c + j.val, by omega⟩ : Fin 1024))
      = max (σ.m (ix3 (⟨h, hh⟩ : Fin 8) (0 : Fin 1) (⟨256 * c + j.val, by omega⟩ : Fin 1024)) : EReal)
        (Finset.univ.sup fun k : Fin (keys b c) => score Q K b c hc ⟨h, hh⟩ k j) := by
  have e := congrFun (updateE_blocks (F := Ideal) Q K V b σ h c hh hc).1 (ix3 (0 : Fin 1) (0 : Fin 1) j)
  unfold mB mOut at e
  rw [rM_emb] at e
  refine e.trans ?_
  rw [shapeCast_ab_1ab_apply, newM_apply]
  unfold mB xIn
  rw [rM_emb, shapeCast_ab_1ab_apply, maxV_apply]
  simp only [scoreB_apply]

/-- The sums after a tile. -/
theorem update_a (h c : ℕ) (hh : h < 8) (hc : c < 4) (d : Fin 144) (j : Fin 256) :
    (updateE (F := Ideal) Q K V b σ).a (ix3 (⟨h, hh⟩ : Fin 8) d (⟨256 * c + j.val, by omega⟩ : Fin 1024))
      = Ideal.exp2 ((σ.m (ix3 (⟨h, hh⟩ : Fin 8) (0 : Fin 1) (⟨256 * c + j.val, by omega⟩ : Fin 1024)) : EReal)
          - (updateE (F := Ideal) Q K V b σ).m (ix3 (⟨h, hh⟩ : Fin 8) (0 : Fin 1) (⟨256 * c + j.val, by omega⟩ : Fin 1024)))
          * σ.a (ix3 (⟨h, hh⟩ : Fin 8) d (⟨256 * c + j.val, by omega⟩ : Fin 1024))
        + ∑ k : Fin (keys b c), V (ix4 (0 : Fin 1) (⟨h, hh⟩ : Fin 8) d (⟨k.val, k.isLt.trans_le (keys_le b hc)⟩ : Fin 1024))
          * Ideal.exp2 (score Q K b c hc ⟨h, hh⟩ k j
            - (updateE (F := Ideal) Q K V b σ).m (ix3 (⟨h, hh⟩ : Fin 8) (0 : Fin 1) (⟨256 * c + j.val, by omega⟩ : Fin 1024))) := by
  have em := congrFun (updateE_blocks (F := Ideal) Q K V b σ h c hh hc).1 (ix3 (0 : Fin 1) (0 : Fin 1) j)
  unfold mB mOut at em
  rw [rM_emb, shapeCast_ab_1ab_apply] at em
  rw [em]
  have e := congrFun (updateE_blocks (F := Ideal) Q K V b σ h c hh hc).2 (ix3 (0 : Fin 1) d j)
  unfold aB aOut at e
  rw [rA_emb] at e
  refine e.trans ?_
  rw [shapeCast_ab_1ab_apply, newA_apply, alphaV_apply]
  unfold aB vB sIn
  rw [rA_emb]
  have hm : (mB h c hh hc σ (ix3 (0 : Fin 1) (0 : Fin 1) j) : EReal) = σ.m (ix3 (⟨h, hh⟩ : Fin 8) (0 : Fin 1) (⟨256 * c + j.val, by omega⟩ : Fin 1024)) :=
    congrArg σ.m (rM_emb h c hh hc 0 0 j)
  rw [hm]
  refine congrArg _ (Finset.sum_congr rfl fun k _ => ?_)
  rw [weightV_apply, rV_emb, shapeCast_ab_1ab_apply (a := keys b c) (b := 256), scoreB_apply]

variable (Z : S1x1024x1024.Idx → EReal) (S : MA Ideal)

/-- The result's block. -/
theorem outB_apply (h : ℕ) (hh : h < 8) (r : Fin 1024) (j : Fin 128) :
    outB (F := Ideal) Z S (ix3 (0 : Fin 1) r (⟨128 * h + j.val, by omega⟩ : Fin 1024))
      = ((S.2 (ix3 (⟨h, hh⟩ : Fin 8) (⟨j.val, by omega⟩ : Fin 144) r) : EReal) * Ideal.div 1 (S.2 (ix3 (⟨h, hh⟩ : Fin 8) (128 : Fin 144) r)))
        * Ideal.div (Z (ix3 (0 : Fin 1) r (⟨128 * h + j.val, by omega⟩ : Fin 1024))) (1 + Ideal.exp (0 - Z (ix3 (0 : Fin 1) r (⟨128 * h + j.val, by omega⟩ : Fin 1024)))) := by
  have e := epi_block (F := Ideal) Z S.2 Z h hh (ix3 (0 : Fin 1) r j)
  rw [rZ_emb, shapeCast_ab_1ab_apply] at e
  unfold outB
  refine e.trans ?_
  rw [outV_apply, rH_emb, rH_emb, rZ_emb]

end

end Cert.KernelIdeal.Attn
-- ==== Proof.Rows.lean ====
/-
A row of tiles on the extended reals. Point `t` is batch `t / 272`, head group `t / 136 % 2`, and the query tile and
key tile of step `t % 136`. After it, head by head and query by query, the running maximum and sums are those of the
softmax over the keys met so far (`St_row`); after the row's last tile, the diagonal, they are past the query.
-/
module

public import proofs.«01_k».proof.Proof.Run
public import proofs.«01_k».proof.Proof.Tile

@[expose] public section

noncomputable section

namespace Cert.KernelIdeal.Attn

open Idealize.ShloMosaic Idealize.ShloMosaic.TcCoe Idealize.ShloMosaic.ValueIdx
open Idealize.SL
open Idealize.ShloMosaic.Pipeline (Dat Cfg Window)
open Cert.KernelIdeal Cert.KernelIdeal.Gen
open Cert.Soft

theorem ma_fst (σ : Bufs Ideal) : σ.ma.1 = σ.m := rfl
theorem ma_snd (σ : Bufs Ideal) : σ.ma.2 = σ.a := rfl

/-! ### The schedule -/

theorem first_iff : ∀ j : Fin 136, isFirst (lit1 j) ↔ (lit1 j).toNat = 0 := by decide
theorem below_iff : ∀ j : Fin 136, isBelow (lit0 j) (lit1 j) ↔ (lit1 j).toNat < (lit0 j).toNat := by decide
theorem diag_iff : ∀ j : Fin 136, isDiag (lit0 j) (lit1 j) ↔ (lit1 j).toNat = (lit0 j).toNat := by decide
/-- A step past its row's first follows the step of the key tile before. -/
theorem prev_step : ∀ j : Fin 136, (lit1 j).toNat ≠ 0 → 0 < j.val ∧ ∀ h : j.val - 1 < 136,
    (lit0 ⟨j.val - 1, h⟩).toNat = (lit0 j).toNat ∧ (lit1 ⟨j.val - 1, h⟩).toNat + 1 = (lit1 j).toNat := by decide
/-- Every query tile has its diagonal step. -/
theorem diag_step : ∀ q : Fin 16, ∃ j : Fin 136, (lit0 j).toNat = q.val ∧ (lit1 j).toNat = q.val := by decide

/-- The query tile and the key tile of a point. -/
def qi (t : Fin grid0.N) : ℕ := (qw (grid0.coords t)).toNat
def ki (t : Fin grid0.N) : ℕ := (kw (grid0.coords t)).toNat

theorem qi_lt (t : Fin grid0.N) : qi t < 16 := qw_lt _
theorem ki_le (t : Fin grid0.N) : ki t ≤ qi t := lit1_le _

theorem prev_point (t : Fin grid0.N) (h : ki t ≠ 0) :
    ∃ t' : Fin grid0.N, t'.val + 1 = t.val ∧ qi t' = qi t ∧ ki t' + 1 = ki t ∧ t'.val / 272 = t.val / 272 ∧ t'.val / 136 % 2 = t.val / 136 % 2 := by
  obtain ⟨hp, e⟩ := prev_step (step (grid0.coords t)) h
  have h2 := coord2 t
  have hp' : 0 < (grid0.coords t 2).val := hp
  have hlt : (grid0.coords t 2).val - 1 < 136 := by have : (grid0.coords t 2).val < 136 := (grid0.coords t 2).isLt; omega
  have ht : t.val - 1 < grid0.N := by have := t.isLt; omega
  refine ⟨⟨t.val - 1, ht⟩, ?_, ?_, ?_, ?_, ?_⟩
  · show t.val - 1 + 1 = t.val; omega
  all_goals try (show (t.val - 1) / _ = _; omega)
  all_goals try (show (t.val - 1) / _ % 2 = _; omega)
  all_goals
    have es : step (grid0.coords ⟨t.val - 1, ht⟩) = ⟨(grid0.coords t 2).val - 1, hlt⟩ := Fin.ext (by
      show (grid0.coords ⟨t.val - 1, ht⟩ 2).val = (grid0.coords t 2).val - 1
      rw [coord2, h2]; show (t.val - 1) % 136 = _; omega)
  · exact (congrArg (fun j => (lit0 j).toNat) es).trans (e hlt).1
  · exact (congrArg (fun j => (lit1 j).toNat + 1) es).trans (e hlt).2

/-- A tile on the running maxima and sums: a fresh start at the first key tile, then one update. -/
theorem tick_eq (Q K : S1x8x1024x256.Idx → EReal) (V : S1x8x144x1024.Idx → EReal) (t : Fin grid0.N) (S : MA Ideal) :
    tick (F := Ideal) Q K V (qw (grid0.coords t)) (kw (grid0.coords t)) S
      = (updateE (F := Ideal) Q K V (decide (ki t = qi t)) (ofMA (if ki t = 0 then ma₀ else S))).ma := by
  have h0 : (onlyIf (isFirst (kw (grid0.coords t))) initE (ofMA S)).ma = (ofMA (if ki t = 0 then ma₀ else S)).ma := by
    by_cases h : ki t = 0
    · rw [if_pos h, onlyIf_pos ((first_iff _).2 h), init_ma]; rfl
    · rw [if_neg h, onlyIf_neg (mt (first_iff _).1 h)]
  unfold tick tileE
  by_cases h : ki t = qi t
  · rw [decide_eq_true h, onlyIf_pos ((diag_iff _).2 h), onlyIf_neg (mt (below_iff _).1 (show ¬ki t < qi t by omega))]
    exact update_of_eq _ _ _ _ h0
  · have := ki_le t
    rw [decide_eq_false h, onlyIf_neg (mt (diag_iff _).1 h), onlyIf_pos ((below_iff _).2 (show ki t < qi t by omega))]
    exact update_of_eq _ _ _ _ h0

/-! ### The blocks of a point in their arrays -/

variable (W : (c : Dev nD) → (b : Ref sig .tc) → Buf (Elt Ideal) ((c : Thread nD τ).loc b)) (c : Dev nD)

/-- The arrays of queries, keys, values and gates. -/
def AQ : S2x16x16384x256.Idx → EReal := W c main_v9
def AK : S2x16x16384x256.Idx → EReal := W c main_v14
def AV : S2x16x144x16384.Idx → EReal := W c main_v19
def AZ : S2x16384x2048.Idx → EReal := W c main_v20

variable (t : Fin grid0.N)

/-- The batch and the head of a point. -/
def bt : Fin 2 := ⟨t.val / 272, by have := t.isLt; have := N_0; omega⟩
def hd (h : Fin 8) : Fin 16 := ⟨8 * (t.val / 136 % 2) + h.val, by omega⟩
def qt (r : Fin 1024) : Fin 16384 := ⟨1024 * qi t + r.val, by have := qi_lt t; omega⟩
def kt (k : Fin 1024) : Fin 16384 := ⟨1024 * ki t + k.val, by have := qi_lt t; have := ki_le t; omega⟩

theorem c0 : (grid0.coords t 0).val = t.val / 272 := by
  rw [coord0]; have := t.isLt; have := N_0; omega

theorem Qb_apply (h : Fin 8) (r : Fin 1024) (l : Fin 256) :
    Qb (F := Ideal) W c t (ix4 (0 : Fin 1) h r l) = AQ W c (ix4 (bt t) (hd t h) (qt t r) l) := by
  show W c main_v9 ((((cfg0 (F := Ideal) adm).win 0).rect t).emb (ix4 (0 : Fin 1) h r l)) = W c main_v9 _
  refine congrArg (W c main_v9) (funext fun a => Fin.ext ?_)
  have e : ((cfg0 (F := Ideal) adm).win 0).index t = _ := tile_q (grid0.coords t)
  refine (Window.rect_emb_val ((cfg0 (F := Ideal) adm).win 0) t _ a).trans ?_
  rw [e]
  fin_cases a
  · show (grid0.coords t 0).val * 1 + 0 = t.val / 272; rw [c0]; omega
  · show (grid0.coords t 1).val * 8 + h.val = 8 * (t.val / 136 % 2) + h.val; rw [coord1]; omega
  · show qi t * 1024 + r.val = 1024 * qi t + r.val; omega
  · show 0 * 256 + l.val = l.val; omega

theorem Kb_apply (h : Fin 8) (k : Fin 1024) (l : Fin 256) :
    Kb (F := Ideal) W c t (ix4 (0 : Fin 1) h k l) = AK W c (ix4 (bt t) (hd t h) (kt t k) l) := by
  show W c main_v14 ((((cfg0 (F := Ideal) adm).win 1).rect t).emb (ix4 (0 : Fin 1) h k l)) = W c main_v14 _
  refine congrArg (W c main_v14) (funext fun a => Fin.ext ?_)
  have e : ((cfg0 (F := Ideal) adm).win 1).index t = _ := tile_k (grid0.coords t)
  refine (Window.rect_emb_val ((cfg0 (F := Ideal) adm).win 1) t _ a).trans ?_
  rw [e]
  fin_cases a
  · show (grid0.coords t 0).val * 1 + 0 = t.val / 272; rw [c0]; omega
  · show (grid0.coords t 1).val * 8 + h.val = 8 * (t.val / 136 % 2) + h.val; rw [coord1]; omega
  · show ki t * 1024 + k.val = 1024 * ki t + k.val; omega
  · show 0 * 256 + l.val = l.val; omega

theorem Vb_apply (h : Fin 8) (d : Fin 144) (k : Fin 1024) :
    Vb (F := Ideal) W c t (ix4 (0 : Fin 1) h d k) = AV W c (ix4 (bt t) (hd t h) d (kt t k)) := by
  show W c main_v19 ((((cfg0 (F := Ideal) adm).win 2).rect t).emb (ix4 (0 : Fin 1) h d k)) = W c main_v19 _
  refine congrArg (W c main_v19) (funext fun a => Fin.ext ?_)
  have e : ((cfg0 (F := Ideal) adm).win 2).index t = _ := tile_v (grid0.coords t)
  refine (Window.rect_emb_val ((cfg0 (F := Ideal) adm).win 2) t _ a).trans ?_
  rw [e]
  fin_cases a
  · show (grid0.coords t 0).val * 1 + 0 = t.val / 272; rw [c0]; omega
  · show (grid0.coords t 1).val * 8 + h.val = 8 * (t.val / 136 % 2) + h.val; rw [coord1]; omega
  · show 0 * 144 + d.val = d.val; omega
  · show ki t * 1024 + k.val = 1024 * ki t + k.val; omega

theorem Zb_apply (r : Fin 1024) (j : Fin 1024) :
    Zb (F := Ideal) W c t (ix3 (0 : Fin 1) r j) = AZ W c (ix3 (bt t) (qt t r) (⟨1024 * (t.val / 136 % 2) + j.val, by omega⟩ : Fin 2048)) := by
  show W c main_v20 ((((cfg0 (F := Ideal) adm).win 3).rect t).emb (ix3 (0 : Fin 1) r j)) = W c main_v20 _
  refine congrArg (W c main_v20) (funext fun a => Fin.ext ?_)
  have e : ((cfg0 (F := Ideal) adm).win 3).index t = _ := tile_z (grid0.coords t)
  refine (Window.rect_emb_val ((cfg0 (F := Ideal) adm).win 3) t _ a).trans ?_
  rw [e]
  fin_cases a
  · show (grid0.coords t 0).val * 1 + 0 = t.val / 272; rw [c0]; omega
  · show qi t * 1024 + r.val = 1024 * qi t + r.val; omega
  · show (grid0.coords t 1).val * 1024 + j.val = 1024 * (t.val / 136 % 2) + j.val; rw [coord1]; omega

/-! ### The row -/

/-- A query's score for a key, `-∞` after the query; and a key's values. -/
def sc (b : Fin 2) (H : Fin 16) (q : Fin 16384) (k : ℕ) : EReal :=
  if h : k ≤ q.val then ∑ l : Fin 256, AK W c (ix4 b H (⟨k, h.trans_lt q.isLt⟩ : Fin 16384) l) * AQ W c (ix4 b H q l) else ⊥
def va (b : Fin 2) (H : Fin 16) (d : Fin 144) (k : ℕ) : EReal :=
  if h : k < 16384 then AV W c (ix4 b H d (⟨k, h⟩ : Fin 16384)) else 0

/-- The keys that a query of chunk `ch` has met after point `t`. -/
def met (ch : ℕ) : ℕ := 1024 * ki t + keys (decide (ki t = qi t)) ch

theorem score_row (ch : ℕ) (hc : ch < 4) (h : Fin 8) (j : Fin 256) (k : Fin (keys (decide (ki t = qi t)) ch)) :
    score (Qb W c t) (Kb W c t) (decide (ki t = qi t)) ch hc h k j
      = sc W c (bt t) (hd t h) (qt t ⟨256 * ch + j.val, by omega⟩) (1024 * ki t + k.val) := by
  have hk : k.val < 1024 := k.isLt.trans_le (keys_le _ hc)
  have hle := ki_le t
  have hs : seen (decide (ki t = qi t)) ch k.val j.val ↔ 1024 * ki t + k.val ≤ 1024 * qi t + (256 * ch + j.val) := by
    generalize k.val = k' at hk
    by_cases e : ki t = qi t
    · rw [decide_eq_true e, e]; show k' ≤ 256 * ch + j.val ↔ _; omega
    · rw [decide_eq_false e]; show True ↔ _; exact ⟨fun _ => by omega, fun _ => trivial⟩
  unfold score sc prod
  by_cases hq : 1024 * ki t + k.val ≤ 1024 * qi t + (256 * ch + j.val)
  · rw [if_pos (hs.2 hq), dif_pos (show 1024 * ki t + k.val ≤ (qt t ⟨256 * ch + j.val, by omega⟩).val from hq)]
    refine Finset.sum_congr rfl fun l _ => ?_
    rw [Kb_apply, Qb_apply]; rfl
  · rw [if_neg (mt hs.1 hq), dif_neg (show ¬1024 * ki t + k.val ≤ (qt t ⟨256 * ch + j.val, by omega⟩).val from hq)]

theorem value_row (h : Fin 8) (d : Fin 144) (k : Fin 1024) :
    Vb (F := Ideal) W c t (ix4 (0 : Fin 1) h d k) = va W c (bt t) (hd t h) d (1024 * ki t + k.val) := by
  rw [Vb_apply]; unfold va
  rw [dif_pos (show 1024 * ki t + k.val < 16384 by have := qi_lt t; have := ki_le t; omega)]; rfl

/-- One tile takes the state over the keys before it to the state over the keys met after it. -/
theorem update_row (hfin : ∀ b H q k, sc W c b H q k ≠ ⊤) (S : MA Ideal) (h : Fin 8) (ch : ℕ) (hc : ch < 4) (j : Fin 256)
    (hm : S.1 (ix3 h (0 : Fin 1) (⟨256 * ch + j.val, by omega⟩ : Fin 1024)) = mx (sc W c (bt t) (hd t h) (qt t ⟨256 * ch + j.val, by omega⟩)) (1024 * ki t))
    (ha : ∀ d : Fin 144, S.2 (ix3 h d (⟨256 * ch + j.val, by omega⟩ : Fin 1024))
      = sm (sc W c (bt t) (hd t h) (qt t ⟨256 * ch + j.val, by omega⟩)) (va W c (bt t) (hd t h) d) (1024 * ki t)) :
    (updateE (F := Ideal) (Qb W c t) (Kb W c t) (Vb W c t) (decide (ki t = qi t)) (ofMA S)).m (ix3 h (0 : Fin 1) (⟨256 * ch + j.val, by omega⟩ : Fin 1024))
        = mx (sc W c (bt t) (hd t h) (qt t ⟨256 * ch + j.val, by omega⟩)) (met t ch)
      ∧ ∀ d : Fin 144, (updateE (F := Ideal) (Qb W c t) (Kb W c t) (Vb W c t) (decide (ki t = qi t)) (ofMA S)).a (ix3 h d (⟨256 * ch + j.val, by omega⟩ : Fin 1024))
        = sm (sc W c (bt t) (hd t h) (qt t ⟨256 * ch + j.val, by omega⟩)) (va W c (bt t) (hd t h) d) (met t ch) := by
  have e1 : (updateE (F := Ideal) (Qb W c t) (Kb W c t) (Vb W c t) (decide (ki t = qi t)) (ofMA S)).m (ix3 h (0 : Fin 1) (⟨256 * ch + j.val, by omega⟩ : Fin 1024))
        = mx (sc W c (bt t) (hd t h) (qt t ⟨256 * ch + j.val, by omega⟩)) (met t ch) := by
    refine (update_m _ _ _ _ _ h.val ch h.isLt hc j).trans ?_
    unfold met
    rw [mx_add]
    refine congrArg₂ max hm (congrArg _ (funext fun k => ?_))
    exact score_row W c t ch hc h j k
  refine ⟨e1, fun d => ?_⟩
  refine (update_a _ _ _ _ _ h.val ch h.isLt hc d j).trans ?_
  rw [e1]
  unfold met
  rw [sm_add _ _ (hfin _ _ _)]
  refine congrArg₂ (fun x y : EReal => x + y) (congrArg₂ (fun x y : EReal => x * y) (congrArg Ideal.exp2 (congrArg (fun x : EReal => x - _) hm)) (ha d)) (Finset.sum_congr rfl fun k _ => ?_)
  rw [score_row W c t ch hc h j k, value_row]

/-- After point `t` the state is over the keys met. -/
theorem St_row (hfin : ∀ b H q k, sc W c b H q k ≠ ⊤) : ∀ (n : ℕ) (t : Fin grid0.N), t.val = n → ∀ (h : Fin 8) (ch : ℕ) (hc : ch < 4) (j : Fin 256),
    (St (F := Ideal) W c (t.val + 1)).1 (ix3 h (0 : Fin 1) (⟨256 * ch + j.val, by omega⟩ : Fin 1024))
        = mx (sc W c (bt t) (hd t h) (qt t ⟨256 * ch + j.val, by omega⟩)) (met t ch)
      ∧ ∀ d : Fin 144, (St (F := Ideal) W c (t.val + 1)).2 (ix3 h d (⟨256 * ch + j.val, by omega⟩ : Fin 1024))
        = sm (sc W c (bt t) (hd t h) (qt t ⟨256 * ch + j.val, by omega⟩)) (va W c (bt t) (hd t h) d) (met t ch) := by
  intro n
  induction n with
  | zero =>
    intro t ht h ch hc j
    have hk : ki t = 0 := by
      have : kw (grid0.coords t) = 0#32 := (congrArg lit1 (Fin.ext (show (grid0.coords t 2).val = 0 by rw [coord2, ht]))).trans first_zero
      unfold ki; rw [this]; rfl
    rw [St_succ, tick_eq, ma_fst, ma_snd]
    refine update_row W c t hfin _ h ch hc j ?_ fun d => ?_
    · rw [if_pos hk, hk, Nat.mul_zero, mx_zero]; exact negInf
    · rw [if_pos hk, hk, Nat.mul_zero, sm_zero]; exact zero_f32
  | succ n ih =>
    intro t ht h ch hc j
    rw [St_succ, tick_eq, ma_fst, ma_snd]
    by_cases hk : ki t = 0
    · refine update_row W c t hfin _ h ch hc j ?_ fun d => ?_
      · rw [if_pos hk, hk, Nat.mul_zero, mx_zero]; exact negInf
      · rw [if_pos hk, hk, Nat.mul_zero, sm_zero]; exact zero_f32
    · obtain ⟨t', e, eq, ek, eb, eg⟩ := prev_point t hk
      obtain ⟨h1, h2⟩ := ih t' (by omega) h ch hc j
      have hb : bt t' = bt t := Fin.ext eb
      have hh : hd t' h = hd t h := Fin.ext (by show 8 * (t'.val / 136 % 2) + h.val = 8 * (t.val / 136 % 2) + h.val; rw [eg])
      have hq : ∀ r, qt t' r = qt t r := fun r => Fin.ext (by show 1024 * qi t' + r.val = 1024 * qi t + r.val; rw [eq])
      have hm : met t' ch = 1024 * ki t := by
        have := ki_le t
        unfold met; rw [decide_eq_false (by omega)]; show 1024 * ki t' + 1024 = _; omega
      rw [e, hb, hh, hq, hm] at h1
      simp only [e, hb, hh, hq, hm] at h2
      rw [if_neg hk]
      exact update_row W c t hfin _ h ch hc j h1 h2

end Cert.KernelIdeal.Attn
-- ==== Proof.Final.lean ====
/-
The array the run leaves on the extended reals. The diagonal points write back, one block per batch, head group and query
tile, and these blocks make up the whole array, which so holds `out`: the softmax's weighted sum over its denominator,
both over the keys met, times the gate.
-/
module

public import proofs.«01_k».proof.Proof.Rows
public import Idealize.ShloMosaic.Lib.Pipeline.ValueKit.Geometry

@[expose] public section

noncomputable section

namespace Cert.KernelIdeal.Attn

open Idealize.ShloMosaic Idealize.ShloMosaic.TcCoe Idealize.ShloMosaic.ValueIdx
open Idealize.SL
open Idealize.ShloMosaic.Pipeline (Dat Cfg Window)
open Cert.KernelIdeal Cert.KernelIdeal.Gen
open Cert.Soft

/-- A diagonal step is followed by a step of another row. -/
theorem diag_next : ∀ j : Fin 136, (lit1 j).toNat = (lit0 j).toNat → ∀ h : j.val + 1 < 136, (lit0 ⟨j.val + 1, h⟩).toNat ≠ (lit0 j).toNat := by decide

theorem index4 (t : Fin grid0.N) : ((cfg0 (F := Ideal) adm).win 4).index t = ![(grid0.coords t 0).val, qi t, (grid0.coords t 1).val] := tile_o (grid0.coords t)

theorem flush_diag (t : Fin grid0.N) (hd : ki t = qi t) : ((cfg0 (F := Ideal) adm).win 4).flush t = true := by
  have hN : t.val < 544 := N_0 ▸ t.isLt
  unfold Window.flush
  refine Bool.and_eq_true_iff.2 ⟨rfl, Bool.or_eq_true_iff.2 ?_⟩
  by_cases hl : t.val + 1 = grid0.N
  · exact .inl (decide_eq_true hl)
  refine .inr (decide_eq_true ⟨lt_of_le_of_ne t.isLt hl, fun e => ?_⟩)
  rw [index4, index4] at e
  have e0 : (grid0.coords ⟨t.val + 1, lt_of_le_of_ne t.isLt hl⟩ 0).val = (grid0.coords t 0).val := congrFun e 0
  have e1 : qi ⟨t.val + 1, lt_of_le_of_ne t.isLt hl⟩ = qi t := congrFun e 1
  have e2 : (grid0.coords ⟨t.val + 1, lt_of_le_of_ne t.isLt hl⟩ 1).val = (grid0.coords t 1).val := congrFun e 2
  rw [coord1, coord1] at e2
  have e2' : (t.val + 1) / 136 % 2 = t.val / 136 % 2 := e2
  have h2 := coord2 t
  have hj : (grid0.coords t 2).val + 1 < 136 := by omega
  refine diag_next (step (grid0.coords t)) hd hj (Eq.trans (congrArg (fun j => (lit0 j).toNat) (Fin.ext ?_)) e1)
  show (grid0.coords t 2).val + 1 = (grid0.coords ⟨t.val + 1, lt_of_le_of_ne t.isLt hl⟩ 2).val
  rw [coord2, coord2]; show _ = (t.val + 1) % 136; omega

theorem diag_of_flush (t : Fin grid0.N) (h : ((cfg0 (F := Ideal) adm).win 4).flush t = true) : ki t = qi t := by
  by_contra hd
  rw [flush_below t (mt (diag_iff _).1 hd)] at h
  exact Bool.false_ne_true h

/-- The blocks of the diagonal points make up the array. -/
theorem covers4 : ((cfg0 (F := Ideal) adm).win 4).Covers := by
  refine ⟨fun a => by fin_cases a <;> decide, fun β => ?_⟩
  have b0 : (β 0).val < 2 := lt_of_lt_of_eq (β 0).isLt (by decide)
  have b1 : (β 1).val < 16 := lt_of_lt_of_eq (β 1).isLt (by decide)
  have b2 : (β 2).val < 2 := lt_of_lt_of_eq (β 2).isLt (by decide)
  obtain ⟨j, hq, hk⟩ := diag_step ⟨(β 1).val, b1⟩
  have hj := j.isLt
  have ht : 272 * (β 0).val + 136 * (β 2).val + j.val < grid0.N := by rw [N_0]; omega
  obtain ⟨t, et⟩ : ∃ t : Fin grid0.N, t.val = 272 * (β 0).val + 136 * (β 2).val + j.val := ⟨⟨_, ht⟩, rfl⟩
  have es : step (grid0.coords t) = j := Fin.ext (by show (grid0.coords t 2).val = j.val; rw [coord2, et]; omega)
  have eq : qi t = (β 1).val := (congrArg (fun j => (lit0 j).toNat) es).trans hq
  have ek : ki t = (β 1).val := (congrArg (fun j => (lit1 j).toNat) es).trans hk
  refine ⟨t, flush_diag t (ek.trans eq.symm), fun a => ⟨?_, .inl ?_⟩⟩
  · rw [index4]
    fin_cases a
    · show (grid0.coords t 0).val = (β 0).val; rw [coord0, et]; omega
    · exact eq
    · show (grid0.coords t 1).val = (β 2).val; rw [coord1, et]; omega
  · fin_cases a <;> rfl

variable (W : (c : Dev nD) → (b : Ref sig .tc) → Buf (Elt Ideal) ((c : Thread nD τ).loc b)) (c : Dev nD)

/-- The result at batch `b`, query `s`, head `H` and component `d`. -/
def cell (b : Fin 2) (s : Fin 16384) (H : Fin 16) (d : Fin 128) (z : EReal) : EReal :=
  sm (sc W c b H s) (va W c b H ⟨d.val, by omega⟩) (256 * (s.val / 256 + 1))
    * Ideal.div 1 (sm (sc W c b H s) (va W c b H 128) (256 * (s.val / 256 + 1)))
    * Ideal.div z (1 + Ideal.exp (0 - z))

/-- The result. -/
def out : S2x16384x2048.Idx → EReal := fun i =>
  cell W c (i 0) (i 1) ⟨(i 2).val / 128, by have : (i 2).val < 2048 := (i 2).isLt; omega⟩ ⟨(i 2).val % 128, Nat.mod_lt _ (by omega)⟩ (AZ W c i)

theorem out_apply (b : Fin 2) (s : Fin 16384) (H : Fin 16) (d : Fin 128) :
    out W c (ix3 b s (⟨128 * H.val + d.val, by omega⟩ : Fin 2048)) = cell W c b s H d (AZ W c (ix3 b s (⟨128 * H.val + d.val, by omega⟩ : Fin 2048))) := by
  have e1 : (⟨(128 * H.val + d.val) / 128, by omega⟩ : Fin 16) = H := Fin.ext (by show (128 * H.val + d.val) / 128 = H.val; omega)
  have e2 : (⟨(128 * H.val + d.val) % 128, Nat.mod_lt _ (by omega)⟩ : Fin 128) = d := Fin.ext (by show (128 * H.val + d.val) % 128 = d.val; omega)
  show cell W c b s ⟨(128 * H.val + d.val) / 128, _⟩ ⟨(128 * H.val + d.val) % 128, _⟩ _ = _
  rw [e1, e2]

/-- The block a diagonal point leaves. -/
theorem block_out (hfin : ∀ b H q k, sc W c b H q k ≠ ⊤) (t : Fin grid0.N) (hdiag : ki t = qi t) (r : Fin 1024) (x : Fin 1024) :
    outB (F := Ideal) (Zb W c t) (St W c (t.val + 1)) (ix3 (0 : Fin 1) r x)
      = out W c (ix3 (bt t) (qt t r) (⟨1024 * (t.val / 136 % 2) + x.val, by omega⟩ : Fin 2048)) := by
  obtain ⟨h, j, rfl⟩ : ∃ (h : Fin 8) (j : Fin 128), x = ⟨128 * h.val + j.val, by omega⟩ :=
    ⟨⟨x.val / 128, by omega⟩, ⟨x.val % 128, by omega⟩, Fin.ext (by show x.val = 128 * (x.val / 128) + x.val % 128; omega)⟩
  obtain ⟨ch, j', rfl, hc⟩ : ∃ (ch : Fin 4) (j' : Fin 256), r = ⟨256 * ch.val + j'.val, by omega⟩ ∧ True :=
    ⟨⟨r.val / 256, by omega⟩, ⟨r.val % 256, by omega⟩, Fin.ext (by show r.val = 256 * (r.val / 256) + r.val % 256; omega), trivial⟩
  have hx : (⟨1024 * (t.val / 136 % 2) + (128 * h.val + j.val), by omega⟩ : Fin 2048) = ⟨128 * (hd t h).val + j.val, by have := (hd t h).isLt; omega⟩ :=
    Fin.ext (by show 1024 * (t.val / 136 % 2) + (128 * h.val + j.val) = 128 * (8 * (t.val / 136 % 2) + h.val) + j.val; omega)
  have hm : met t ch.val = 256 * ((qt t ⟨256 * ch.val + j'.val, by omega⟩).val / 256 + 1) := by
    unfold met
    rw [decide_eq_true hdiag]
    show 1024 * ki t + 256 * (ch.val + 1) = 256 * ((1024 * qi t + (256 * ch.val + j'.val)) / 256 + 1)
    omega
  obtain ⟨-, ha⟩ := St_row W c hfin t.val t rfl h ch.val ch.isLt j'
  refine (outB_apply _ _ h.val h.isLt _ j).trans ?_
  show _ = out W c (ix3 (bt t) (qt t _) (⟨1024 * (t.val / 136 % 2) + (128 * h.val + j.val), _⟩ : Fin 2048))
  rw [hx, out_apply]
  unfold cell
  rw [← hm]
  have hz := Zb_apply W c t ⟨256 * ch.val + j'.val, by omega⟩ ⟨128 * h.val + j.val, by omega⟩
  have hz' : Zb (F := Ideal) W c t (ix3 (0 : Fin 1) (⟨256 * ch.val + j'.val, by omega⟩ : Fin 1024) (⟨128 * h.val + j.val, by omega⟩ : Fin 1024))
      = AZ W c (ix3 (bt t) (qt t ⟨256 * ch.val + j'.val, by omega⟩) (⟨128 * (hd t h).val + j.val, by have := (hd t h).isLt; omega⟩ : Fin 2048)) :=
    hz.trans (congrArg (fun x => AZ W c (ix3 (bt t) (qt t ⟨256 * ch.val + j'.val, by omega⟩) x)) hx)
  exact congrArg₂ (fun x y : EReal => x * y)
    (congrArg₂ (fun x y : EReal => x * y) (ha ⟨j.val, by omega⟩) (congrArg (Ideal.div 1) (ha 128)))
    (congrArg (fun z : EReal => Ideal.div z (1 + Ideal.exp (0 - z))) hz')

/-- The array after the run. -/
theorem final_out (hfin : ∀ b H q k, sc W c b H q k ≠ ⊤) : (dats (F := Ideal) W 0 c).arrAt 4 grid0.N = out W c := by
  refine (dats (F := Ideal) W 0 c).arrAt_eq_of_covers 4 (out W c) covers4 fun t hf y => ?_
  have hd := diag_of_flush t hf
  obtain ⟨r, x, rfl⟩ : ∃ r x : Fin 1024, y = ix3 (0 : Fin 1) r x :=
    ⟨y 1, y 2, funext fun a => by fin_cases a <;> first | rfl | exact Subsingleton.elim (α := Fin 1) _ _⟩
  refine (block_out W c hfin t hd r x).trans ?_
  show _ = out W c ((((cfg0 (F := Ideal) adm).win 4).rect t).emb (ix3 (0 : Fin 1) r x))
  refine congrArg (out W c) (funext fun a => Fin.ext ?_)
  refine Eq.symm ((Window.rect_emb_val ((cfg0 (F := Ideal) adm).win 4) t _ a).trans ?_)
  rw [index4]
  fin_cases a
  · show (grid0.coords t 0).val * 1 + 0 = t.val / 272; rw [c0]; omega
  · show qi t * 1024 + r.val = 1024 * qi t + r.val; omega
  · show (grid0.coords t 1).val * 1024 + x.val = 1024 * (t.val / 136 % 2) + x.val; rw [coord1]; omega

end Cert.KernelIdeal.Attn
-- ==== Proof.Prep.lean ====
/-
The arrays the pipeline reads, as functions of the arguments: queries and keys are the two parts side by side and zeros,
the queries scaled; the values are transposed over a row of ones and rows of zeros; the gates are as given.
-/
module

public import proofs.«01_k».proof.Proof.Final
public import proofs.«01_k».proof.Proof.Launch

@[expose] public section

noncomputable section

namespace Cert.KernelIdeal.Attn

open Idealize.ShloMosaic Idealize.ShloMosaic.TcCoe Idealize.ShloMosaic.ValueIdx Idealize.ShloMosaic.Tactic
open Cert.KernelIdeal Cert.KernelIdeal.Gen

/-! ### Three pieces side by side -/

section Cat
variable (x : S2x16384x16x128.Idx → EReal) (y z : S2x16384x16x64.Idx → EReal)

/-- The pieces along the last axis. -/
def cat : S2x16384x16x256.Idx → EReal :=
  concatenate S2x16384x16x256 3 [⟨S2x16384x16x128, x⟩, ⟨S2x16384x16x64, y⟩, ⟨S2x16384x16x64, z⟩]
    concatenates_S2x16384x16x128_S2x16384x16x64_S2x16384x16x64_S2x16384x16x256_d3

variable (b : Fin 2) (s : Fin 16384) (H : Fin 16)

theorem cat_lo (l : Fin 128) : cat x y z (ix4 b s H (⟨l.val, by omega⟩ : Fin 256)) = x (ix4 b s H l) := by
  refine concatenate_apply_piece (3 : Fin S2x16384x16x256.rank) _ _ _ 0 (by simp) S2x16384x16x128 x rfl rfl 0 rfl (ix4 b s H l) ?_ ?_
  · intro a ha; fin_cases a <;> first | rfl | exact absurd rfl ha
  · show 0 + l.val = l.val; omega
theorem cat_mid (l : Fin 64) : cat x y z (ix4 b s H (⟨128 + l.val, by omega⟩ : Fin 256)) = y (ix4 b s H l) := by
  refine concatenate_apply_piece (3 : Fin S2x16384x16x256.rank) _ _ _ 1 (by simp) S2x16384x16x64 y rfl rfl 128 rfl (ix4 b s H l) ?_ ?_
  · intro a ha; fin_cases a <;> first | rfl | exact absurd rfl ha
  · rfl
theorem cat_hi (l : Fin 64) : cat x y z (ix4 b s H (⟨192 + l.val, by omega⟩ : Fin 256)) = z (ix4 b s H l) := by
  refine concatenate_apply_piece (3 : Fin S2x16384x16x256.rank) _ _ _ 2 (by simp) S2x16384x16x64 z rfl rfl 192 rfl (ix4 b s H l) ?_ ?_
  · intro a ha; fin_cases a <;> first | rfl | exact absurd rfl ha
  · rfl

end Cat

/-! ### The scale -/

theorem c192 : Ideal.ofBits .f32 0x43400000#32 = ((192 : ℝ) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; norm_num

theorem sqrt192 : Ideal.sqrt ((192 : ℝ) : EReal) = ((Real.sqrt 192 : ℝ) : EReal) := by
  show (if (192 : ℝ) < 0 then (⊥ : EReal) else ((Real.sqrt 192 : ℝ) : EReal)) = _
  rw [if_neg (by norm_num)]
theorem log2 : Ideal.log ((2 : ℝ) : EReal) = ((Real.log 2 : ℝ) : EReal) := by
  show (if (2 : ℝ) ≤ 0 then (⊥ : EReal) else ((Real.log 2 : ℝ) : EReal)) = _
  rw [if_neg (by norm_num)]

/-- The queries' scale, `1 / (√192 · log 2)`. -/
def κ : ℝ := 1 / (Real.sqrt 192 * Real.log 2)

theorem one_div_coe {r : ℝ} (h : r ≠ 0) : Ideal.div 1 ((r : ℝ) : EReal) = ((1 / r : ℝ) : EReal) := by
  unfold Ideal.div
  rw [if_neg (by exact_mod_cast h), one_mul, one_div, EReal.coe_inv]

theorem kappa_eq : Ideal.div (Ideal.ofBits .f32 0x3F800000#32) (Ideal.sqrt (Ideal.ofBits .f32 0x43400000#32) * Ideal.log (Ideal.ofBits .f32 0x40000000#32)) = ((κ : ℝ) : EReal) := by
  rw [c192, c2, sqrt192, log2, ← EReal.coe_mul, Ideal.ofBits_one_f32]
  exact one_div_coe (mul_ne_zero (Real.sqrt_ne_zero'.2 (by norm_num)) (Real.log_pos (by norm_num)).ne')

/-! ### The arrays -/

variable (m : (ℓ : Loc nD τ sig) → Buf (Elt Ideal) ℓ) (c : Dev nD)

/-- The arguments: queries in two parts, keys in two parts, values, gates. -/
def a0 : S2x16384x16x128.Idx → EReal := m ((c : Thread nD τ).loc main_arg0)
def a1 : S2x16384x16x64.Idx → EReal := m ((c : Thread nD τ).loc main_arg1)
def a2 : S2x16384x16x128.Idx → EReal := m ((c : Thread nD τ).loc main_arg2)
def a3 : S2x16384x64.Idx → EReal := m ((c : Thread nD τ).loc main_arg3)
def a4 : S2x16384x16x128.Idx → EReal := m ((c : Thread nD τ).loc main_arg4)
def a5 : S2x16384x2048.Idx → EReal := m ((c : Thread nD τ).loc main_arg5)

def zeros : S2x16384x16x64.Idx → EReal := broadcastInDim S2x16384x16x64 ![] bcast_S_S2x16384x16x64 (constant (F := Ideal) S_ .f32 0x00000000#32)
def shared : S2x16384x16x64.Idx → EReal := broadcastInDim S2x16384x16x64 ![0, 1, 2, 3] bcast_S2x16384x1x64_S2x16384x16x64_0_1_2_3
  (broadcastInDim S2x16384x1x64 ![0, 1, 3] bcast_S2x16384x64_S2x16384x1x64_0_1_3 (a3 m c))

theorem AQ_arr : AQ (V m) c = transpose S2x16x16384x256 [0, 2, 1, 3] (mulf (F := Ideal) (φ := .f32) (cat (a0 m c) (a1 m c) zeros)
    (broadcastInDim S2x16384x16x256 ![] bcast_S_S2x16384x16x256 (Host.divf (F := Ideal) (φ := .f32) (constant S_ .f32 0x3F800000#32)
      (mulf (Host.sqrt (constant S_ .f32 0x43400000#32)) (Host.log (constant S_ .f32 0x40000000#32)))))) transposes_S2x16384x16x256_S2x16x16384x256_0_2_1_3 := by
  unfold AQ cat; after_reads_simp; rfl

theorem AK_arr : AK (V m) c = transpose S2x16x16384x256 [0, 2, 1, 3] (cat (a2 m c) (shared m c) zeros) transposes_S2x16384x16x256_S2x16x16384x256_0_2_1_3 := by
  unfold AK cat; after_reads_simp; rfl

theorem AV_arr : AV (V m) c = concatenate S2x16x144x16384 2 [⟨S2x16x128x16384, transpose S2x16x128x16384 [0, 2, 3, 1] (a4 m c) transposes_S2x16384x16x128_S2x16x128x16384_0_2_3_1⟩,
    ⟨S2x16x1x16384, broadcastInDim S2x16x1x16384 ![] bcast_S_S2x16x1x16384 (constant (F := Ideal) S_ .f32 0x3F800000#32)⟩,
    ⟨S2x16x15x16384, broadcastInDim S2x16x15x16384 ![] bcast_S_S2x16x15x16384 (constant (F := Ideal) S_ .f32 0x00000000#32)⟩]
    concatenates_S2x16x128x16384_S2x16x1x16384_S2x16x15x16384_S2x16x144x16384_d2 := by
  unfold AV; after_reads_simp; rfl

theorem AZ_arr : AZ (V m) c = a5 m c := by
  unfold AZ; after_reads_simp; rfl

variable (b : Fin 2) (H : Fin 16) (s : Fin 16384)

theorem AQ_at (l : Fin 256) : AQ (V m) c (ix4 b H s l) = cat (a0 m c) (a1 m c) zeros (ix4 b s H l) * ((κ : ℝ) : EReal) := by
  rw [AQ_arr]
  refine (transpose_apply _ _ _ _ (ix4 b s H l) (fun a => by fin_cases a <;> rfl)).trans ?_
  exact congrArg (fun x : EReal => _ * x) kappa_eq

theorem AK_at (l : Fin 256) : AK (V m) c (ix4 b H s l) = cat (a2 m c) (shared m c) zeros (ix4 b s H l) := by
  rw [AK_arr]
  exact transpose_apply _ _ _ _ (ix4 b s H l) (fun a => by fin_cases a <;> rfl)

theorem zeros_at (i) : zeros i = 0 := zero_f32
theorem shared_at (l : Fin 64) : shared m c (ix4 b s H l) = a3 m c (ix3 b s l) := by
  refine (broadcastInDim_apply _ _ _ _ (ix4 b s (0 : Fin 1) l) (fun a => by fin_cases a <;> rfl)).trans ?_
  exact broadcastInDim_apply _ _ _ _ (ix3 b s l) (fun a => by fin_cases a <;> rfl)

theorem AV_at (d : Fin 128) : AV (V m) c (ix4 b H (⟨d.val, by omega⟩ : Fin 144) s) = a4 m c (ix4 b s H d) := by
  rw [AV_arr]
  refine (concatenate_apply_piece (2 : Fin S2x16x144x16384.rank) _ _ _ 0 (by simp) S2x16x128x16384 _ rfl rfl 0 rfl (ix4 b H d s) ?_ ?_).trans ?_
  · intro a ha; fin_cases a <;> first | rfl | exact absurd rfl ha
  · show 0 + d.val = d.val; omega
  · exact transpose_apply _ _ _ _ (ix4 b s H d) (fun a => by fin_cases a <;> rfl)

theorem AV_ones : AV (V m) c (ix4 b H (128 : Fin 144) s) = 1 := by
  rw [AV_arr]
  refine (concatenate_apply_piece (2 : Fin S2x16x144x16384.rank) _ _ _ 1 (by simp) S2x16x1x16384 _ rfl rfl 128 rfl (ix4 b H (0 : Fin 1) s) ?_ ?_).trans ?_
  · intro a ha; fin_cases a <;> first | rfl | exact absurd rfl ha
  · rfl
  · exact Ideal.ofBits_one_f32

end Cert.KernelIdeal.Attn
-- ==== Proof.Plain.lean ====
/-
The reference's result at an index: the softmax of the masked scores, as a sum over every key, times the gate. The
scores are the two products' sum over `√192`; a key after the query is at `-∞`.
-/
module

public import proofs.«01_k».proof.Proof.Gen.ReferenceIdeal
public import proofs.«01_k».proof.Proof.Gen.ReferenceIdeal.Run
public import Idealize.ShloMosaic.Lib.MatmulPlain
public import Idealize.ShloMosaic.Lib.ValueIdx
public import Idealize.ShloMosaic.Lib.IdealHost
public import Idealize.ShloMosaic.Lib.Pipeline.Value
public import Idealize.ShloMosaic.PureOps.Ideal.Laws

@[expose] public section

noncomputable section

namespace Cert.ReferenceIdeal.Plain

open Idealize.ShloMosaic Idealize.ShloMosaic.TcCoe Idealize.ShloMosaic.ValueIdx
open Cert.ReferenceIdeal Cert.ReferenceIdeal.Gen

/-- The greatest element along one axis, from `-∞`. -/
theorem reduce_max {s t u : Shape} {a : Fin s.rank} (x : s.Idx → EReal) (init : u.Idx → EReal) (h' : s.ReducesTo [a] t) (h : s.Reduces [a] t) (hu : 0 < u.numel)
    (hi : init (Shape.Idx.first hu) = ⊥) (j : t.Idx) :
    Host.reduce (FloatOps.maximumf (F := Ideal) (φ := .f32)) x init h' hu j = Finset.univ.sup fun k : Fin (s.size a) => x (h.lift j k) := by
  refine (Host.reduce_eq_fold_single (max : EReal → EReal → EReal) x init h' h hu j).trans ?_
  rw [hi]; rfl

section Terms
variable (a0 a2 a4 : FVec Ideal S2x16384x16x128 .f32) (a1 : FVec Ideal S2x16384x16x64 .f32) (a3 : FVec Ideal S2x16384x64 .f32) (a5 : FVec Ideal S2x16384x2048 .f32)

/-- Whether the key is at or before the query. -/
def mask : IVec S2x16x16384x16384 1 :=
  broadcastInDim S2x16x16384x16384 ![2, 3] bcast_S16384x16384_S2x16x16384x16384_2_3 (cmpi .sle
    (broadcastInDim S16384x16384 ![0, 1] bcast_S1x16384_S16384x16384_0_1 (broadcastInDim S1x16384 ![1] bcast_S16384_S1x16384_1 (iotaInDim S16384 32 0)))
    (broadcastInDim S16384x16384 ![0, 1] bcast_S16384x1_S16384x16384_0_1 (broadcastInDim S16384x1 ![0] bcast_S16384_S16384x1_0 (iotaInDim S16384 32 0))))

/-- The products of queries and keys, in two parts. -/
def nope : FVec Ideal S2x16x16384x16384 .f32 := Host.dotGeneral dot_S2x16384x16x128_S2x16384x16x128_S2x16x16384x16384_3_3_1_1_02_02 none a0 a2
def pe : FVec Ideal S2x16384x16384x16 .f32 := Host.dotGeneral dot_S2x16384x64_S2x16384x16x64_S2x16384x16384x16_2_3_1_12_0_0 none a3 a1

/-- The masked scores. -/
def scores : FVec Ideal S2x16x16384x16384 .f32 :=
  select mask (mulf (addf (nope a0 a2) (transpose S2x16x16384x16384 [0, 3, 2, 1] (pe a1 a3) transposes_S2x16384x16384x16_S2x16x16384x16384_0_3_2_1))
      (broadcastInDim S2x16x16384x16384 ![] bcast_S_S2x16x16384x16384 (Host.divf (constant S_ .f32 0x3F800000#32) (Host.sqrt (constant S_ .f32 0x43400000#32)))))
    (broadcastInDim S2x16x16384x16384 ![] bcast_S_S2x16x16384x16384 (id (constant S_ .f32 0xFF800000#32)))

variable (S : FVec Ideal S2x16x16384x16384 .f32)

/-- A row's greatest score; the exponentials less it; their sums. -/
def tops : FVec Ideal S2x16x16384 .f32 := maximumf (broadcastInDim S2x16x16384 ![] bcast_S_S2x16x16384 (constant S_ .f32 0xFF800000#32))
  (Host.reduce FloatOps.maximumf S (constant (F := Ideal) S_ .f32 0xFF800000#32) reducesTo_S2x16x16384x16384_S2x16x16384_d3 h_S_)
def spread (x : FVec Ideal S2x16x16384 .f32) : FVec Ideal S2x16x16384x16384 .f32 :=
  broadcastInDim S2x16x16384x16384 ![0, 1, 2, 3] bcast_S2x16x16384x1_S2x16x16384x16384_0_1_2_3 (broadcastInDim S2x16x16384x1 ![0, 1, 2] bcast_S2x16x16384_S2x16x16384x1_0_1_2 x)
def exps : FVec Ideal S2x16x16384x16384 .f32 := Host.exp (subf S (spread (tops S)))
def sums (e : FVec Ideal S2x16x16384x16384 .f32) : FVec Ideal S2x16x16384 .f32 := Host.reduceAdd e (constant S_ .f32 0x00000000#32) reducesTo_S2x16x16384x16384_S2x16x16384_d3 h_S_
def probs : FVec Ideal S2x16x16384x16384 .f32 := Host.divf (exps S) (spread (sums (exps S)))
def gate : FVec Ideal S2x16384x2048 .f32 := mulf a5 (Host.divf (broadcastInDim S2x16384x2048 ![] bcast_S_S2x16384x2048 (constant S_ .f32 0x3F800000#32))
  (addf (broadcastInDim S2x16384x2048 ![] bcast_S_S2x16384x2048 (constant S_ .f32 0x3F800000#32)) (Host.exp (Host.negf a5))))
def mean (P : FVec Ideal S2x16x16384x16384 .f32) : FVec Ideal S2x16x128x16384 .f32 :=
  Host.dotGeneral dot_S2x16384x16x128_S2x16x16384x16384_S2x16x128x16384_1_3_3_2_02_01 none a4 P
def result : S2x16384x2048.Idx → EReal :=
  truncf .bf16 (mulf (shapeCast S2x16384x2048 (transpose S2x16384x16x128 [0, 3, 1, 2] (mean a4 (probs (scores a0 a2 a1 a3)))
    transposes_S2x16x128x16384_S2x16384x16x128_0_3_1_2) shapeCasts_S2x16384x16x128_S2x16384x2048) (gate a5)) bitsLt_bf16_f32

/-! ### At an index -/

variable (b : Fin 2) (H : Fin 16) (q k : Fin 16384)

theorem nope_at : nope a0 a2 (ix4 b H q k) = ∑ l : Fin 128, a0 (ix4 b q H l) * a2 (ix4 b k H l) := by
  let D := dot_S2x16384x16x128_S2x16384x16x128_S2x16x16384x16384_3_3_1_1_02_02
  have hr : D.contr.rank = 1 := rfl
  have hs : D.contr.size ⟨0, by rw [hr]; exact Nat.one_pos⟩ = 128 := rfl
  refine (Ideal.dotGeneral_apply (d := D) ..).trans ?_
  rw [← Equiv.sum_comp (contrEquiv1 D 128 hr hs).symm]
  refine Finset.sum_congr rfl fun l _ => ?_
  have hk := contrEquiv1_symm_val D 128 hr hs l
  refine congrArg₂ (fun x y : EReal => x * y) (congrArg a0 (funext fun a => Fin.ext ?_)) (congrArg a2 (funext fun a => Fin.ext ?_))
  · match a with
    | ⟨0, _⟩ => rfl
    | ⟨1, _⟩ => rfl
    | ⟨2, _⟩ => rfl
    | ⟨3, _⟩ => exact hk
  · match a with
    | ⟨0, _⟩ => rfl
    | ⟨1, _⟩ => rfl
    | ⟨2, _⟩ => rfl
    | ⟨3, _⟩ => exact hk

theorem pe_at : pe a1 a3 (ix4 b k q H) = ∑ l : Fin 64, a3 (ix3 b k l) * a1 (ix4 b q H l) := by
  let D := dot_S2x16384x64_S2x16384x16x64_S2x16384x16384x16_2_3_1_12_0_0
  have hr : D.contr.rank = 1 := rfl
  have hs : D.contr.size ⟨0, by rw [hr]; exact Nat.one_pos⟩ = 64 := rfl
  refine (Ideal.dotGeneral_apply (d := D) ..).trans ?_
  rw [← Equiv.sum_comp (contrEquiv1 D 64 hr hs).symm]
  refine Finset.sum_congr rfl fun l _ => ?_
  have hk := contrEquiv1_symm_val D 64 hr hs l
  refine congrArg₂ (fun x y : EReal => x * y) (congrArg a3 (funext fun a => Fin.ext ?_)) (congrArg a1 (funext fun a => Fin.ext ?_))
  · match a with
    | ⟨0, _⟩ => rfl
    | ⟨1, _⟩ => rfl
    | ⟨2, _⟩ => exact hk
  · match a with
    | ⟨0, _⟩ => rfl
    | ⟨1, _⟩ => rfl
    | ⟨2, _⟩ => rfl
    | ⟨3, _⟩ => exact hk

theorem mean_at (P : FVec Ideal S2x16x16384x16384 .f32) (d : Fin 128) : mean a4 P (ix4 b H d q) = ∑ k : Fin 16384, a4 (ix4 b k H d) * P (ix4 b H q k) := by
  let D := dot_S2x16384x16x128_S2x16x16384x16384_S2x16x128x16384_1_3_3_2_02_01
  have hr : D.contr.rank = 1 := rfl
  have hs : D.contr.size ⟨0, by rw [hr]; exact Nat.one_pos⟩ = 16384 := rfl
  refine (Ideal.dotGeneral_apply (d := D) ..).trans ?_
  rw [← Equiv.sum_comp (contrEquiv1 D 16384 hr hs).symm]
  refine Finset.sum_congr rfl fun l _ => ?_
  have hk := contrEquiv1_symm_val D 16384 hr hs l
  refine congrArg₂ (fun x y : EReal => x * y) (congrArg a4 (funext fun a => Fin.ext ?_)) (congrArg P (funext fun a => Fin.ext ?_))
  · match a with
    | ⟨0, _⟩ => rfl
    | ⟨1, _⟩ => exact hk
    | ⟨2, _⟩ => rfl
    | ⟨3, _⟩ => rfl
  · match a with
    | ⟨0, _⟩ => rfl
    | ⟨1, _⟩ => rfl
    | ⟨2, _⟩ => rfl
    | ⟨3, _⟩ => exact hk

theorem mask_at : mask (ix4 b H q k) = IntOp.cmpi .sle (BitVec.ofNat 32 k.val) (BitVec.ofNat 32 q.val) := by
  refine (broadcastInDim_apply _ _ _ _ (ix2 q k) (fun a => by fin_cases a <;> rfl)).trans ?_
  refine congrArg₂ (IntOp.cmpi .sle) ?_ ?_
  · refine (broadcastInDim_apply _ _ _ _ (ix2 (0 : Fin 1) k) (fun a => by fin_cases a <;> rfl)).trans ?_
    exact broadcastInDim_apply _ _ _ _ (ix1 k) (fun a => by fin_cases a <;> rfl)
  · refine (broadcastInDim_apply _ _ _ _ (ix2 q (0 : Fin 1)) (fun a => by fin_cases a <;> rfl)).trans ?_
    exact broadcastInDim_apply _ _ _ _ (ix1 q) (fun a => by fin_cases a <;> rfl)

theorem mask_iff : mask (ix4 b H q k) = 1#1 ↔ k.val ≤ q.val := by
  rw [mask_at, IntOp.cmpi_sle]
  have e : ∀ x : Fin 16384, (BitVec.ofNat 32 x.val).toInt = (x.val : ℤ) := fun x => by
    have := x.isLt
    rw [BitVec.toInt_eq_toNat_of_lt (by rw [BitVec.toNat_ofNat]; omega), BitVec.toNat_ofNat, Nat.mod_eq_of_lt (by omega)]
  rw [e, e]; omega

theorem spread_at (x : FVec Ideal S2x16x16384 .f32) : spread x (ix4 b H q k) = x (ix3 b H q) := by
  refine (broadcastInDim_apply _ _ _ _ (ix4 b H q (0 : Fin 1)) (fun a => by fin_cases a <;> rfl)).trans ?_
  exact broadcastInDim_apply _ _ _ _ (ix3 b H q) (fun a => by fin_cases a <;> rfl)

theorem red3 : S2x16x16384x16384.Reduces [3] S2x16x16384 :=
  ⟨reducesTo_S2x16x16384x16384_S2x16x16384_d3.1, by decide, reducesTo_S2x16x16384x16384_S2x16x16384_d3.2⟩

theorem lift3 (k : Fin 16384) : red3.lift (ix3 b H q) k = ix4 b H q k := funext fun a => Fin.ext (by fin_cases a <;> rfl)

theorem tops_at : tops S (ix3 b H q) = Finset.univ.sup fun k : Fin 16384 => S (ix4 b H q k) := by
  have hb : Ideal.ofBits .f32 0xFF800000#32 = (⊥ : EReal) := by simp [Ideal.ofBits, Ideal.ieee]
  unfold tops
  rw [show ∀ x y : FVec Ideal S2x16x16384 .f32, maximumf x y (ix3 b H q) = max (x (ix3 b H q) : EReal) (y (ix3 b H q)) from fun _ _ => rfl,
    reduce_max S _ _ red3 _ hb, broadcastInDim_scalar_apply]
  refine (congrArg (fun x : EReal => max x _) hb).trans ?_
  rw [max_eq_right bot_le]
  exact congrArg (Finset.univ.sup) (funext fun k : Fin 16384 => congrArg S (lift3 b H q k))

theorem sums_at (e : FVec Ideal S2x16x16384x16384 .f32) : sums e (ix3 b H q) = ∑ k : Fin 16384, e (ix4 b H q k) := by
  unfold sums
  rw [hostReduceAdd_apply, Ideal.hostReduceAdd_single _ red3]
  refine (congrArg (fun x : EReal => x + _) Ideal.ofBits_zero_f32).trans ?_
  rw [zero_add]
  exact Finset.sum_congr rfl fun k _ => congrArg e (lift3 b H q k)

theorem probs_at : probs S (ix4 b H q k)
    = Ideal.div (Ideal.exp (S (ix4 b H q k) - Finset.univ.sup fun k : Fin 16384 => S (ix4 b H q k)))
      (∑ j : Fin 16384, Ideal.exp (S (ix4 b H q j) - Finset.univ.sup fun k : Fin 16384 => S (ix4 b H q k))) := by
  have e : ∀ j, exps S (ix4 b H q j) = Ideal.exp (S (ix4 b H q j) - Finset.univ.sup fun k : Fin 16384 => S (ix4 b H q k)) := fun j => by
    show Ideal.exp (S (ix4 b H q j) - spread (tops S) (ix4 b H q j)) = _
    rw [spread_at, tops_at]
  unfold probs
  rw [hostDivf_apply, spread_at, sums_at, e]
  exact congrArg (Ideal.div _) (Finset.sum_congr rfl fun j _ => e j)

theorem scores_at : scores a0 a2 a1 a3 (ix4 b H q k)
    = if k.val ≤ q.val then ((∑ l : Fin 128, a0 (ix4 b q H l) * a2 (ix4 b k H l)) + ∑ l : Fin 64, a3 (ix3 b k l) * a1 (ix4 b q H l))
        * Ideal.div 1 (Ideal.sqrt (Ideal.ofBits .f32 0x43400000#32)) else ⊥ := by
  have hb : Ideal.ofBits .f32 0xFF800000#32 = (⊥ : EReal) := by simp [Ideal.ofBits, Ideal.ieee]
  have ht : transpose S2x16x16384x16384 [0, 3, 2, 1] (pe a1 a3) transposes_S2x16384x16384x16_S2x16x16384x16384_0_3_2_1 (ix4 b H q k) = pe a1 a3 (ix4 b k q H) :=
    transpose_apply _ _ _ _ (ix4 b k q H) (fun a => by fin_cases a <;> rfl)
  have e : scores a0 a2 a1 a3 (ix4 b H q k) = if mask (ix4 b H q k) = 1#1 then (nope a0 a2 (ix4 b H q k)
      + transpose S2x16x16384x16384 [0, 3, 2, 1] (pe a1 a3) transposes_S2x16384x16384x16_S2x16x16384x16384_0_3_2_1 (ix4 b H q k))
        * Ideal.div (Ideal.ofBits .f32 0x3F800000#32) (Ideal.sqrt (Ideal.ofBits .f32 0x43400000#32)) else Ideal.ofBits .f32 0xFF800000#32 := rfl
  rw [e, ht, nope_at, pe_at, hb, Ideal.ofBits_one_f32]
  exact if_congr (mask_iff b H q k) rfl rfl

theorem result_at (d : Fin 128) : result a0 a2 a4 a1 a3 a5 (ix3 b q (⟨128 * H.val + d.val, by omega⟩ : Fin 2048))
    = (∑ k : Fin 16384, a4 (ix4 b k H d) * probs (scores a0 a2 a1 a3) (ix4 b H q k))
      * (a5 (ix3 b q (⟨128 * H.val + d.val, by omega⟩ : Fin 2048)) * Ideal.div 1 (1 + Ideal.exp (-a5 (ix3 b q (⟨128 * H.val + d.val, by omega⟩ : Fin 2048))))) := by
  have e1 : (gate a5 (ix3 b q (⟨128 * H.val + d.val, by omega⟩ : Fin 2048)) : EReal)
      = a5 (ix3 b q (⟨128 * H.val + d.val, by omega⟩ : Fin 2048)) * Ideal.div (Ideal.ofBits .f32 0x3F800000#32) (Ideal.ofBits .f32 0x3F800000#32 + Ideal.exp (-a5 (ix3 b q (⟨128 * H.val + d.val, by omega⟩ : Fin 2048)))) := rfl
  rw [Ideal.ofBits_one_f32] at e1
  refine congrArg₂ (fun x y : EReal => x * y) ?_ e1
  refine (shapeCast_apply _ _ _ (ix4 b q H d) ?_).trans ?_
  · rw [Shape.rowMajor_val_four, Shape.rowMajor_val_three]
    show ((b.val * 16384 + q.val) * 16 + H.val) * 128 + d.val = (b.val * 16384 + q.val) * 2048 + (128 * H.val + d.val)
    omega
  · refine (transpose_apply _ _ _ _ (ix4 b H d q) (fun a => by fin_cases a <;> rfl)).trans ?_
    exact mean_at a4 b H q _ d

end Terms

set_option maxRecDepth 8192 in
/-- The run's composed term is `result`. -/
theorem res_eq (m : (ℓ : Loc nD τ sig) → Buf (Elt Ideal) ℓ) (c : Dev nD) : Value.res_main_v32 m c
    = result (m ((c.tc : Thread nD τ).loc main_arg0)) (m ((c.tc : Thread nD τ).loc main_arg2)) (m ((c.tc : Thread nD τ).loc main_arg4))
        (m ((c.tc : Thread nD τ).loc main_arg1)) (m ((c.tc : Thread nD τ).loc main_arg3)) (m ((c.tc : Thread nD τ).loc main_arg5)) := by
  unfold Value.res_main_v32 result probs exps sums tops spread scores mask nope pe mean gate
  rfl

end Cert.ReferenceIdeal.Plain
-- ==== Proof.Equal.lean ====
/-
The kernel's result is the reference's. With real queries and keys the kernel's scores are the reference's over `log 2`, so
`Soft.soft_eq` makes the kernel's sums over its denominator the softmax's sum over every key.
-/
module

public import proofs.«01_k».proof.Defs
public import proofs.«01_k».proof.Proof.Gen.Pre_finite_scores
public import proofs.«01_k».proof.Proof.Prep
public import proofs.«01_k».proof.Proof.Plain
public import Idealize.ShloMosaic.Lib.ReduceAll

@[expose] public section

noncomputable section

namespace Cert.Equal

open Idealize.ShloMosaic Idealize.ShloMosaic.TcCoe Idealize.ShloMosaic.ValueIdx
open Cert.KernelIdeal Cert.KernelIdeal.Gen Cert.KernelIdeal.Attn Cert.Soft

/-! ### The precondition: real queries and keys -/

theorem real_of_abs_lt (x : EReal) (h : Ideal.cmp .olt (max x (-x)) (Ideal.ofBits .f32 0x7F800000#32) = 1#1) : ∃ r : ℝ, x = r := by
  have ht : Ideal.ofBits .f32 0x7F800000#32 = (⊤ : EReal) := by simp [Ideal.ofBits, Ideal.ieee]
  rw [ht] at h
  induction x with
  | bot => simp [Ideal.cmp] at h
  | top => simp [Ideal.cmp] at h
  | coe r => exact ⟨r, rfl⟩

instance : Subsingleton Cert.Pre_finite_scores.S_.Idx := ⟨fun _ _ => funext fun a => a.elim0⟩

/-- An array whose elements' absolute values are all below `+∞` is an array of reals. -/
theorem real_of_all {s : Shape} {axes : List (Fin s.rank)} (x : FVec Ideal s .f32) (hb : Cert.Pre_finite_scores.S_.BroadcastsInDim s (![] : Fin 0 → Fin s.rank))
    (hr : s.ReducesTo axes Cert.Pre_finite_scores.S_) (hu : 0 < Cert.Pre_finite_scores.S_.numel) (j : Cert.Pre_finite_scores.S_.Idx)
    (h : Host.reduce IntOp.andi (cmpf .olt (Host.absf x) (broadcastInDim s ![] hb (constant (F := Ideal) Cert.Pre_finite_scores.S_ .f32 0x7F800000#32)))
      (constantI Cert.Pre_finite_scores.S_ 1 1#1) hr hu j = 1#1) : ∃ f : s.Idx → ℝ, ∀ i, x i = ((f i : ℝ) : EReal) := by
  have : ∀ i, ∃ r : ℝ, (x i : EReal) = r := fun i => real_of_abs_lt _ (Host.reduce_andi_all _ _ hr hu j h i)
  choose f hf using this
  exact ⟨f, hf⟩

variable (m : (ℓ : Loc nD τ sig) → Buf (Elt Ideal) ℓ) (c : Dev nD)

theorem args_real (h : Cert.Pre_KernelIdeal_finite_scores m) :
    (∃ f : S2x16384x16x128.Idx → ℝ, ∀ i, a0 m c i = ((f i : ℝ) : EReal)) ∧ (∃ f : S2x16384x16x64.Idx → ℝ, ∀ i, a1 m c i = ((f i : ℝ) : EReal))
      ∧ (∃ f : S2x16384x16x128.Idx → ℝ, ∀ i, a2 m c i = ((f i : ℝ) : EReal)) ∧ (∃ f : S2x16384x64.Idx → ℝ, ∀ i, a3 m c i = ((f i : ℝ) : EReal)) := by
  have e := congrFun (h c) ix0
  unfold Cert.Pre_finite_scores.fn Cert.Pre_finite_scores.fn_part1 at e
  obtain ⟨e, h3⟩ := IntOp.andi_eq_one.1 e
  obtain ⟨e, h2⟩ := IntOp.andi_eq_one.1 e
  obtain ⟨h0, h1⟩ := IntOp.andi_eq_one.1 e
  exact ⟨real_of_all _ _ _ _ ix0 h0, real_of_all _ _ _ _ ix0 h1, real_of_all _ _ _ _ ix0 h2, real_of_all _ _ _ _ ix0 h3⟩

/-! ### The scores -/

section Scores
variable (f0 f2 : S2x16384x16x128.Idx → ℝ) (f1 : S2x16384x16x64.Idx → ℝ) (f3 : S2x16384x64.Idx → ℝ) (b : Fin 2) (H : Fin 16) (q : Fin 16384)

/-- The products of a query and a key, over `√192`. -/
def dots (k : Fin 16384) : ℝ :=
  ((∑ l : Fin 128, f0 (ix4 b q H l) * f2 (ix4 b k H l)) + ∑ l : Fin 64, f3 (ix3 b k l) * f1 (ix4 b q H l)) * (1 / Real.sqrt 192)
def X (k : ℕ) : ℝ := if h : k < 16384 then dots f0 f2 f1 f3 b H q ⟨k, h⟩ else 0

theorem X_val (k : Fin 16384) : X f0 f2 f1 f3 b H q k.val = dots f0 f2 f1 f3 b H q k := dif_pos k.isLt

theorem sum256 (g : Fin 256 → EReal) : ∑ l, g l = ((∑ l : Fin 128, g ⟨l.val, by omega⟩) + ∑ l : Fin 64, g ⟨128 + l.val, by omega⟩) + ∑ l : Fin 64, g ⟨192 + l.val, by omega⟩ :=
  (Fin.sum_univ_add (a := 192) (b := 64) g).trans (congrArg (fun x : EReal => x + _) (Fin.sum_univ_add (a := 128) (b := 64) _))

theorem kappa_dots (k : Fin 16384) : ((∑ l : Fin 128, f2 (ix4 b k H l) * (f0 (ix4 b q H l) * κ)) + ∑ l : Fin 64, f3 (ix3 b k l) * (f1 (ix4 b q H l) * κ))
    = L * dots f0 f2 f1 f3 b H q k := by
  have e : κ = L * (1 / Real.sqrt 192) := by unfold κ L; rw [one_div_mul_one_div, mul_comm]
  unfold dots
  rw [e, add_mul, mul_add, Finset.sum_mul, Finset.sum_mul, Finset.mul_sum, Finset.mul_sum]
  exact congrArg₂ _ (Finset.sum_congr rfl fun l _ => by ring) (Finset.sum_congr rfl fun l _ => by ring)

variable (h0 : ∀ i, a0 m c i = ((f0 i : ℝ) : EReal)) (h1 : ∀ i, a1 m c i = ((f1 i : ℝ) : EReal)) (h2 : ∀ i, a2 m c i = ((f2 i : ℝ) : EReal))
  (h3 : ∀ i, a3 m c i = ((f3 i : ℝ) : EReal))
include h0 h1 h2 h3

theorem kernel_scores : sc (V m) c b H q = scaled q.val (X f0 f2 f1 f3 b H q) := by
  funext k
  unfold sc scaled masked
  by_cases hk : k ≤ q.val
  · have hk' : k < 16384 := hk.trans_lt q.isLt
    rw [dif_pos hk, if_pos hk, sum256]
    have e1 : ∀ l : Fin 128, AK (V m) c (ix4 b H ⟨k, hk'⟩ (⟨l.val, by omega⟩ : Fin 256)) * AQ (V m) c (ix4 b H q (⟨l.val, by omega⟩ : Fin 256))
        = ((f2 (ix4 b (⟨k, hk'⟩ : Fin 16384) H l) * (f0 (ix4 b q H l) * κ) : ℝ) : EReal) := fun l => by
      rw [AK_at, AQ_at, cat_lo, cat_lo, h0, h2, ← EReal.coe_mul, ← EReal.coe_mul]
    have e2 : ∀ l : Fin 64, AK (V m) c (ix4 b H ⟨k, hk'⟩ (⟨128 + l.val, by omega⟩ : Fin 256)) * AQ (V m) c (ix4 b H q (⟨128 + l.val, by omega⟩ : Fin 256))
        = ((f3 (ix3 b (⟨k, hk'⟩ : Fin 16384) l) * (f1 (ix4 b q H l) * κ) : ℝ) : EReal) := fun l => by
      rw [AK_at, AQ_at, cat_mid, cat_mid, shared_at, h1, h3, ← EReal.coe_mul, ← EReal.coe_mul]
    have e3 : ∀ l : Fin 64, AK (V m) c (ix4 b H ⟨k, hk'⟩ (⟨192 + l.val, by omega⟩ : Fin 256)) * AQ (V m) c (ix4 b H q (⟨192 + l.val, by omega⟩ : Fin 256)) = 0 := fun l => by
      rw [AK_at, cat_hi, zeros_at, zero_mul]
    rw [Finset.sum_congr rfl fun l _ => e1 l, Finset.sum_congr rfl fun l _ => e2 l, Finset.sum_congr rfl fun l _ => e3 l,
      Finset.sum_const_zero, add_zero, ← coe_sum, ← coe_sum, ← EReal.coe_add, kappa_dots, ← X_val]
  · rw [dif_neg hk, if_neg hk]

theorem plain_scores (k : Fin 16384) :
    Cert.ReferenceIdeal.Plain.scores (a0 m c) (a2 m c) (a1 m c) (a3 m c) (ix4 b H q k) = masked q.val (X f0 f2 f1 f3 b H q) k.val := by
  rw [Cert.ReferenceIdeal.Plain.scores_at, c192, sqrt192, one_div_coe (Real.sqrt_ne_zero'.2 (by norm_num))]
  unfold masked
  rw [X_val]
  refine if_congr Iff.rfl ?_ rfl
  unfold dots
  rw [Finset.sum_congr rfl fun l _ => show a0 m c (ix4 b q H l) * a2 m c (ix4 b k H l) = ((f0 (ix4 b q H l) * f2 (ix4 b k H l) : ℝ) : EReal) by
      rw [h0, h2, ← EReal.coe_mul],
    Finset.sum_congr rfl fun l _ => show a3 m c (ix3 b k l) * a1 m c (ix4 b q H l) = ((f3 (ix3 b k l) * f1 (ix4 b q H l) : ℝ) : EReal) by
      rw [h1, h3, ← EReal.coe_mul],
    ← coe_sum, ← coe_sum, ← EReal.coe_add, ← EReal.coe_mul]

/-- One element of the result. -/
theorem cell_eq (d : Fin 128) (z : EReal) : cell (V m) c b q H d z
    = (∑ k : Fin 16384, a4 m c (ix4 b k H d) * Cert.ReferenceIdeal.Plain.probs (Cert.ReferenceIdeal.Plain.scores (a0 m c) (a2 m c) (a1 m c) (a3 m c)) (ix4 b H q k))
      * (z * Ideal.div 1 (1 + Ideal.exp (-z))) := by
  have hq := q.isLt
  have hv : ∀ n : ℕ, n ≤ 16384 → sm (sc (V m) c b H q) (va (V m) c b H 128) n = sm (sc (V m) c b H q) (fun _ => 1) n := fun n hn =>
    Finset.sum_congr rfl fun k _ => congrArg (fun x : EReal => x * _) (by
      unfold va; rw [dif_pos (show k.val < 16384 by omega)]; exact AV_ones m c b H _)
  unfold cell
  rw [hv _ (by omega), kernel_scores m c f0 f2 f1 f3 b H q h0 h1 h2 h3, soft_eq q.val _ _ (show q.val < 256 * (q.val / 256 + 1) by omega) (show 256 * (q.val / 256 + 1) ≤ 16384 by omega),
    gate_eq]
  refine congrArg₂ (fun x y : EReal => x * y) (Finset.sum_congr rfl fun k _ => ?_) rfl
  have ev : va (V m) c b H ⟨d.val, by omega⟩ k.val = a4 m c (ix4 b k H d) := by
    unfold va; rw [dif_pos k.isLt]; exact AV_at m c b H k d
  rw [ev, Cert.ReferenceIdeal.Plain.probs_at]
  have es := plain_scores m c f0 f2 f1 f3 b H q h0 h1 h2 h3
  have et : (Finset.univ.sup fun k : Fin 16384 => Cert.ReferenceIdeal.Plain.scores (a0 m c) (a2 m c) (a1 m c) (a3 m c) (ix4 b H q k))
      = top q.val (X f0 f2 f1 f3 b H q) 16384 := congrArg (Finset.univ.sup) (funext es)
  rw [et, es k]
  refine congrArg₂ (fun x y : EReal => x * y) rfl (congrArg₂ Ideal.div rfl (Finset.sum_congr rfl fun j _ => ?_))
  rw [es j]

end Scores

/-- The array after the kernel's run is the reference's result. -/
theorem out_eq (h : Cert.Pre_KernelIdeal_finite_scores m) :
    (dats (F := Ideal) (V m) 0 c).arrAt 4 grid0.N = Cert.ReferenceIdeal.Plain.result (a0 m c) (a2 m c) (a4 m c) (a1 m c) (a3 m c) (a5 m c) := by
  obtain ⟨⟨f0, h0⟩, ⟨f1, h1⟩, ⟨f2, h2⟩, ⟨f3, h3⟩⟩ := args_real m c h
  refine (final_out (V m) c fun b H q k => ?_).trans (funext fun i => ?_)
  · rw [kernel_scores m c f0 f2 f1 f3 b H q h0 h1 h2 h3]; exact masked_ne_top _ _ _
  · obtain ⟨b, s, H, d, rfl⟩ : ∃ (b : Fin 2) (s : Fin 16384) (H : Fin 16) (d : Fin 128), i = ix3 b s (⟨128 * H.val + d.val, by omega⟩ : Fin 2048) := by
      have hl : (i 2).val < 2048 := (i 2).isLt
      refine ⟨i 0, i 1, ⟨(i 2).val / 128, by omega⟩, ⟨(i 2).val % 128, by omega⟩, funext fun a => Fin.ext ?_⟩
      fin_cases a
      · rfl
      · rfl
      · show (i 2).val = 128 * ((i 2).val / 128) + (i 2).val % 128; omega
    rw [out_apply, AZ_arr, Cert.ReferenceIdeal.Plain.result_at]
    exact cell_eq m c f0 f2 f1 f3 b H s h0 h1 h2 h3 d _

end Cert.Equal
-- ==== Proof.Tokens.lean ====
/-
Batch and position of a token, for programs that work on the tokens of both batches in one list, and a host product
over the last axis of an array at an index.
-/
module

public import Idealize.ShloMosaic.Lib.MatmulPlain
public import Idealize.ShloMosaic.Lib.ValueIdx
public import Idealize.ShloMosaic.Lib.IdealHost
public import Idealize.ShloMosaic.Lib.Pipeline.Value
public import Idealize.ShloMosaic.PureOps.Ideal.Laws

@[expose] public section

noncomputable section

namespace Cert.Tokens

open Idealize.ShloMosaic Idealize.ShloMosaic.ValueIdx

/-- A token's batch and its position there. -/
def bat (r : Fin 32768) : Fin 2 := ⟨r.val / 16384, by omega⟩
def pos (r : Fin 32768) : Fin 16384 := ⟨r.val % 16384, Nat.mod_lt _ (by omega)⟩

/-- The array with both batches in one list of tokens. -/
theorem list_apply {α : Type} {N : ℕ} (x : (⟨3, ![2, 16384, N]⟩ : Shape).Idx → α) (h : (⟨3, ![2, 16384, N]⟩ : Shape).ShapeCasts ⟨2, ![32768, N]⟩)
    (r : Fin 32768) (k : Fin N) : shapeCast ⟨2, ![32768, N]⟩ x h (ix2 r k) = x (ix3 (bat r) (pos r) k) :=
  shapeCast_apply x h (ix2 r k) (ix3 (bat r) (pos r) k) (by
    rw [Shape.rowMajor_val_three, Shape.rowMajor_val_two]
    show (r.val / 16384 * 16384 + r.val % 16384) * N + k.val = r.val * N + k.val
    rw [show r.val / 16384 * 16384 + r.val % 16384 = r.val by omega])

/-- A host product of an array's last axis with a matrix's first. -/
theorem dot_apply {N : ℕ} (x : FVec Ideal ⟨3, ![2, 16384, 2048]⟩ .f32) (w : FVec Ideal ⟨2, ![2048, N]⟩ .f32)
    (wf : DotDims.WF ⟨3, ![2, 16384, 2048]⟩ ⟨2, ![2048, N]⟩ ⟨3, ![2, 16384, N]⟩ [2] [0] [0, 1] [1] [] []) (b : Fin 2) (s : Fin 16384) (n : Fin N) :
    Host.dotGeneral (⟨[2], [0], [0, 1], [1], [], [], wf⟩ : DotDims ⟨3, ![2, 16384, 2048]⟩ ⟨2, ![2048, N]⟩ ⟨3, ![2, 16384, N]⟩) none x w (ix3 b s n)
      = ∑ k : Fin 2048, x (ix3 b s k) * w (ix2 k n) := by
  let D : DotDims ⟨3, ![2, 16384, 2048]⟩ ⟨2, ![2048, N]⟩ ⟨3, ![2, 16384, N]⟩ := ⟨[2], [0], [0, 1], [1], [], [], wf⟩
  have hr : D.contr.rank = 1 := rfl
  have hs : D.contr.size ⟨0, by rw [hr]; exact Nat.one_pos⟩ = 2048 := rfl
  refine (Ideal.dotGeneral_apply (d := D) ..).trans ?_
  rw [← Equiv.sum_comp (contrEquiv1 D 2048 hr hs).symm]
  refine Finset.sum_congr rfl fun l _ => ?_
  have hk := contrEquiv1_symm_val D 2048 hr hs l
  refine congrArg₂ (fun x y : EReal => x * y) (congrArg x (funext fun a => Fin.ext ?_)) (congrArg w (funext fun a => Fin.ext ?_))
  · match a with
    | ⟨0, _⟩ => rfl
    | ⟨1, _⟩ => rfl
    | ⟨2, _⟩ => exact hk
  · match a with
    | ⟨0, _⟩ => exact hk
    | ⟨1, _⟩ => rfl

/-- Every index of a table of tokens is a token and a column. -/
theorem eq_ix2 {M N : ℕ} (i : (⟨2, ![M, N]⟩ : Shape).Idx) : ∃ (r : Fin M) (n : Fin N), i = ix2 r n :=
  ⟨i 0, i 1, funext fun a => by fin_cases a <;> rfl⟩

end Cert.Tokens
-- ==== Proof.NormRow.lean ====
/-
A row's layer norm on the extended reals: the mean over the row, the row off its mean, the mean of its squares, and the
row over the root of that.
-/
module

public import Idealize.ShloMosaic.PureOps.Ideal.Laws

@[expose] public section

noncomputable section

namespace Cert.NormRow

open Idealize.ShloMosaic

/-- The constants of both programs: the residual's factor, the row's length and the small number under the root. -/
def factor : EReal := Ideal.ofBits .f32 0x3FD744FD#32
def len : EReal := Ideal.ofBits .f32 0x45000000#32
def eps : EReal := Ideal.ofBits .f32 0x3727C5AC#32

variable (f g b : Fin 2048 → EReal) (n : Fin 2048)

def mean : EReal := Ideal.div (∑ k, f k) len
def off : EReal := f n - mean f
def scale : EReal := Ideal.rsqrt (mean (fun k => off f k * off f k) + eps)
def norm : EReal := off f n * scale f * g n + b n

end Cert.NormRow
-- ==== Proof.NormPlain.lean ====
/-
The norm's reference at an index: the row of a token is the residual times its factor plus the product, and the result
is that row's layer norm.
-/
module

public import proofs.«01_k».proof.Proof.Gen.NormReferenceIdeal.Run
public import proofs.«01_k».proof.Proof.Tokens
public import proofs.«01_k».proof.Proof.NormRow
public import Idealize.ShloMosaic.Lib.Pipeline.Value
public import Idealize.ShloMosaic.Lib.IdealHost

@[expose] public section

noncomputable section

namespace Cert.NormReferenceIdeal.Plain

open Idealize.ShloMosaic Idealize.ShloMosaic.TcCoe Idealize.ShloMosaic.ValueIdx
open Cert.NormReferenceIdeal Cert.NormReferenceIdeal.Gen
open Cert.Tokens

variable (y : FVec Ideal S2x16384x2048 .f32) (w : FVec Ideal S2048x2048 .f32) (x : FVec Ideal S2x16384x2048 .f32)
  (g b : FVec Ideal S2048 .f32) (v : FVec Ideal S2x16384x2048 .f32)

/-! ### The reference's operations in groups -/

def pre : FVec Ideal S2x16384x2048 .f32 :=
  addf (mulf (broadcastInDim S2x16384x2048 ![] bcast_S_S2x16384x2048 (constant S_ .f32 0x3FD744FD#32)) x)
    (Host.dotGeneral dot_S2x16384x2048_S2048x2048_S2x16384x2048_2_0_01_1_n_n none y w)
def mean : FVec Ideal S2x16384x1 .f32 :=
  Host.divf (broadcastInDim S2x16384x1 ![0, 1] bcast_S2x16384_S2x16384x1_0_1
    (Host.reduceAdd v (constant S_ .f32 0x00000000#32) reducesTo_S2x16384x2048_S2x16384_d2 h_S_))
    (broadcastInDim S2x16384x1 ![] bcast_S_S2x16384x1 (constant S_ .f32 0x45000000#32))
def wide (m : FVec Ideal S2x16384x1 .f32) : FVec Ideal S2x16384x2048 .f32 :=
  broadcastInDim S2x16384x2048 ![0, 1, 2] bcast_S2x16384x1_S2x16384x2048_0_1_2 m
def off : FVec Ideal S2x16384x2048 .f32 := subf v (wide (mean v))
def scale : FVec Ideal S2x16384x1 .f32 :=
  Host.rsqrt (addf (mean (mulf (off v) (off v))) (broadcastInDim S2x16384x1 ![] bcast_S_S2x16384x1 (constant S_ .f32 0x3727C5AC#32)))
def tall (g : FVec Ideal S2048 .f32) : FVec Ideal S2x16384x2048 .f32 :=
  broadcastInDim S2x16384x2048 ![0, 1, 2] bcast_S1x1x2048_S2x16384x2048_0_1_2 (broadcastInDim S1x1x2048 ![2] bcast_S2048_S1x1x2048_2 g)
def result : FVec Ideal S32768x2048 .f32 :=
  shapeCast S32768x2048 (addf (mulf (mulf (off (pre y w x)) (wide (scale (pre y w x)))) (tall g)) (tall b)) shapeCasts_S2x16384x2048_S32768x2048
def rounded : FVec Ideal S32768x2048 .bf16 := truncf .bf16 (result y w x g b) bitsLt_bf16_f32

/-! ### At an index -/

variable (c : Fin 2) (s : Fin 16384) (n : Fin 2048)

/-- A token's row before its norm. -/
def row (n : Fin 2048) : EReal := NormRow.factor * x (ix3 c s n) + ∑ k : Fin 2048, y (ix3 c s k) * w (ix2 k n)

theorem pre_at : pre y w x (ix3 c s n) = row y w x c s n := by
  unfold pre row
  refine congrArg₂ (fun a b : EReal => a + b) (congrArg (fun a : EReal => a * x (ix3 c s n)) ?_) (dot_apply y w _ c s n)
  rw [broadcastInDim_scalar_apply]; rfl

theorem red2 : S2x16384x2048.Reduces [2] S2x16384 :=
  ⟨reducesTo_S2x16384x2048_S2x16384_d2.1, by decide, reducesTo_S2x16384x2048_S2x16384_d2.2⟩

theorem lift2 (k : Fin 2048) : red2.lift (ix2 c s) k = ix3 c s k := funext fun a => Fin.ext (by fin_cases a <;> rfl)

theorem sum_at : Host.reduceAdd v (constant S_ .f32 0x00000000#32) reducesTo_S2x16384x2048_S2x16384_d2 h_S_ (ix2 c s)
    = ∑ k : Fin 2048, v (ix3 c s k) := by
  rw [hostReduceAdd_apply, Ideal.hostReduceAdd_single _ red2]
  refine (congrArg (fun x : EReal => x + _) Ideal.ofBits_zero_f32).trans ?_
  rw [zero_add]
  exact Finset.sum_congr rfl fun k _ => congrArg v (lift2 c s k)

theorem mean_at (u : Fin 1) : mean v (ix3 c s u) = NormRow.mean fun k => v (ix3 c s k) := by
  unfold mean NormRow.mean
  rw [hostDivf_apply]
  refine congrArg₂ Ideal.div ?_ ?_
  · refine (broadcastInDim_apply _ _ _ _ (ix2 c s) (fun a => by fin_cases a <;> rfl)).trans ?_
    exact sum_at v c s
  · rw [broadcastInDim_scalar_apply]; rfl

theorem wide_at (m : FVec Ideal S2x16384x1 .f32) : wide m (ix3 c s n) = m (ix3 c s (0 : Fin 1)) :=
  broadcastInDim_apply _ _ _ _ (ix3 c s (0 : Fin 1)) (fun a => by fin_cases a <;> rfl)

theorem tall_at : tall g (ix3 c s n) = g (ix1 n) := by
  refine (broadcastInDim_apply _ _ _ _ (ix3 (0 : Fin 1) (0 : Fin 1) n) (fun a => by fin_cases a <;> rfl)).trans ?_
  exact broadcastInDim_apply _ _ _ _ (ix1 n) (fun a => by fin_cases a <;> rfl)

theorem off_at : off v (ix3 c s n) = NormRow.off (fun k => v (ix3 c s k)) n := by
  show (v (ix3 c s n) : EReal) - wide (mean v) (ix3 c s n) = _
  rw [wide_at, mean_at]; rfl

theorem scale_at (u : Fin 1) : scale v (ix3 c s u) = NormRow.scale fun k => v (ix3 c s k) := by
  show Ideal.rsqrt ((mean (mulf (off v) (off v)) (ix3 c s u) : EReal)
    + (broadcastInDim S2x16384x1 ![] bcast_S_S2x16384x1 (constant S_ .f32 0x3727C5AC#32) : FVec Ideal S2x16384x1 .f32) (ix3 c s u)) = _
  rw [mean_at, broadcastInDim_scalar_apply]
  unfold NormRow.scale
  refine congrArg Ideal.rsqrt (congrArg₂ (fun a b : EReal => a + b) (congrArg NormRow.mean (funext fun k => ?_)) rfl)
  show (off v (ix3 c s k) : EReal) * off v (ix3 c s k) = _
  rw [off_at]

theorem result_at (r : Fin 32768) : result y w x g b (ix2 r n)
    = NormRow.norm (row y w x (bat r) (pos r)) (fun k => g (ix1 k)) (fun k => b (ix1 k)) n := by
  unfold result
  refine (list_apply _ _ r n).trans ?_
  show ((off (pre y w x) (ix3 (bat r) (pos r) n) : EReal) * wide (scale (pre y w x)) (ix3 (bat r) (pos r) n))
    * tall g (ix3 (bat r) (pos r) n) + tall b (ix3 (bat r) (pos r) n) = _
  rw [off_at, wide_at, scale_at, tall_at, tall_at, show (fun k => pre y w x (ix3 (bat r) (pos r) k)) = row y w x (bat r) (pos r) from funext fun k => pre_at y w x _ _ k]
  rfl

theorem rounded_at (i : S32768x2048.Idx) : rounded y w x g b i = result y w x g b i := rfl

end Cert.NormReferenceIdeal.Plain
-- ==== Proof.NormEqual.lean ====
/-
The output projection and its layer norm on the extended reals: each block of the results is the norm of the rows of its
tokens, the blocks make up both arrays, and they are the reference's.
-/
module

public import proofs.«01_k».proof.Proof.Gen.NormIdeal.Frame
public import proofs.«01_k».proof.Proof.NormPlain
public import Idealize.ShloMosaic.Lib.Pipeline.ValueKit.Geometry
public import Idealize.ShloMosaic.Lib.StableHlo.RunRead

@[expose] public section

noncomputable section

namespace Cert.NormIdeal.Equal

open Idealize.ShloMosaic Idealize.ShloMosaic.TcCoe Idealize.ShloMosaic.ValueIdx Idealize.ShloMosaic.Tactic
open Idealize.SL Idealize.SL.Sem
open Idealize.ShloMosaic.Pipeline (Dat Cfg Window)
open Cert.NormIdeal Cert.NormIdeal.Gen
open Cert.Tokens

/-! ### The body's operations in groups -/

def pre (x : FVec Ideal S512x2048 .f32) (y : FVec Ideal S512x2048 .bf16) (w : FVec Ideal S2048x2048 .bf16) : FVec Ideal S512x2048 .f32 :=
  addf (mulf (broadcast S512x2048 (Scalar.ofBits (F := Ideal) .f32 0x3FD744FD#32)) x)
    (matmul dot_S512x2048_S2048x2048_S512x2048_1_0_0_1_n_n none y w (constant S512x2048 .f32 0x00000000#32))
def mean (v : FVec Ideal S512x2048 .f32) : FVec Ideal S512x1 .f32 :=
  divf (shapeCast S512x1 (multiReduction .add [1] S512 v 0x00000000#32 reduces_S512x2048_S512 (.inl rfl) rfl : FVec Ideal S512 .f32) shapeCasts_S512_S512x1)
    (broadcast S512x1 (Scalar.ofBits (F := Ideal) .f32 0x45000000#32))
def wide (v : FVec Ideal S512x1 .f32) : FVec Ideal S512x2048 .f32 := broadcastTo S512x2048 v broadcasts_S512x1_S512x2048
def tall (g : FVec Ideal S1x2048 .f32) : FVec Ideal S512x2048 .f32 := broadcastTo S512x2048 g broadcasts_S1x2048_S512x2048
def off (v : FVec Ideal S512x2048 .f32) : FVec Ideal S512x2048 .f32 := subf v (wide (mean v))
def scale (v : FVec Ideal S512x2048 .f32) : FVec Ideal S512x1 .f32 :=
  rsqrt (addf (mean (mulf (off v) (off v))) (broadcast S512x1 (Scalar.ofBits (F := Ideal) .f32 0x3727C5AC#32)))

theorem pay_eq (x : FVec Ideal S512x2048 .f32) (y : FVec Ideal S512x2048 .bf16) (w : FVec Ideal S2048x2048 .bf16) (g b : FVec Ideal S1x2048 .f32) :
    k0_pay1 (F := Ideal) x y w g b = addf (mulf (mulf (off (pre x y w)) (wide (scale (pre x y w)))) (tall g)) (tall b) := by
  unfold k0_pay1
  simp only [shapeCast_self]
  rfl

/-! ### At an index -/

section At

variable (x : FVec Ideal S512x2048 .f32) (y : FVec Ideal S512x2048 .bf16) (w : FVec Ideal S2048x2048 .bf16) (g b : FVec Ideal S1x2048 .f32)
  (v : FVec Ideal S512x2048 .f32) (r : Fin 512) (n : Fin 2048)

theorem pre_at : pre x y w (ix2 r n) = NormRow.factor * x (ix2 r n) + ∑ k : Fin 2048, y (ix2 r k) * w (ix2 k n) := by
  refine congrArg₂ (fun a b : EReal => a + b) rfl ?_
  refine (Ideal.matmul_plain_apply (M := 512) (K := 2048) (N := 2048) (φ₁ := .bf16) (φ₂ := .bf16) none y w _ r n).trans ?_
  rw [show (constant S512x2048 .f32 0x00000000#32 : FVec Ideal S512x2048 .f32) (ix2 r n) = (0 : EReal) from Ideal.ofBits_zero_f32, zero_add]

theorem sum_at : (multiReduction .add [1] S512 v 0x00000000#32 reduces_S512x2048_S512 (.inl rfl) rfl : FVec Ideal S512 .f32) (ix1 r)
    = ∑ k : Fin 2048, v (ix2 r k) := by
  refine (Ideal.multiReduction_add_single (s := S512x2048) (t := S512) (a := 1) v _ reduces_S512x2048_S512 _ _ _).trans ?_
  refine Finset.sum_congr rfl fun k _ => congrArg v (funext fun a => Fin.ext ?_)
  fin_cases a <;> rfl

theorem mean_at (u : Fin 1) : mean v (ix2 r u) = NormRow.mean fun k => v (ix2 r k) := by
  refine congrArg₂ Ideal.div ?_ rfl
  refine (shapeCast_apply _ _ _ (ix1 r) ?_).trans (sum_at v r)
  rw [Shape.rowMajor_val_one, Shape.rowMajor_val_two]
  show r.val = r.val * 1 + u.val
  omega

theorem wide_at (m : FVec Ideal S512x1 .f32) : wide m (ix2 r n) = m (ix2 r (0 : Fin 1)) :=
  broadcastTo_apply m _ _ _ fun ax => match ax with | ⟨0, _⟩ => rfl | ⟨1, _⟩ => rfl

theorem tall_at : tall g (ix2 r n) = g (ix2 (0 : Fin 1) n) :=
  broadcastTo_apply g _ _ _ fun ax => match ax with | ⟨0, _⟩ => rfl | ⟨1, _⟩ => rfl

theorem off_at : off v (ix2 r n) = NormRow.off (fun k => v (ix2 r k)) n := by
  show (v (ix2 r n) : EReal) - wide (mean v) (ix2 r n) = _
  rw [wide_at, mean_at]; rfl

theorem scale_at (u : Fin 1) : scale v (ix2 r u) = NormRow.scale fun k => v (ix2 r k) := by
  show Ideal.rsqrt ((mean (mulf (off v) (off v)) (ix2 r u) : EReal) + NormRow.eps) = _
  rw [mean_at]
  unfold NormRow.scale
  refine congrArg Ideal.rsqrt (congrArg₂ (fun a b : EReal => a + b) (congrArg NormRow.mean (funext fun k => ?_)) rfl)
  show (off v (ix2 r k) : EReal) * off v (ix2 r k) = _
  rw [off_at]

/-- The body's rows. -/
theorem pay_at : k0_pay1 (F := Ideal) x y w g b (ix2 r n)
    = NormRow.norm (fun n => NormRow.factor * x (ix2 r n) + ∑ k : Fin 2048, y (ix2 r k) * w (ix2 k n)) (fun k => g (ix2 (0 : Fin 1) k)) (fun k => b (ix2 (0 : Fin 1) k)) n := by
  rw [pay_eq]
  show ((off (pre x y w) (ix2 r n) : EReal) * wide (scale (pre x y w)) (ix2 r n)) * tall g (ix2 r n) + tall b (ix2 r n) = _
  rw [off_at, wide_at, scale_at, tall_at, tall_at,
    show (fun k => pre x y w (ix2 r k)) = fun n => NormRow.factor * x (ix2 r n) + ∑ k : Fin 2048, y (ix2 r k) * w (ix2 k n) from funext fun k => pre_at x y w r k]
  rfl

theorem tile_out : out0_5 (F := Ideal) y w x g b = k0_pay1 (F := Ideal) x y w g b := by
  have e : (![0, 0] : Fin 2 → ℕ) = 0 := funext fun a => by fin_cases a <;> rfl
  unfold out0_5
  rw [View.canon_unit_zero e, View.ld_unit_zero e, View.ld_unit_zero e, View.ld_unit_zero e, View.ld_unit_zero e, View.ld_unit_zero e]

theorem tile_rounded : (out0_6 (F := Ideal) y w x g b : S512x2048.Idx → EReal) = k0_pay1 (F := Ideal) x y w g b := by
  have e : (![0, 0] : Fin 2 → ℕ) = 0 := funext fun a => by fin_cases a <;> rfl
  unfold out0_6
  rw [View.canon_unit_zero e, View.ld_unit_zero e, View.ld_unit_zero e, View.ld_unit_zero e, View.ld_unit_zero e, View.ld_unit_zero e]
  rfl

end At

/-! ### The arrays -/

variable (m : (ℓ : Loc nD τ sig) → Buf (Elt Ideal) ℓ) (c : Dev nD)

/-- The arguments: the mixer's output, the weights, the residual stream and the norm's two vectors. -/
def Y : S2x16384x2048.Idx → EReal := m ((c : Thread nD τ).loc main_arg0)
def Wt : S2048x2048.Idx → EReal := m ((c : Thread nD τ).loc main_arg1)
def X : S2x16384x2048.Idx → EReal := m ((c : Thread nD τ).loc main_arg2)
def G : S2048.Idx → EReal := m ((c : Thread nD τ).loc main_arg3)
def B : S2048.Idx → EReal := m ((c : Thread nD τ).loc main_arg4)

theorem arr_y (r : Fin 32768) (k : Fin 2048) : (V m c main_v1 : S32768x2048.Idx → EReal) (ix2 r k) = Y m c (ix3 (bat r) (pos r) k) := by
  have e : (V m c main_v1 : S32768x2048.Idx → EReal) = shapeCast S32768x2048 (Y m c) shapeCasts_S2x16384x2048_S32768x2048 := by
    unfold Y; after_reads_simp; rfl
  rw [e]; exact list_apply (Y m c) _ r k

theorem arr_w : (V m c main_v2 : S2048x2048.Idx → EReal) = Wt m c := by
  unfold Wt; after_reads_simp; rfl

theorem arr_x (r : Fin 32768) (k : Fin 2048) : (V m c main_v3 : S32768x2048.Idx → EReal) (ix2 r k) = X m c (ix3 (bat r) (pos r) k) := by
  have e : (V m c main_v3 : S32768x2048.Idx → EReal) = shapeCast S32768x2048 (X m c) shapeCasts_S2x16384x2048_S32768x2048 := by
    unfold X; after_reads_simp; rfl
  rw [e]; exact list_apply (X m c) _ r k

theorem arr_g (u : Fin 1) (k : Fin 2048) : (V m c main_v4 : S1x2048.Idx → EReal) (ix2 u k) = G m c (ix1 k) := by
  have e : (V m c main_v4 : S1x2048.Idx → EReal) = broadcastInDim S1x2048 ![1] bcast_S2048_S1x2048_1 (G m c) := by
    unfold G; after_reads_simp
  rw [e]; exact broadcastInDim_apply _ _ _ _ (ix1 k) (fun a => by fin_cases a <;> rfl)

theorem arr_b (u : Fin 1) (k : Fin 2048) : (V m c main_v5 : S1x2048.Idx → EReal) (ix2 u k) = B m c (ix1 k) := by
  have e : (V m c main_v5 : S1x2048.Idx → EReal) = broadcastInDim S1x2048 ![1] bcast_S2048_S1x2048_1 (B m c) := by
    unfold B; after_reads_simp
  rw [e]; exact broadcastInDim_apply _ _ _ _ (ix1 k) (fun a => by fin_cases a <;> rfl)

/-- The results: the reference's, of the same arguments. -/
def out : S32768x2048.Idx → EReal := Cert.NormReferenceIdeal.Plain.result (Y m c) (Wt m c) (X m c) (G m c) (B m c)

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![t.val, 0] := by decide +kernel
theorem index6 : ∀ t : Fin grid0.N, win0_6.index t = ![t.val, 0] := by decide +kernel

/-- The token of a block's row. -/
def tok (t : Fin grid0.N) (r : Fin 512) : Fin 32768 := ⟨512 * t.val + r.val, by have : t.val < 64 := N_0 ▸ t.isLt; omega⟩

theorem blk_y (t : Fin grid0.N) (r : Fin 512) (k : Fin 2048) : (iblk m c 0 t : S512x2048.Idx → EReal) (ix2 r k) = V m c main_v1 (ix2 (tok t r) k) := by
  refine congrArg (V m c main_v1 : S32768x2048.Idx → EReal) (funext fun a => Fin.ext ?_)
  refine ((Window.rect_emb_val win0_0 t (ix2 r k) a).trans ?_)
  rw [index0]
  fin_cases a
  · show t.val * 512 + r.val = 512 * t.val + r.val; omega
  · show 0 * 2048 + k.val = k.val; omega

theorem blk_w (t : Fin grid0.N) (r k : Fin 2048) : (iblk m c 1 t : S2048x2048.Idx → EReal) (ix2 r k) = V m c main_v2 (ix2 r k) := by
  refine congrArg (V m c main_v2 : S2048x2048.Idx → EReal) (funext fun a => Fin.ext ?_)
  refine ((Window.rect_emb_val win0_1 t (ix2 r k) a).trans ?_)
  rw [index1]
  fin_cases a
  · show 0 * 2048 + r.val = r.val; omega
  · show 0 * 2048 + k.val = k.val; omega

theorem blk_x (t : Fin grid0.N) (r : Fin 512) (k : Fin 2048) : (iblk m c 2 t : S512x2048.Idx → EReal) (ix2 r k) = V m c main_v3 (ix2 (tok t r) k) := by
  refine congrArg (V m c main_v3 : S32768x2048.Idx → EReal) (funext fun a => Fin.ext ?_)
  refine ((Window.rect_emb_val win0_2 t (ix2 r k) a).trans ?_)
  rw [index2]
  fin_cases a
  · show t.val * 512 + r.val = 512 * t.val + r.val; omega
  · show 0 * 2048 + k.val = k.val; omega

theorem blk_g (t : Fin grid0.N) (u : Fin 1) (k : Fin 2048) : (iblk m c 3 t : S1x2048.Idx → EReal) (ix2 u k) = V m c main_v4 (ix2 u k) := by
  refine congrArg (V m c main_v4 : S1x2048.Idx → EReal) (funext fun a => Fin.ext ?_)
  refine ((Window.rect_emb_val win0_3 t (ix2 u k) a).trans ?_)
  rw [index3]
  fin_cases a
  · show 0 * 1 + u.val = u.val; omega
  · show 0 * 2048 + k.val = k.val; omega

theorem blk_b (t : Fin grid0.N) (u : Fin 1) (k : Fin 2048) : (iblk m c 4 t : S1x2048.Idx → EReal) (ix2 u k) = V m c main_v5 (ix2 u k) := by
  refine congrArg (V m c main_v5 : S1x2048.Idx → EReal) (funext fun a => Fin.ext ?_)
  refine ((Window.rect_emb_val win0_4 t (ix2 u k) a).trans ?_)
  rw [index4]
  fin_cases a
  · show 0 * 1 + u.val = u.val; omega
  · show 0 * 2048 + k.val = k.val; omega

/-- A block's row is the reference's row of its token. -/
theorem block_row (t : Fin grid0.N) (r : Fin 512) (n : Fin 2048) :
    k0_pay1 (F := Ideal) (iblk m c 2 t) (iblk m c 0 t) (iblk m c 1 t) (iblk m c 3 t) (iblk m c 4 t) (ix2 r n) = out m c (ix2 (tok t r) n) := by
  refine (pay_at _ _ _ _ _ r n).trans ?_
  unfold out
  rw [Cert.NormReferenceIdeal.Plain.result_at]
  refine congr (congr (congr (congrArg NormRow.norm (funext fun n => ?_)) (funext fun k => ?_)) (funext fun k => ?_)) rfl
  · unfold Cert.NormReferenceIdeal.Plain.row
    refine congrArg₂ (fun a b : EReal => a + b) (congrArg (fun a : EReal => NormRow.factor * a) ((blk_x m c t r n).trans (arr_x m c _ n))) ?_
    refine Finset.sum_congr rfl fun k _ => ?_
    refine congrArg₂ (fun a b : EReal => a * b) ((blk_y m c t r k).trans (arr_y m c _ k)) ((blk_w m c t k n).trans ?_)
    rw [arr_w]
  · exact (blk_g m c t 0 k).trans (arr_g m c 0 k)
  · exact (blk_b m c t 0 k).trans (arr_b m c 0 k)

theorem final_out : (dats (F := Ideal) m 0 c).arrAt 5 grid0.N = out m c := by
  refine (dats (F := Ideal) m 0 c).arrAt_eq_of_covers 5 (out m c) (by decide +kernel) fun t _ y => ?_
  obtain ⟨r, n, rfl⟩ : ∃ (r : Fin 512) (n : Fin 2048), y = ix2 r n := eq_ix2 y
  have e := (after0_5 m c t).trans (tile_out (iblk m c 2 t) (iblk m c 0 t) (iblk m c 1 t) (iblk m c 3 t) (iblk m c 4 t))
  refine Eq.trans (congrFun e (ix2 r n)) ((block_row m c t r n).trans ?_)
  refine congrArg (out m c) (funext fun a => Fin.ext (Eq.symm ((Window.rect_emb_val win0_5 t (ix2 r n) a).trans ?_)))
  rw [index5]
  fin_cases a
  · show t.val * 512 + r.val = 512 * t.val + r.val; omega
  · show 0 * 2048 + n.val = n.val; omega

theorem final_rounded : (dats (F := Ideal) m 0 c).arrAt 6 grid0.N = out m c := by
  refine (dats (F := Ideal) m 0 c).arrAt_eq_of_covers 6 (out m c) (by decide +kernel) fun t _ y => ?_
  obtain ⟨r, n, rfl⟩ : ∃ (r : Fin 512) (n : Fin 2048), y = ix2 r n := eq_ix2 y
  have e := (after0_6 m c t).trans (tile_rounded (iblk m c 2 t) (iblk m c 0 t) (iblk m c 1 t) (iblk m c 3 t) (iblk m c 4 t))
  refine Eq.trans (congrFun e (ix2 r n)) ((block_row m c t r n).trans ?_)
  refine congrArg (out m c) (funext fun a => Fin.ext (Eq.symm ((Window.rect_emb_val win0_6 t (ix2 r n) a).trans ?_)))
  rw [index6]
  fin_cases a
  · show t.val * 512 + r.val = 512 * t.val + r.val; omega
  · show 0 * 2048 + n.val = n.val; omega

end Cert.NormIdeal.Equal
-- ==== Proof.ValuesEqual.lean ====
/-
The values' projection on the extended reals: each block of the product is the rows' tile times the columns' tile, the
blocks make up the array, and the reference's array, a slice of the product with every column, is the same sums.
-/
module

public import proofs.«01_k».proof.Proof.Gen.ValuesIdeal.Frame
public import proofs.«01_k».proof.Proof.Gen.ValuesReferenceIdeal.Run
public import proofs.«01_k».proof.Proof.Tokens
public import Idealize.ShloMosaic.Lib.Pipeline.ValueKit.Geometry
public import Idealize.ShloMosaic.Lib.StableHlo.RunRead

@[expose] public section

noncomputable section

namespace Cert.ValuesIdeal.Equal

open Idealize.ShloMosaic Idealize.ShloMosaic.TcCoe Idealize.ShloMosaic.ValueIdx Idealize.ShloMosaic.Tactic
open Idealize.SL Idealize.SL.Sem
open Idealize.ShloMosaic.Pipeline (Dat Cfg Window)
open Cert.ValuesIdeal Cert.ValuesIdeal.Gen
open Cert.Tokens

/-- The tiles' product at an index. -/
theorem product_apply (x : FVec Ideal S2048x2048 .bf16) (w : FVec Ideal S2048x1024 .bf16) (r : Fin 2048) (n : Fin 1024) :
    k0_pay1 (F := Ideal) x w (ix2 r n) = ∑ k : Fin 2048, x (ix2 r k) * w (ix2 k n) := by
  unfold k0_pay1
  rw [shapeCast_self, shapeCast_self]
  refine (Ideal.matmul_plain_apply (M := 2048) (K := 2048) (N := 1024) (φ₁ := .bf16) (φ₂ := .bf16) none x w _ r n).trans ?_
  rw [show (constant S2048x1024 .f32 0x00000000#32 : FVec Ideal S2048x1024 .f32) (ix2 r n) = (0 : EReal) from Ideal.ofBits_zero_f32, zero_add]

/-- What the body leaves in the result's tile. -/
theorem tile_out (x : FVec Ideal S2048x2048 .bf16) (w : FVec Ideal S2048x1024 .bf16) : out0_2 (F := Ideal) x w = k0_pay1 (F := Ideal) x w := by
  unfold out0_2
  rw [View.canon_unit_zero (funext fun a => by fin_cases a <;> rfl), View.ld_unit_zero (funext fun a => by fin_cases a <;> rfl),
    View.ld_unit_zero (funext fun a => by fin_cases a <;> rfl)]

variable (m : (ℓ : Loc nD τ sig) → Buf (Elt Ideal) ℓ) (c : Dev nD)

/-- The arguments: the tokens' features and the weights. -/
def X : S2x16384x2048.Idx → EReal := m ((c : Thread nD τ).loc main_arg0)
def Wt : S2048x20480.Idx → EReal := m ((c : Thread nD τ).loc main_arg1)

theorem arr_x (r : Fin 32768) (k : Fin 2048) : (V m c main_v1 : S32768x2048.Idx → EReal) (ix2 r k) = X m c (ix3 (bat r) (pos r) k) := by
  have e : (V m c main_v1 : S32768x2048.Idx → EReal) = shapeCast S32768x2048 (X m c) shapeCasts_S2x16384x2048_S32768x2048 := by
    unfold X; after_reads_simp; rfl
  rw [e]; exact list_apply (X m c) _ r k

theorem arr_w : (V m c main_v2 : S2048x20480.Idx → EReal) = Wt m c := by
  unfold Wt; after_reads_simp; rfl

/-- The result. -/
def out : S32768x2048.Idx → EReal := fun i =>
  ∑ k : Fin 2048, X m c (ix3 (bat (i 0)) (pos (i 0)) k) * Wt m c (ix2 k (⟨4096 + (i 1).val, by have : (i 1).val < 2048 := (i 1).isLt; omega⟩ : Fin 20480))

theorem index0 : ∀ t : Fin grid0.N, win0_0.index t = ![t.val / 2, 0] := by decide +kernel
theorem index1 : ∀ t : Fin grid0.N, win0_1.index t = ![0, t.val % 2 + 4] := by decide +kernel
theorem index2 : ∀ t : Fin grid0.N, win0_2.index t = ![t.val / 2, t.val % 2] := by decide +kernel

theorem blk_x (t : Fin grid0.N) (r k : Fin 2048) :
    (iblk m c 0 t : S2048x2048.Idx → EReal) (ix2 r k) = V m c main_v1 (ix2 (⟨2048 * (t.val / 2) + r.val, by have := t.isLt; have := N_0; omega⟩ : Fin 32768) k) := by
  refine congrArg (V m c main_v1 : S32768x2048.Idx → EReal) (funext fun a => Fin.ext ?_)
  refine ((Window.rect_emb_val win0_0 t (ix2 r k) a).trans ?_)
  rw [index0]
  fin_cases a
  · show t.val / 2 * 2048 + r.val = 2048 * (t.val / 2) + r.val; omega
  · show 0 * 2048 + k.val = k.val; omega

theorem blk_w (t : Fin grid0.N) (k : Fin 2048) (n : Fin 1024) :
    (iblk m c 1 t : S2048x1024.Idx → EReal) (ix2 k n) = V m c main_v2 (ix2 k (⟨1024 * (t.val % 2 + 4) + n.val, by omega⟩ : Fin 20480)) := by
  refine congrArg (V m c main_v2 : S2048x20480.Idx → EReal) (funext fun a => Fin.ext ?_)
  refine ((Window.rect_emb_val win0_1 t (ix2 k n) a).trans ?_)
  rw [index1]
  fin_cases a
  · show 0 * 2048 + k.val = k.val; omega
  · show (t.val % 2 + 4) * 1024 + n.val = 1024 * (t.val % 2 + 4) + n.val; omega

/-- The array after the run. -/
theorem final_out : (dats (F := Ideal) m 0 c).arrAt 2 grid0.N = out m c := by
  refine (dats (F := Ideal) m 0 c).arrAt_eq_of_covers 2 (out m c) (by decide +kernel) fun t _ y => ?_
  obtain ⟨r, n, rfl⟩ : ∃ (r : Fin 2048) (n : Fin 1024), y = ix2 r n := eq_ix2 y
  have hN : t.val < 32 := N_0 ▸ t.isLt
  have e : (dats (F := Ideal) m 0 c).after 2 t = k0_pay1 (iblk m c 0 t) (iblk m c 1 t) := (after0_2 m c t).trans (tile_out _ _)
  refine Eq.trans (b := (k0_pay1 (F := Ideal) (iblk m c 0 t) (iblk m c 1 t) (ix2 r n) : EReal)) (congrFun e (ix2 r n)) ?_
  have ei : ((cfg0.win 2).rect t).emb (ix2 r n)
      = (ix2 (⟨2048 * (t.val / 2) + r.val, by omega⟩ : Fin 32768) (⟨1024 * (t.val % 2) + n.val, by omega⟩ : Fin 2048) : S32768x2048.Idx) := by
    refine funext fun a => Fin.ext ((Window.rect_emb_val win0_2 t (ix2 r n) a).trans ?_)
    rw [index2]
    fin_cases a
    · show t.val / 2 * 2048 + r.val = 2048 * (t.val / 2) + r.val; omega
    · show t.val % 2 * 1024 + n.val = 1024 * (t.val % 2) + n.val; omega
  refine Eq.trans ?_ (congrArg (out m c) ei.symm)
  rw [product_apply]
  refine Finset.sum_congr rfl fun k _ => ?_
  refine congrArg₂ (fun x y : EReal => x * y) ((blk_x m c t r k).trans (arr_x m c _ k)) ((blk_w m c t k n).trans ?_)
  rw [arr_w]
  refine congrArg (fun n : Fin 20480 => Wt m c (ix2 k n)) (Fin.ext ?_)
  show 1024 * (t.val % 2 + 4) + n.val = 4096 + (1024 * (t.val % 2) + n.val); omega

theorem truncf_ideal (y : FVec Ideal S32768x2048 .f32) (i : S32768x2048.Idx) : (truncf .bf16 y bitsLt_bf16_f32 : FVec Ideal S32768x2048 .bf16) i = y i := rfl

/-- The reference's array of the same arguments. -/
theorem plain_out :
    (truncf .bf16 (shapeCast Cert.ValuesReferenceIdeal.S32768x2048 (extractStridedSlice Cert.ValuesReferenceIdeal.S2x16384x2048 ![0, 0, 4096]
      (Host.dotGeneral (F := Ideal) (φ₁ := .f32) (φ₂ := .f32) Cert.ValuesReferenceIdeal.dot_S2x16384x2048_S2048x20480_S2x16384x20480_2_0_01_1_n_n none (X m c) (Wt m c) : FVec Ideal Cert.ValuesReferenceIdeal.S2x16384x20480 .f32)
      Cert.ValuesReferenceIdeal.Gen.slices_S2x16384x20480_S2x16384x2048_0_0_4096) Cert.ValuesReferenceIdeal.Gen.shapeCasts_S2x16384x2048_S32768x2048)
      Cert.ValuesReferenceIdeal.Gen.bitsLt_bf16_f32 : FVec Ideal Cert.ValuesReferenceIdeal.S32768x2048 .bf16) = out m c := by
  funext i
  obtain ⟨r, n, rfl⟩ : ∃ (r : Fin 32768) (n : Fin 2048), i = ix2 r n := eq_ix2 i
  refine Eq.trans (truncf_ideal _ _) ?_
  refine (list_apply _ _ r n).trans ?_
  refine (extractStridedSlice_apply _ _ _ _ (ix3 (bat r) (pos r) (⟨4096 + n.val, by omega⟩ : Fin 20480)) (fun a => by
    fin_cases a
    · exact (Nat.zero_add _).symm
    · exact (Nat.zero_add _).symm
    · rfl)).trans ?_
  exact dot_apply (X m c) (Wt m c) _ _ _ _

end Cert.ValuesIdeal.Equal
-- ==== Proof.RopeRow.lean ====
/-
A token's rotated queries and keys on the extended reals: in every head of 128 columns the pairs (l, l + 64) turn by the
token's angles, and the queries' columns, the first 2048, are multiplied by a constant.
-/
module

public import Idealize.ShloMosaic.PureOps.Ideal.Laws

@[expose] public section

noncomputable section

namespace Cert.RopeRow

open Idealize.ShloMosaic

/-- The queries' constant. -/
def q : EReal := Ideal.ofBits .f32 0x3E0293EE#32

theorem q_eq : ∃ x : ℝ, 0 ≤ x ∧ q = (x : EReal) := by
  unfold q
  simp only [Ideal.ofBits, Ideal.ieee]
  norm_num
  refine ⟨_, ?_, rfl⟩
  rw [if_neg (by decide)]
  positivity

variable (h : Fin 20480 → EReal) (cs sn : Fin 64 → EReal)

/-- The turned value of a column. -/
def turn (n : Fin 4096) : EReal :=
  if n.val % 128 < 64 then
    h ⟨n.val, by omega⟩ * cs ⟨n.val % 64, by omega⟩ - h ⟨n.val + 64, by omega⟩ * sn ⟨n.val % 64, by omega⟩
  else
    h ⟨n.val, by omega⟩ * cs ⟨n.val % 64, by omega⟩ + h ⟨n.val - 64, by omega⟩ * sn ⟨n.val % 64, by omega⟩

/-- A column's constant. -/
def gain (n : Fin 4096) : EReal := if n.val < 2048 then q else 1

/-- The result's column. -/
def rope (n : Fin 4096) : EReal := turn h cs sn n * gain n

/-- A column's partner in its head: the column half a head on, or back. -/
def mate (n : Fin 4096) : Fin 20480 := ⟨n.val / 128 * 128 + (n.val % 128 + 64) % 128, by omega⟩

/-- The kernel's tables: both halves' cosines, and the sines with the first half's negated. -/
def cos2 (j : Fin 128) : EReal := cs ⟨j.val % 64, by omega⟩
def sin2 (j : Fin 128) : EReal := if j.val < 64 then -sn ⟨j.val % 64, by omega⟩ else sn ⟨j.val % 64, by omega⟩

theorem gain_nonneg (n : Fin 4096) : 0 ≤ gain n ∧ gain n ≠ ⊤ := by
  unfold gain
  split
  · obtain ⟨x, hx, e⟩ := q_eq
    rw [e]; exact ⟨EReal.coe_nonneg.mpr hx, EReal.coe_ne_top x⟩
  · exact ⟨zero_le_one, EReal.coe_ne_top 1⟩

/-- The kernel's column: its own value and its partner's, each times its table's entry scaled. -/
theorem rope_eq (n : Fin 4096) :
    h ⟨n.val, by omega⟩ * (cos2 cs ⟨n.val % 128, by omega⟩ * gain n) + h (mate n) * (sin2 sn ⟨n.val % 128, by omega⟩ * gain n) = rope h cs sn n := by
  obtain ⟨h0, h1⟩ := gain_nonneg n
  have ec : cos2 cs ⟨n.val % 128, by omega⟩ = cs ⟨n.val % 64, by omega⟩ := congrArg cs (Fin.ext (by show n.val % 128 % 64 = n.val % 64; omega))
  have es : (⟨n.val % 128 % 64, by omega⟩ : Fin 64) = ⟨n.val % 64, by omega⟩ := Fin.ext (by show n.val % 128 % 64 = n.val % 64; omega)
  unfold rope turn
  rw [ec, ← mul_assoc, ← mul_assoc, ← EReal.right_distrib_of_nonneg_of_ne_top h0 h1]
  refine congrArg (fun x : EReal => x * gain n) ?_
  unfold sin2
  by_cases hn : n.val % 128 < 64
  · have em : mate n = ⟨n.val + 64, by omega⟩ := Fin.ext (by show n.val / 128 * 128 + (n.val % 128 + 64) % 128 = n.val + 64; omega)
    rw [if_pos hn, if_pos hn, em, es, mul_neg, sub_eq_add_neg]
  · have em : mate n = ⟨n.val - 64, by omega⟩ := Fin.ext (by show n.val / 128 * 128 + (n.val % 128 + 64) % 128 = n.val - 64; omega)
    rw [if_neg hn, if_neg hn, em, es]

end Cert.RopeRow
-- ==== Proof.RopePlain.lean ====
/-
The rotated projection's reference at an index: the product's columns as heads, their two halves turned by the token's
angles, the queries' columns scaled.
-/
module

public import proofs.«01_k».proof.Proof.Gen.RopeReferenceIdeal.Run
public import proofs.«01_k».proof.Proof.Tokens
public import proofs.«01_k».proof.Proof.RopeRow
public import Idealize.ShloMosaic.Lib.Pipeline.Value

@[expose] public section

noncomputable section

namespace Cert.RopeReferenceIdeal.Plain

open Idealize.ShloMosaic Idealize.ShloMosaic.TcCoe Idealize.ShloMosaic.ValueIdx
open Cert.RopeReferenceIdeal Cert.RopeReferenceIdeal.Gen
open Cert.Tokens

variable (x : FVec Ideal S2x16384x2048 .f32) (w : FVec Ideal S2048x20480 .f32) (cs sn : FVec Ideal S2x16384x64 .f32)

/-! ### The reference's operations in groups -/

def heads : FVec Ideal S2x16384x2x16x128 .f32 :=
  shapeCast S2x16384x2x16x128 (extractStridedSlice S2x16384x4096 ![0, 0, 0]
    (Host.dotGeneral dot_S2x16384x2048_S2048x20480_S2x16384x20480_2_0_01_1_n_n none x w : FVec Ideal S2x16384x20480 .f32)
    slices_S2x16384x20480_S2x16384x4096_0_0_0) shapeCasts_S2x16384x4096_S2x16384x2x16x128
def lo : FVec Ideal S2x16384x2x16x64 .f32 :=
  extractStridedSlice S2x16384x2x16x64 ![0, 0, 0, 0, 0] (heads x w) slices_S2x16384x2x16x128_S2x16384x2x16x64_0_0_0_0_0
def hi : FVec Ideal S2x16384x2x16x64 .f32 :=
  extractStridedSlice S2x16384x2x16x64 ![0, 0, 0, 0, 64] (heads x w) slices_S2x16384x2x16x128_S2x16384x2x16x64_0_0_0_0_64
def spread (a : FVec Ideal S2x16384x64 .f32) : FVec Ideal S2x16384x2x16x64 .f32 :=
  broadcastInDim S2x16384x2x16x64 ![0, 1, 2, 3, 4] bcast_S2x16384x1x1x64_S2x16384x2x16x64_0_1_2_3_4
    (broadcastInDim S2x16384x1x1x64 ![0, 1, 4] bcast_S2x16384x64_S2x16384x1x1x64_0_1_4 a)
def turned : FVec Ideal S2x16384x2x16x128 .f32 :=
  concatenate S2x16384x2x16x128 4
    [⟨S2x16384x2x16x64, subf (mulf (lo x w) (spread cs)) (mulf (hi x w) (spread sn))⟩,
     ⟨S2x16384x2x16x64, addf (mulf (hi x w) (spread cs)) (mulf (lo x w) (spread sn))⟩]
    concatenates_S2x16384x2x16x64_S2x16384x2x16x64_S2x16384x2x16x128_d4
def queries : FVec Ideal S32768x2048 .f32 :=
  shapeCast S32768x2048 (shapeCast S2x16384x16x128 (extractStridedSlice S2x16384x1x16x128 ![0, 0, 0, 0, 0] (turned x w cs sn)
    slices_S2x16384x2x16x128_S2x16384x1x16x128_0_0_0_0_0) shapeCasts_S2x16384x1x16x128_S2x16384x16x128) shapeCasts_S2x16384x16x128_S32768x2048
def keys : FVec Ideal S32768x2048 .f32 :=
  shapeCast S32768x2048 (shapeCast S2x16384x16x128 (extractStridedSlice S2x16384x1x16x128 ![0, 0, 1, 0, 0] (turned x w cs sn)
    slices_S2x16384x2x16x128_S2x16384x1x16x128_0_0_1_0_0) shapeCasts_S2x16384x1x16x128_S2x16384x16x128) shapeCasts_S2x16384x16x128_S32768x2048
def scaled : FVec Ideal S32768x2048 .f32 := mulf (queries x w cs sn) (broadcastInDim S32768x2048 ![] bcast_S_S32768x2048 (constant S_ .f32 0x3E0293EE#32))
def result : FVec Ideal S32768x4096 .bf16 :=
  truncf .bf16 (concatenate S32768x4096 1 [⟨S32768x2048, scaled x w cs sn⟩, ⟨S32768x2048, keys x w cs sn⟩]
    concatenates_S32768x2048_S32768x2048_S32768x4096_d1 : FVec Ideal S32768x4096 .f32) bitsLt_bf16_f32

theorem res_eq (m : (ℓ : Loc nD τ sig) → Buf (Elt Ideal) ℓ) (c : Dev nD) : Value.res_main_v27 (F := Ideal) m c
    = result (m ((c.tc : Thread nD τ).loc main_arg0)) (m ((c.tc : Thread nD τ).loc main_arg1)) (m ((c.tc : Thread nD τ).loc main_arg2)) (m ((c.tc : Thread nD τ).loc main_arg3)) := rfl

/-! ### At an index -/

variable (b : Fin 2) (s : Fin 16384)

/-- A token's projections and its angles. -/
def proj (n : Fin 20480) : EReal := ∑ k : Fin 2048, x (ix3 b s k) * w (ix2 k n)
def angle (a : FVec Ideal S2x16384x64 .f32) (l : Fin 64) : EReal := a (ix3 b s l)

variable (p : Fin 2) (H : Fin 16)

theorem heads_at (j : Fin 128) : heads x w (ix5 b s p H j) = proj x w b s ⟨p.val * 2048 + H.val * 128 + j.val, by omega⟩ := by
  unfold heads
  refine (shapeCast_apply _ _ _ (ix3 b s (⟨p.val * 2048 + H.val * 128 + j.val, by omega⟩ : Fin 4096)) ?_).trans ?_
  · rw [Shape.rowMajor_val_three, Shape.rowMajor_val_five]
    show (b.val * 16384 + s.val) * 4096 + (p.val * 2048 + H.val * 128 + j.val) = (((b.val * 16384 + s.val) * 2 + p.val) * 16 + H.val) * 128 + j.val
    omega
  · refine (extractStridedSlice_apply _ _ _ _ (ix3 b s (⟨p.val * 2048 + H.val * 128 + j.val, by omega⟩ : Fin 20480)) (fun a => by
      fin_cases a <;> exact (Nat.zero_add _).symm)).trans ?_
    exact dot_apply x w _ b s _

theorem lo_at (l : Fin 64) : lo x w (ix5 b s p H l) = proj x w b s ⟨p.val * 2048 + H.val * 128 + l.val, by omega⟩ := by
  refine (extractStridedSlice_apply _ _ _ _ (ix5 b s p H (⟨l.val, by omega⟩ : Fin 128)) (fun a => by
    fin_cases a <;> exact (Nat.zero_add _).symm)).trans ?_
  exact heads_at x w b s p H _

theorem hi_at (l : Fin 64) : hi x w (ix5 b s p H l) = proj x w b s ⟨p.val * 2048 + H.val * 128 + (64 + l.val), by omega⟩ := by
  refine (extractStridedSlice_apply _ _ _ _ (ix5 b s p H (⟨64 + l.val, by omega⟩ : Fin 128)) (fun a => by
    fin_cases a <;> first | rfl | exact (Nat.zero_add _).symm)).trans ?_
  exact heads_at x w b s p H _

theorem spread_at (a : FVec Ideal S2x16384x64 .f32) (l : Fin 64) : spread a (ix5 b s p H l) = angle b s a l := by
  refine (broadcastInDim_apply _ _ _ _ (ix5 b s (0 : Fin 1) (0 : Fin 1) l) (fun a => by fin_cases a <;> rfl)).trans ?_
  exact broadcastInDim_apply _ _ _ _ (ix3 b s l) (fun a => by fin_cases a <;> rfl)

theorem turned_lo (l : Fin 64) : turned x w cs sn (ix5 b s p H (⟨l.val, by omega⟩ : Fin 128))
    = proj x w b s ⟨p.val * 2048 + H.val * 128 + l.val, by omega⟩ * angle b s cs l
      - proj x w b s ⟨p.val * 2048 + H.val * 128 + (64 + l.val), by omega⟩ * angle b s sn l := by
  refine (concatenate_apply_piece (4 : Fin S2x16384x2x16x128.rank) _ _ _ 0 (by simp) S2x16384x2x16x64
    (subf (mulf (lo x w) (spread cs)) (mulf (hi x w) (spread sn))) rfl rfl 0 rfl (ix5 b s p H l) ?_ ?_).trans ?_
  · intro a ha; fin_cases a <;> first | exact absurd rfl ha | rfl
  · show 0 + l.val = l.val; omega
  · show (lo x w (ix5 b s p H l) : EReal) * spread cs (ix5 b s p H l) - hi x w (ix5 b s p H l) * spread sn (ix5 b s p H l) = _
    rw [lo_at, hi_at, spread_at, spread_at]

theorem turned_hi (l : Fin 64) : turned x w cs sn (ix5 b s p H (⟨64 + l.val, by omega⟩ : Fin 128))
    = proj x w b s ⟨p.val * 2048 + H.val * 128 + (64 + l.val), by omega⟩ * angle b s cs l
      + proj x w b s ⟨p.val * 2048 + H.val * 128 + l.val, by omega⟩ * angle b s sn l := by
  refine (concatenate_apply_piece (4 : Fin S2x16384x2x16x128.rank) _ _ _ 1 (by simp) S2x16384x2x16x64
    (addf (mulf (hi x w) (spread cs)) (mulf (lo x w) (spread sn))) rfl rfl 64 rfl (ix5 b s p H l) ?_ ?_).trans ?_
  · intro a ha; fin_cases a <;> first | exact absurd rfl ha | rfl
  · rfl
  · show (hi x w (ix5 b s p H l) : EReal) * spread cs (ix5 b s p H l) + lo x w (ix5 b s p H l) * spread sn (ix5 b s p H l) = _
    rw [lo_at, hi_at, spread_at, spread_at]

/-- A head's column, turned. -/
theorem turned_at (j : Fin 128) : turned x w cs sn (ix5 b s p H j)
    = RopeRow.turn (proj x w b s) (angle b s cs) (angle b s sn) ⟨p.val * 2048 + H.val * 128 + j.val, by omega⟩ := by
  have hp : ∀ n n' : Fin 20480, n.val = n'.val → proj x w b s n = proj x w b s n' := fun n n' e => congrArg _ (Fin.ext e)
  have ha : ∀ (a : FVec Ideal S2x16384x64 .f32) (n n' : Fin 64), n.val = n'.val → angle b s a n = angle b s a n' := fun a n n' e => congrArg _ (Fin.ext e)
  unfold RopeRow.turn
  by_cases hj : j.val < 64
  · rw [if_pos (by show (p.val * 2048 + H.val * 128 + j.val) % 128 < 64; omega)]
    refine (turned_lo x w cs sn b s p H ⟨j.val, hj⟩).trans ?_
    refine congrArg₂ (fun a b : EReal => a - b) (congrArg₂ (fun a b : EReal => a * b) (hp _ _ rfl) (ha _ _ _ ?_))
      (congrArg₂ (fun a b : EReal => a * b) (hp _ _ ?_) (ha _ _ _ ?_))
    · show j.val = (p.val * 2048 + H.val * 128 + j.val) % 64; omega
    · show p.val * 2048 + H.val * 128 + (64 + j.val) = p.val * 2048 + H.val * 128 + j.val + 64; omega
    · show j.val = (p.val * 2048 + H.val * 128 + j.val) % 64; omega
  · rw [if_neg (by show ¬ (p.val * 2048 + H.val * 128 + j.val) % 128 < 64; omega)]
    have ej : j = (⟨64 + (j.val - 64), by omega⟩ : Fin 128) := Fin.ext (by show j.val = 64 + (j.val - 64); omega)
    refine (congrArg (fun j : Fin 128 => turned x w cs sn (ix5 b s p H j)) ej).trans ((turned_hi x w cs sn b s p H ⟨j.val - 64, by omega⟩).trans ?_)
    refine congrArg₂ (fun a b : EReal => a + b) (congrArg₂ (fun a b : EReal => a * b) (hp _ _ ?_) (ha _ _ _ ?_))
      (congrArg₂ (fun a b : EReal => a * b) (hp _ _ ?_) (ha _ _ _ ?_))
    · show p.val * 2048 + H.val * 128 + (64 + (j.val - 64)) = p.val * 2048 + H.val * 128 + j.val; omega
    · show j.val - 64 = (p.val * 2048 + H.val * 128 + j.val) % 64; omega
    · show p.val * 2048 + H.val * 128 + (j.val - 64) = p.val * 2048 + H.val * 128 + j.val - 64; omega
    · show j.val - 64 = (p.val * 2048 + H.val * 128 + j.val) % 64; omega

theorem turn_val (h : Fin 20480 → EReal) (c s : Fin 64 → EReal) {n n' : Fin 4096} (e : n.val = n'.val) : RopeRow.turn h c s n = RopeRow.turn h c s n' :=
  congrArg (RopeRow.turn h c s) (Fin.ext e)

/-- One of the two groups of heads as a table of tokens. -/
theorem group_at (u : FVec Ideal S2x16384x1x16x128 .f32) (r : Fin 32768) (n : Fin 2048) :
    shapeCast S32768x2048 (shapeCast S2x16384x16x128 u shapeCasts_S2x16384x1x16x128_S2x16384x16x128) shapeCasts_S2x16384x16x128_S32768x2048 (ix2 r n)
      = u (ix5 (bat r) (pos r) (0 : Fin 1) (⟨n.val / 128, by omega⟩ : Fin 16) (⟨n.val % 128, by omega⟩ : Fin 128)) := by
  refine (shapeCast_apply _ _ _ (ix4 (bat r) (pos r) (⟨n.val / 128, by omega⟩ : Fin 16) (⟨n.val % 128, by omega⟩ : Fin 128)) ?_).trans ?_
  · rw [Shape.rowMajor_val_two, Shape.rowMajor_val_four]
    show ((r.val / 16384 * 16384 + r.val % 16384) * 16 + n.val / 128) * 128 + n.val % 128 = r.val * 2048 + n.val
    omega
  · refine shapeCast_apply _ _ _ _ ?_
    rw [Shape.rowMajor_val_four, Shape.rowMajor_val_five]
    show (((r.val / 16384 * 16384 + r.val % 16384) * 1 + 0) * 16 + n.val / 128) * 128 + n.val % 128
      = ((r.val / 16384 * 16384 + r.val % 16384) * 16 + n.val / 128) * 128 + n.val % 128
    omega

theorem queries_at (r : Fin 32768) (n : Fin 2048) : queries x w cs sn (ix2 r n)
    = RopeRow.turn (proj x w (bat r) (pos r)) (angle (bat r) (pos r) cs) (angle (bat r) (pos r) sn) ⟨n.val, by omega⟩ := by
  refine (group_at _ r n).trans ?_
  refine (extractStridedSlice_apply _ _ _ _ (ix5 (bat r) (pos r) (0 : Fin 2) (⟨n.val / 128, by omega⟩ : Fin 16) (⟨n.val % 128, by omega⟩ : Fin 128)) (fun a => by
    fin_cases a <;> first | rfl | exact (Nat.zero_add _).symm)).trans ?_
  refine (turned_at x w cs sn _ _ _ _ _).trans (turn_val _ _ _ ?_)
  show 0 * 2048 + n.val / 128 * 128 + n.val % 128 = n.val
  omega

theorem keys_at (r : Fin 32768) (n : Fin 2048) : keys x w cs sn (ix2 r n)
    = RopeRow.turn (proj x w (bat r) (pos r)) (angle (bat r) (pos r) cs) (angle (bat r) (pos r) sn) ⟨2048 + n.val, by omega⟩ := by
  refine (group_at _ r n).trans ?_
  refine (extractStridedSlice_apply _ _ _ _ (ix5 (bat r) (pos r) (1 : Fin 2) (⟨n.val / 128, by omega⟩ : Fin 16) (⟨n.val % 128, by omega⟩ : Fin 128)) (fun a => by
    fin_cases a <;> first | rfl | exact (Nat.zero_add _).symm)).trans ?_
  refine (turned_at x w cs sn _ _ _ _ _).trans (turn_val _ _ _ ?_)
  show 1 * 2048 + n.val / 128 * 128 + n.val % 128 = 2048 + n.val
  omega

theorem mulf_at {t : Shape} (a b : FVec Ideal t .f32) (i : t.Idx) : (mulf a b i : EReal) = a i * b i := rfl
theorem truncf_at {t : Shape} (a : FVec Ideal t .f32) (i : t.Idx) : ((truncf .bf16 a bitsLt_bf16_f32 : FVec Ideal t .bf16) i : EReal) = a i := rfl
theorem const_at {i : S_.Idx} : ((constant S_ .f32 0x3E0293EE#32 : FVec Ideal S_ .f32) i : EReal) = RopeRow.q := rfl

theorem scaled_at (r : Fin 32768) (n : Fin 2048) : scaled x w cs sn (ix2 r n)
    = RopeRow.turn (proj x w (bat r) (pos r)) (angle (bat r) (pos r) cs) (angle (bat r) (pos r) sn) ⟨n.val, by omega⟩ * RopeRow.q := by
  unfold scaled
  rw [mulf_at, queries_at, broadcastInDim_scalar_apply]
  exact congrArg (fun q : EReal => _ * q) const_at

theorem result_at (r : Fin 32768) (n : Fin 4096) : (result x w cs sn (ix2 r n) : EReal)
    = RopeRow.rope (proj x w (bat r) (pos r)) (angle (bat r) (pos r) cs) (angle (bat r) (pos r) sn) n := by
  refine (truncf_at _ _).trans ?_
  unfold RopeRow.rope RopeRow.gain
  by_cases hn : n.val < 2048
  · rw [if_pos hn]
    refine (concatenate_apply_piece (1 : Fin S32768x4096.rank) _ _ _ 0 (by simp) S32768x2048 (scaled x w cs sn) rfl rfl 0 rfl (ix2 r (⟨n.val, hn⟩ : Fin 2048)) ?_ ?_).trans ?_
    · intro a ha; fin_cases a <;> first | exact absurd rfl ha | rfl
    · show 0 + n.val = n.val; omega
    · exact scaled_at x w cs sn r _
  · rw [if_neg hn, mul_one]
    refine (concatenate_apply_piece (1 : Fin S32768x4096.rank) _ _ _ 1 (by simp) S32768x2048 (keys x w cs sn) rfl rfl 2048 rfl (ix2 r (⟨n.val - 2048, by omega⟩ : Fin 2048)) ?_ ?_).trans ?_
    · intro a ha; fin_cases a <;> first | exact absurd rfl ha | rfl
    · show 2048 + (n.val - 2048) = n.val; omega
    · refine (keys_at x w cs sn r _).trans (turn_val _ _ _ ?_)
      show 2048 + (n.val - 2048) = n.val
      omega

end Cert.RopeReferenceIdeal.Plain
-- ==== Proof.RopeEqual.lean ====
/-
The rotated projection of queries and keys on the extended reals: each block's columns are the tiles' product, every head
turned by the tables' rows, the blocks make up the array, and it is the reference's.
-/
module

public import proofs.«01_k».proof.Proof.Gen.RopeIdeal.Frame
public import proofs.«01_k».proof.Proof.RopePlain
public import Idealize.ShloMosaic.Lib.KernelVsHost
public import Idealize.ShloMosaic.Lib.Pipeline.ValueKit.Geometry
public import Idealize.ShloMosaic.Lib.Pipeline.ValueKit.Tiles
public import Idealize.ShloMosaic.Lib.StableHlo.RunRead

@[expose] public section

noncomputable section

namespace Cert.RopeIdeal.Equal

open Idealize.ShloMosaic Idealize.ShloMosaic.TcCoe Idealize.ShloMosaic.ValueIdx Idealize.ShloMosaic.Tactic
open Idealize.SL Idealize.SL.Sem
open Idealize.ShloMosaic.Pipeline (Dat Cfg Window)
open Cert.RopeIdeal Cert.RopeIdeal.Gen
open Cert.Tokens

/-! ### The body -/

/-- The tiles' product at an index. -/
theorem product_apply (x : FVec Ideal S2048x2048 .bf16) (w : FVec Ideal S2048x1024 .bf16) (r : Fin 2048) (n : Fin 1024) :
    k0_pay6 (F := Ideal) x w (ix2 r n) = ∑ k : Fin 2048, x (ix2 r k) * w (ix2 k n) := by
  unfold k0_pay6
  rw [shapeCast_self, shapeCast_self]
  refine (Ideal.matmul_plain_apply (M := 2048) (K := 2048) (N := 1024) (φ₁ := .bf16) (φ₂ := .bf16) none x w _ r n).trans ?_
  rw [show (constant S2048x1024 .f32 0x00000000#32 : FVec Ideal S2048x1024 .f32) (ix2 r n) = (0 : EReal) from Ideal.ofBits_zero_f32, zero_add]

/-- A head of the tile, turned by the two tables. -/
def head (o : ℕ) (h : S2048x1024.Slices ![0, o] S2048x128) (v : FVec Ideal S2048x1024 .f32) (a b : FVec Ideal S2048x128 .f32) : FVec Ideal S2048x128 .bf16 :=
  truncf .bf16 (addf (mulf (extractStridedSlice S2048x128 ![0, o] v h) a)
    (mulf (dynamicRotate 1 64#32 none (extractStridedSlice S2048x128 ![0, o] v h) rotates_S2048x128_d1) b)) bitsLt_bf16_f32

section Body

variable (v : FVec Ideal S2048x1024 .f32) (a b : FVec Ideal S2048x128 .f32)

/-- The turned tile: a column and its partner in its head, each times its table. -/
def tile : S2048x1024.Idx → EReal := fun i =>
  v i * a (ix2 (i 0) (⟨(i 1).val % 128, by omega⟩ : Fin 128))
    + v (ix2 (i 0) (⟨(i 1).val / 128 * 128 + ((i 1).val % 128 + 64) % 128, by have : (i 1).val < 1024 := (i 1).isLt; omega⟩ : Fin 1024))
      * b (ix2 (i 0) (⟨(i 1).val % 128, by omega⟩ : Fin 128))

theorem mulf_at {t : Shape} (a b : FVec Ideal t .f32) (i : t.Idx) : (mulf a b i : EReal) = a i * b i := rfl
theorem addf_at {t : Shape} (a b : FVec Ideal t .f32) (i : t.Idx) : (addf a b i : EReal) = a i + b i := rfl
theorem truncf_at {t : Shape} (a : FVec Ideal t .f32) (i : t.Idx) : ((truncf .bf16 a bitsLt_bf16_f32 : FVec Ideal t .bf16) i : EReal) = a i := rfl

theorem slice_at (o : ℕ) (h : S2048x1024.Slices ![0, o] S2048x128) (r : Fin 2048) (j : Fin 128) (n : Fin 1024) (e : n.val = o + j.val) :
    extractStridedSlice S2048x128 ![0, o] v h (ix2 r j) = v (ix2 r n) :=
  extractStridedSlice_apply _ _ _ _ (ix2 r n) (fun a => by
    fin_cases a
    · exact (Nat.zero_add _).symm
    · exact e)

theorem rotate_at (u : FVec Ideal S2048x128 .f32) (r : Fin 2048) (j k : Fin 128) (e : k.val = (j.val + 64) % 128) :
    dynamicRotate 1 64#32 none u rotates_S2048x128_d1 (ix2 r j) = u (ix2 r k) :=
  dynamicRotate_apply 1 64#32 u rotates_S2048x128_d1 (ix2 r j) (ix2 r k) (fun b => by
    fin_cases b
    · rfl
    · show k.val = (j.val + 128 - 64 % 128) % 128
      rw [e]; omega)

/-- A head's column is the tile's. -/
theorem head_at (p : ℕ) (hp : p < 8) (o : ℕ) (ho : o = 128 * p) (h : S2048x1024.Slices ![0, o] S2048x128) (r : Fin 2048) (j : Fin 128) (n : Fin 1024)
    (e : n.val = o + j.val) : (head o h v a b (ix2 r j) : EReal) = tile v a b (ix2 r n) := by
  have hj : (⟨n.val % 128, by omega⟩ : Fin 128) = j := Fin.ext (by show n.val % 128 = j.val; omega)
  unfold head
  rw [truncf_at, addf_at, mulf_at, mulf_at, slice_at v o h r j n e,
    rotate_at _ r j (⟨(j.val + 64) % 128, by omega⟩ : Fin 128) rfl,
    slice_at v o h r _ (⟨n.val / 128 * 128 + (n.val % 128 + 64) % 128, by omega⟩ : Fin 1024) (by
      show n.val / 128 * 128 + (n.val % 128 + 64) % 128 = o + (j.val + 64) % 128; omega)]
  show _ = (v (ix2 r n) : EReal) * a (ix2 r (⟨n.val % 128, by omega⟩ : Fin 128)) + _ * b (ix2 r (⟨n.val % 128, by omega⟩ : Fin 128))
  rw [hj]

/-- A stored head agrees with the tile wherever it lies. -/
theorem piece (p : ℕ) (hp : p < 8) (o : ℕ) (ho : o = 128 * p) (h : S2048x1024.Slices ![0, o] S2048x128) (y : S2048x1024.Idx) :
    View.TileAt (Val := Elt Ideal) (e := .bf16) y ![0, o] S2048x128.size (head o h v a b) (tile v a b y) := fun x hx => by
  obtain ⟨r, j, rfl⟩ : ∃ (r : Fin 2048) (j : Fin 128), x = ix2 r j := eq_ix2 x
  have h0 : (y 0).val = 0 + r.val := hx 0
  have h1 : (y 1).val = o + j.val := hx 1
  have ey : y = ix2 r (y 1) := funext fun a => by
    fin_cases a
    · exact Fin.ext (h0.trans (Nat.zero_add _))
    · rfl
  refine (head_at v a b p hp o ho h r j (y 1) h1).trans (congrArg (tile v a b) ey.symm)

end Body

/-- What the body leaves in the result's tile. -/
theorem tile_out (i : grid0.Coords) (x : FVec Ideal S2048x2048 .bf16) (w : FVec Ideal S2048x1024 .bf16) (cs sn : FVec Ideal S2048x128 .f32) :
    (out0_4 (F := Ideal) i x w cs sn : S2048x1024.Idx → EReal)
      = tile (k0_pay6 (F := Ideal) x w) (k0_pay8 (F := Ideal) i cs) (k0_pay9 (F := Ideal) i sn) := by
  have e : (![0, 0] : Fin 2 → ℕ) = 0 := funext fun a => by fin_cases a <;> rfl
  unfold out0_4 k0_pay13 k0_pay14 k0_pay15
  rw [View.ld_unit_zero e, View.ld_unit_zero e, View.ld_unit_zero e, View.ld_unit_zero e]
  generalize hv : k0_pay6 (F := Ideal) x w = v
  generalize ha : k0_pay8 (F := Ideal) i cs = a
  generalize hb : k0_pay9 (F := Ideal) i sn = b
  funext y
  have e0 : k0_pay10 (F := Ideal) i x w cs sn = head 0 slices_S2048x1024_o0_0_S2048x128 v a b := by rw [← hv, ← ha, ← hb]; rfl
  have e1 : k0_pay11 (F := Ideal) i x w cs sn = head 128 slices_S2048x1024_o0_128_S2048x128 v a b := by rw [← hv, ← ha, ← hb]; rfl
  have e2 : k0_pay12 (F := Ideal) i x w cs sn = head 256 slices_S2048x1024_o0_256_S2048x128 v a b := by rw [← hv, ← ha, ← hb]; rfl
  rw [e0, e1, e2]
  refine View.canon_eq_of_allAt _ y _ (cover0_4 (F := Ideal) _ _ _ _ _ _ _ _ y) ?_
  refine View.allAt_cons_unit _ _ _ _ _ (piece v a b 7 (by omega) 896 rfl slices_S2048x1024_o0_896_S2048x128 y) ?_
  refine View.allAt_cons_unit _ _ _ _ _ (piece v a b 6 (by omega) 768 rfl slices_S2048x1024_o0_768_S2048x128 y) ?_
  refine View.allAt_cons_unit _ _ _ _ _ (piece v a b 5 (by omega) 640 rfl slices_S2048x1024_o0_640_S2048x128 y) ?_
  refine View.allAt_cons_unit _ _ _ _ _ (piece v a b 4 (by omega) 512 rfl slices_S2048x1024_o0_512_S2048x128 y) ?_
  refine View.allAt_cons_unit _ _ _ _ _ (piece v a b 3 (by omega) 384 rfl slices_S2048x1024_o0_384_S2048x128 y) ?_
  refine View.allAt_cons_unit _ _ _ _ _ (piece v a b 2 (by omega) 256 rfl slices_S2048x1024_o0_256_S2048x128 y) ?_
  refine View.allAt_cons_unit _ _ _ _ _ (piece v a b 1 (by omega) 128 rfl slices_S2048x1024_o0_128_S2048x128 y) ?_
  refine View.allAt_cons_unit _ _ _ _ _ (piece v a b 0 (by omega) 0 rfl slices_S2048x1024_o0_0_S2048x128 y) ?_
  exact View.allAt_nil _ _

/-! ### The arrays -/

variable (m : (ℓ : Loc nD τ sig) → Buf (Elt Ideal) ℓ) (c : Dev nD)

/-- The arguments: the tokens' features, the weights, and the angles' cosines and sines. -/
def X : S2x16384x2048.Idx → EReal := m ((c : Thread nD τ).loc main_arg0)
def Wt : S2048x20480.Idx → EReal := m ((c : Thread nD τ).loc main_arg1)
def C : S2x16384x64.Idx → EReal := m ((c : Thread nD τ).loc main_arg2)
def S : S2x16384x64.Idx → EReal := m ((c : Thread nD τ).loc main_arg3)

theorem arr_x (r : Fin 32768) (k : Fin 2048) : (V m c main_v6 : S32768x2048.Idx → EReal) (ix2 r k) = X m c (ix3 (bat r) (pos r) k) := by
  have e : (V m c main_v6 : S32768x2048.Idx → EReal) = shapeCast S32768x2048 (X m c) shapeCasts_S2x16384x2048_S32768x2048 := by
    unfold X; after_reads_simp; rfl
  rw [e]; exact list_apply (X m c) _ r k

theorem arr_w : (V m c main_v7 : S2048x20480.Idx → EReal) = Wt m c := by
  unfold Wt; after_reads_simp; rfl

/-- Two halves side by side, at a column of either. -/
theorem cat_at (x y : FVec Ideal S32768x64 .f32) (r : Fin 32768) (j : Fin 128) :
    (concatenate S32768x128 1 [⟨S32768x64, x⟩, ⟨S32768x64, y⟩] concatenates_S32768x64_S32768x64_S32768x128_d1 : FVec Ideal S32768x128 .f32) (ix2 r j)
      = if j.val < 64 then x (ix2 r (⟨j.val % 64, by omega⟩ : Fin 64)) else y (ix2 r (⟨j.val % 64, by omega⟩ : Fin 64)) := by
  by_cases hj : j.val < 64
  · rw [if_pos hj]
    refine concatenate_apply_piece (1 : Fin S32768x128.rank) _ _ _ 0 (by simp) S32768x64 x rfl rfl 0 rfl (ix2 r (⟨j.val % 64, by omega⟩ : Fin 64)) ?_ ?_
    · intro a ha; fin_cases a <;> first | exact absurd rfl ha | rfl
    · show 0 + j.val % 64 = j.val; omega
  · rw [if_neg hj]
    refine concatenate_apply_piece (1 : Fin S32768x128.rank) _ _ _ 1 (by simp) S32768x64 y rfl rfl 64 rfl (ix2 r (⟨j.val % 64, by omega⟩ : Fin 64)) ?_ ?_
    · intro a ha; fin_cases a <;> first | exact absurd rfl ha | rfl
    · show 64 + j.val % 64 = j.val; omega

theorem neg_at {t : Shape} (a : FVec Ideal t .f32) (i : t.Idx) : (Host.negf a i : EReal) = -a i := rfl

theorem arr_c (r : Fin 32768) (j : Fin 128) : (V m c main_v2 : S32768x128.Idx → EReal) (ix2 r j)
    = RopeRow.cos2 (Cert.RopeReferenceIdeal.Plain.angle (bat r) (pos r) (C m c)) j := by
  have e : (V m c main_v2 : S32768x128.Idx → EReal) = (concatenate S32768x128 1 [⟨S32768x64, shapeCast S32768x64 (C m c) shapeCasts_S2x16384x64_S32768x64⟩,
      ⟨S32768x64, shapeCast S32768x64 (C m c) shapeCasts_S2x16384x64_S32768x64⟩] concatenates_S32768x64_S32768x64_S32768x128_d1 : FVec Ideal S32768x128 .f32) := by
    unfold C; after_reads_simp; rfl
  rw [e, cat_at, ite_self]
  exact list_apply (C m c) _ r _

theorem arr_s (r : Fin 32768) (j : Fin 128) : (V m c main_v4 : S32768x128.Idx → EReal) (ix2 r j)
    = RopeRow.sin2 (Cert.RopeReferenceIdeal.Plain.angle (bat r) (pos r) (S m c)) j := by
  have e : (V m c main_v4 : S32768x128.Idx → EReal) = (concatenate S32768x128 1
      [⟨S32768x64, Host.negf (shapeCast S32768x64 (S m c) shapeCasts_S2x16384x64_S32768x64 : FVec Ideal S32768x64 .f32)⟩,
      ⟨S32768x64, shapeCast S32768x64 (S m c) shapeCasts_S2x16384x64_S32768x64⟩] concatenates_S32768x64_S32768x64_S32768x128_d1 : FVec Ideal S32768x128 .f32) := by
    unfold S; after_reads_simp; rfl
  rw [e, cat_at, neg_at, list_apply]
  rfl

theorem index0 : ∀ t : Fin grid0.N, win0_0.index t = ![t.val / 4, 0] := by decide +kernel
theorem index1 : ∀ t : Fin grid0.N, win0_1.index t = ![0, t.val % 4] := by decide +kernel
theorem index2 : ∀ t : Fin grid0.N, win0_2.index t = ![t.val / 4, 0] := by decide +kernel
theorem index3 : ∀ t : Fin grid0.N, win0_3.index t = ![t.val / 4, 0] := by decide +kernel
theorem index4 : ∀ t : Fin grid0.N, win0_4.index t = ![t.val / 4, t.val % 4] := by decide +kernel
theorem coord1 : ∀ t : Fin grid0.N, (grid0.coords t 1).val = t.val % 4 := by decide +kernel

/-- The token of a block's row, and the column of its column. -/
def tok (t : Fin grid0.N) (r : Fin 2048) : Fin 32768 := ⟨2048 * (t.val / 4) + r.val, by have : t.val < 64 := N_0 ▸ t.isLt; omega⟩
def col (t : Fin grid0.N) (n : Fin 1024) : Fin 4096 := ⟨1024 * (t.val % 4) + n.val, by omega⟩

theorem blk_x (t : Fin grid0.N) (r k : Fin 2048) : (iblk m c 0 t : S2048x2048.Idx → EReal) (ix2 r k) = V m c main_v6 (ix2 (tok t r) k) := by
  refine congrArg (V m c main_v6 : S32768x2048.Idx → EReal) (funext fun a => Fin.ext ?_)
  refine ((Window.rect_emb_val win0_0 t (ix2 r k) a).trans ?_)
  rw [index0]
  fin_cases a
  · show t.val / 4 * 2048 + r.val = 2048 * (t.val / 4) + r.val; omega
  · show 0 * 2048 + k.val = k.val; omega

theorem blk_w (t : Fin grid0.N) (k : Fin 2048) (n : Fin 1024) :
    (iblk m c 1 t : S2048x1024.Idx → EReal) (ix2 k n) = V m c main_v7 (ix2 k (⟨(col t n).val, by omega⟩ : Fin 20480)) := by
  refine congrArg (V m c main_v7 : S2048x20480.Idx → EReal) (funext fun a => Fin.ext ?_)
  refine ((Window.rect_emb_val win0_1 t (ix2 k n) a).trans ?_)
  rw [index1]
  fin_cases a
  · show 0 * 2048 + k.val = k.val; omega
  · show t.val % 4 * 1024 + n.val = 1024 * (t.val % 4) + n.val; omega

theorem blk_c (t : Fin grid0.N) (r : Fin 2048) (j : Fin 128) : (iblk m c 2 t : S2048x128.Idx → EReal) (ix2 r j) = V m c main_v2 (ix2 (tok t r) j) := by
  refine congrArg (V m c main_v2 : S32768x128.Idx → EReal) (funext fun a => Fin.ext ?_)
  refine ((Window.rect_emb_val win0_2 t (ix2 r j) a).trans ?_)
  rw [index2]
  fin_cases a
  · show t.val / 4 * 2048 + r.val = 2048 * (t.val / 4) + r.val; omega
  · show 0 * 128 + j.val = j.val; omega

theorem blk_s (t : Fin grid0.N) (r : Fin 2048) (j : Fin 128) : (iblk m c 3 t : S2048x128.Idx → EReal) (ix2 r j) = V m c main_v4 (ix2 (tok t r) j) := by
  refine congrArg (V m c main_v4 : S32768x128.Idx → EReal) (funext fun a => Fin.ext ?_)
  refine ((Window.rect_emb_val win0_3 t (ix2 r j) a).trans ?_)
  rw [index3]
  fin_cases a
  · show t.val / 4 * 2048 + r.val = 2048 * (t.val / 4) + r.val; omega
  · show 0 * 128 + j.val = j.val; omega

/-- The point's scale is its columns' constant. -/
theorem scale_at (t : Fin grid0.N) (n : Fin 1024) : k0_pay7 (F := Ideal) (grid0.coords t) = RopeRow.gain (col t n) := by
  have ht : t.val % 4 < 4 := Nat.mod_lt _ (by omega)
  unfold k0_pay7 RopeRow.gain
  show (Scalar.select (Scalar.cmpi .slt (BitVec.ofNat 32 (grid0.coords t 1).val) 2#32) RopeRow.q (Ideal.ofBits .f32 0x3F800000#32) : EReal) = _
  rw [coord1, Ideal.ofBits_one_f32]
  generalize hk : t.val % 4 = k at ht
  have hc : (col t n).val = 1024 * k + n.val := by show 1024 * (t.val % 4) + n.val = _; rw [hk]
  have hn := n.isLt
  by_cases h2 : k < 2
  · rw [if_pos (by omega)]
    obtain rfl | rfl : k = 0 ∨ k = 1 := by omega
    · exact if_pos (by decide)
    · exact if_pos (by decide)
  · rw [if_neg (by omega)]
    obtain rfl | rfl : k = 2 ∨ k = 3 := by omega
    · exact if_neg (by decide)
    · exact if_neg (by decide)

theorem table_c (t : Fin grid0.N) (r : Fin 2048) (j : Fin 128) (n : Fin 1024) : k0_pay8 (F := Ideal) (grid0.coords t) (iblk m c 2 t) (ix2 r j)
    = RopeRow.cos2 (Cert.RopeReferenceIdeal.Plain.angle (bat (tok t r)) (pos (tok t r)) (C m c)) j * RopeRow.gain (col t n) := by
  unfold k0_pay8
  rw [shapeCast_self, mulf_at]
  exact congrArg₂ (fun a b : EReal => a * b) ((blk_c m c t r j).trans (arr_c m c _ j)) (scale_at t n)

theorem table_s (t : Fin grid0.N) (r : Fin 2048) (j : Fin 128) (n : Fin 1024) : k0_pay9 (F := Ideal) (grid0.coords t) (iblk m c 3 t) (ix2 r j)
    = RopeRow.sin2 (Cert.RopeReferenceIdeal.Plain.angle (bat (tok t r)) (pos (tok t r)) (S m c)) j * RopeRow.gain (col t n) := by
  unfold k0_pay9
  rw [shapeCast_self, mulf_at]
  exact congrArg₂ (fun a b : EReal => a * b) ((blk_s m c t r j).trans (arr_s m c _ j)) (scale_at t n)

theorem product_at (t : Fin grid0.N) (r : Fin 2048) (n : Fin 1024) : k0_pay6 (F := Ideal) (iblk m c 0 t) (iblk m c 1 t) (ix2 r n)
    = Cert.RopeReferenceIdeal.Plain.proj (X m c) (Wt m c) (bat (tok t r)) (pos (tok t r)) ⟨(col t n).val, by omega⟩ := by
  rw [product_apply]
  unfold Cert.RopeReferenceIdeal.Plain.proj
  refine Finset.sum_congr rfl fun k _ => ?_
  refine congrArg₂ (fun a b : EReal => a * b) ((blk_x m c t r k).trans (arr_x m c _ k)) ((blk_w m c t k n).trans ?_)
  rw [arr_w]

/-- The result: the reference's, of the same arguments. -/
def out : S32768x4096.Idx → EReal := Cert.RopeReferenceIdeal.Plain.result (X m c) (Wt m c) (C m c) (S m c)

/-- A block's row is the reference's row of its token. -/
theorem block_row (t : Fin grid0.N) (r : Fin 2048) (n : Fin 1024) :
    tile (k0_pay6 (F := Ideal) (iblk m c 0 t) (iblk m c 1 t)) (k0_pay8 (F := Ideal) (grid0.coords t) (iblk m c 2 t))
      (k0_pay9 (F := Ideal) (grid0.coords t) (iblk m c 3 t)) (ix2 r n) = out m c (ix2 (tok t r) (col t n)) := by
  unfold out
  refine Eq.trans ?_ (Cert.RopeReferenceIdeal.Plain.result_at (X m c) (Wt m c) (C m c) (S m c) (tok t r) (col t n)).symm
  rw [← RopeRow.rope_eq]
  have hj : (⟨n.val % 128, by omega⟩ : Fin 128) = ⟨(col t n).val % 128, by omega⟩ := Fin.ext (by
    show n.val % 128 = (1024 * (t.val % 4) + n.val) % 128; omega)
  show (k0_pay6 (F := Ideal) (iblk m c 0 t) (iblk m c 1 t) (ix2 r n) : EReal) * k0_pay8 (F := Ideal) (grid0.coords t) (iblk m c 2 t) (ix2 r (⟨n.val % 128, by omega⟩ : Fin 128))
    + k0_pay6 (F := Ideal) (iblk m c 0 t) (iblk m c 1 t) (ix2 r (⟨n.val / 128 * 128 + (n.val % 128 + 64) % 128, by omega⟩ : Fin 1024))
      * k0_pay9 (F := Ideal) (grid0.coords t) (iblk m c 3 t) (ix2 r (⟨n.val % 128, by omega⟩ : Fin 128)) = _
  rw [product_at, product_at, table_c m c t r _ n, table_s m c t r _ n, hj]
  refine congrArg (fun k : Fin 20480 => _ + Cert.RopeReferenceIdeal.Plain.proj (X m c) (Wt m c) (bat (tok t r)) (pos (tok t r)) k * _) (Fin.ext ?_)
  show 1024 * (t.val % 4) + (n.val / 128 * 128 + (n.val % 128 + 64) % 128)
    = (1024 * (t.val % 4) + n.val) / 128 * 128 + ((1024 * (t.val % 4) + n.val) % 128 + 64) % 128
  omega

theorem final_out : (dats (F := Ideal) m 0 c).arrAt 4 grid0.N = out m c := by
  refine (dats (F := Ideal) m 0 c).arrAt_eq_of_covers 4 (out m c) (by decide +kernel) fun t _ y => ?_
  obtain ⟨r, n, rfl⟩ : ∃ (r : Fin 2048) (n : Fin 1024), y = ix2 r n := eq_ix2 y
  have e := (after0_4 m c t).trans (tile_out (grid0.coords t) (iblk m c 0 t) (iblk m c 1 t) (iblk m c 2 t) (iblk m c 3 t))
  refine Eq.trans (congrFun e (ix2 r n)) ((block_row m c t r n).trans ?_)
  refine congrArg (out m c) (funext fun a => Fin.ext (Eq.symm ((Window.rect_emb_val win0_4 t (ix2 r n) a).trans ?_)))
  rw [index4]
  fin_cases a
  · show t.val / 4 * 2048 + r.val = 2048 * (t.val / 4) + r.val; omega
  · show t.val % 4 * 1024 + n.val = 1024 * (t.val % 4) + n.val; omega

end Cert.RopeIdeal.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_finite_scores
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormReferenceIdeal
public import proofs.«01_k».proof.Proof.Gen.NormReferenceIdeal.Run
public import proofs.«01_k».proof.Proof.Gen.Values
public import proofs.«01_k».proof.Proof.Gen.Values.Skeleton
public import proofs.«01_k».proof.Proof.Gen.Values.Launch
public import proofs.«01_k».proof.Proof.Gen.Values.Points
public import proofs.«01_k».proof.Proof.Gen.Values.Frame
public import proofs.«01_k».proof.Proof.Gen.ValuesIdeal
public import proofs.«01_k».proof.Proof.Gen.ValuesIdeal.Skeleton
public import proofs.«01_k».proof.Proof.Gen.ValuesIdeal.Launch
public import proofs.«01_k».proof.Proof.Gen.ValuesIdeal.Points
public import proofs.«01_k».proof.Proof.Gen.ValuesIdeal.Frame
public import proofs.«01_k».proof.Proof.Gen.ValuesReferenceIdeal
public import proofs.«01_k».proof.Proof.Gen.ValuesReferenceIdeal.Run
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeReferenceIdeal
public import proofs.«01_k».proof.Proof.Gen.RopeReferenceIdeal.Run
public import proofs.«01_k».proof.Proof.Same
public import proofs.«01_k».proof.Proof.Launch
public import proofs.«01_k».proof.Proof.Equal
public import proofs.«01_k».proof.Proof.NormEqual
public import proofs.«01_k».proof.Proof.ValuesEqual
public import proofs.«01_k».proof.Proof.RopeEqual
public import Idealize.ShloMosaic.Adequacy
public import Idealize.ShloMosaic.Init

@[expose] public section

noncomputable section

namespace Cert.Proof

open Idealize.ShloMosaic Idealize.SL.Sem Cert.Kernel

/-- The kernel over words of bits: it ends with its arguments kept and every counter zero. -/
theorem frame_kernel : Cert.quiescent_Kernel := by
  intro m ρ _
  rw [Cert.Same.defs_eq, Cert.Same.main_eq]
  exact (θ_run (Cert.KernelIdeal.defs (F := Bits)) _ _).mono
    (fun _ h => ⟨fun c => ⟨(h.1 c).1, (h.1 c).2.1, (h.1 c).2.2.1, (h.1 c).2.2.2.1, (h.1 c).2.2.2.2.1, (h.1 c).2.2.2.2.2.1⟩, h.2⟩)
    (Cert.KernelIdeal.Attn.run_main (F := Bits) m ρ)

/-- The kernel over extended reals, likewise. -/
theorem frame_kernelIdeal : Cert.quiescent_KernelIdeal := fun m ρ _ =>
  (θ_run Cert.KernelIdeal.defs _ _).mono
    (fun _ h => ⟨fun c => ⟨(h.1 c).1, (h.1 c).2.1, (h.1 c).2.2.1, (h.1 c).2.2.2.1, (h.1 c).2.2.2.2.1, (h.1 c).2.2.2.2.2.1⟩, h.2⟩)
    (Cert.KernelIdeal.Attn.run_main (F := Ideal) m ρ)

/-- The reference over extended reals: its generated run, and it has no counters. -/
theorem frame_referenceIdeal : Cert.quiescent_ReferenceIdeal := fun m ρ _ =>
  (θ_run Cert.ReferenceIdeal.defs _ _).mono
    (fun _ h => ⟨fun c => (h c).2, sem_eq_zero_of_no_sems (by decide) _⟩)
    (Cert.ReferenceIdeal.Value.run (F := Ideal) m ρ)

/-- On extended reals, with real queries and keys, the kernel and the reference end with one result. -/
theorem algebraic : Cert.algebraic_KernelIdeal_ReferenceIdeal_pre_finite_scores := by
  intro m ρ m' ρ' hpre hargs
  refine ⟨fun c => (Cert.KernelIdeal.Attn.dats (F := Ideal) (Cert.KernelIdeal.Attn.V m) 0 c).arrAt 4 Cert.KernelIdeal.grid0.N,
    (θ_run Cert.KernelIdeal.defs _ _).mono (fun _ h c => ⟨(h.1 c).2.2.2.2.2.2, (h.1 c).1, (h.1 c).2.1, (h.1 c).2.2.1, (h.1 c).2.2.2.1, (h.1 c).2.2.2.2.1, (h.1 c).2.2.2.2.2.1⟩)
      (Cert.KernelIdeal.Attn.run_main (F := Ideal) m ρ),
    (θ_run Cert.ReferenceIdeal.defs _ _).mono (fun _ h c => ⟨(h c).1.trans ?_, (h c).2⟩) (Cert.ReferenceIdeal.Value.run (F := Ideal) m' ρ')⟩
  obtain ⟨e0, e1, e2, e3, e4, e5⟩ := hargs c
  rw [Cert.ReferenceIdeal.Plain.res_eq, e0, e1, e2, e3, e4, e5]
  exact (Cert.Equal.out_eq m c hpre).symm

/-- The norm program's reference over extended reals. -/
theorem frame_normReference : Cert.quiescent_NormReferenceIdeal := fun m ρ _ =>
  (θ_run Cert.NormReferenceIdeal.defs _ _).mono
    (fun _ h => ⟨fun c => (h c).2.2, sem_eq_zero_of_no_sems (by decide) _⟩)
    (Cert.NormReferenceIdeal.Value.run (F := Ideal) m ρ)

/-- On extended reals the output projection with its layer norm and its reference end with the same two results. -/
theorem algebraic_norm : Cert.algebraic_NormIdeal_NormReferenceIdeal := by
  intro m ρ m' ρ' _ hargs
  refine ⟨fun c => Cert.NormIdeal.Equal.out m c, fun c => Cert.NormIdeal.Equal.out m c,
    (θ_run Cert.NormIdeal.defs _ _).mono (fun _ h c => ⟨(Pipeline.FramePost.out_eq h.2 c 5).trans (Cert.NormIdeal.Equal.final_out m c),
        (Pipeline.FramePost.out_eq h.2 c 6).trans (Cert.NormIdeal.Equal.final_rounded m c), h.1 c⟩)
      (θ_run_and (Cert.NormIdeal.Gen.unchanged (F := Ideal) m ρ) (Cert.NormIdeal.Gen.run_main (F := Ideal) m ρ)),
    (θ_run Cert.NormReferenceIdeal.defs _ _).mono (fun _ h c => ⟨(h c).1.trans ?_, (h c).2.1.trans ?_, (h c).2.2⟩) (Cert.NormReferenceIdeal.Value.run (F := Ideal) m' ρ')⟩
  · obtain ⟨e0, e1, e2, e3, e4⟩ := hargs c
    rw [e0, e1, e2, e3, e4]
    rfl
  · obtain ⟨e0, e1, e2, e3, e4⟩ := hargs c
    rw [e0, e1, e2, e3, e4]
    exact funext fun _ => rfl

/-- The values program's reference over extended reals. -/
theorem frame_valuesReference : Cert.quiescent_ValuesReferenceIdeal := fun m ρ _ =>
  (θ_run Cert.ValuesReferenceIdeal.defs _ _).mono
    (fun _ h => ⟨fun c => (h c).2, sem_eq_zero_of_no_sems (by decide) _⟩)
    (Cert.ValuesReferenceIdeal.Value.run (F := Ideal) m ρ)

/-- On extended reals the values' projection and its reference end with one result. -/
theorem algebraic_values : Cert.algebraic_ValuesIdeal_ValuesReferenceIdeal := by
  intro m ρ m' ρ' _ hargs
  refine ⟨fun c => Cert.ValuesIdeal.Equal.out m c,
    (θ_run Cert.ValuesIdeal.defs _ _).mono (fun _ h c => ⟨(Pipeline.FramePost.out_eq h.2 c 2).trans (Cert.ValuesIdeal.Equal.final_out m c), h.1 c⟩)
      (θ_run_and (Cert.ValuesIdeal.Gen.unchanged (F := Ideal) m ρ) (Cert.ValuesIdeal.Gen.run_main (F := Ideal) m ρ)),
    (θ_run Cert.ValuesReferenceIdeal.defs _ _).mono (fun _ h c => ⟨(h c).1.trans ?_, (h c).2⟩) (Cert.ValuesReferenceIdeal.Value.run (F := Ideal) m' ρ')⟩
  obtain ⟨e0, e1⟩ := hargs c
  rw [e0, e1]
  exact Cert.ValuesIdeal.Equal.plain_out m c

/-- The rope program's reference over extended reals. -/
theorem frame_ropeReference : Cert.quiescent_RopeReferenceIdeal := fun m ρ _ =>
  (θ_run Cert.RopeReferenceIdeal.defs _ _).mono
    (fun _ h => ⟨fun c => (h c).2, sem_eq_zero_of_no_sems (by decide) _⟩)
    (Cert.RopeReferenceIdeal.Value.run (F := Ideal) m ρ)

/-- The rotated projection of queries and keys is the reference's. -/
theorem algebraic_rope : Cert.algebraic_RopeIdeal_RopeReferenceIdeal := by
  intro m ρ m' ρ' _ hargs
  refine ⟨fun c => Cert.RopeIdeal.Equal.out m c,
    (θ_run Cert.RopeIdeal.defs _ _).mono (fun _ h c => ⟨(Pipeline.FramePost.out_eq h.2 c 4).trans (Cert.RopeIdeal.Equal.final_out m c), h.1 c⟩)
      (θ_run_and (Cert.RopeIdeal.Gen.unchanged (F := Ideal) m ρ) (Cert.RopeIdeal.Gen.run_main (F := Ideal) m ρ)),
    (θ_run Cert.RopeReferenceIdeal.defs _ _).mono (fun _ h c => ⟨(h c).1.trans ?_, (h c).2⟩) (Cert.RopeReferenceIdeal.Value.run (F := Ideal) m' ρ')⟩
  obtain ⟨e0, e1, e2, e3⟩ := hargs c
  rw [Cert.RopeReferenceIdeal.Plain.res_eq, e0, e1, e2, e3]
  rfl

theorem claim : Cert.Claim :=
  ⟨Cert.Kernel.Gen.facts, Cert.KernelIdeal.Gen.facts, Cert.ReferenceIdeal.Gen.facts,
    Cert.Norm.Gen.facts, Cert.NormIdeal.Gen.facts, Cert.NormReferenceIdeal.Gen.facts,
    Cert.Values.Gen.facts, Cert.ValuesIdeal.Gen.facts, Cert.ValuesReferenceIdeal.Gen.facts,
    Cert.Rope.Gen.facts, Cert.RopeIdeal.Gen.facts, Cert.RopeReferenceIdeal.Gen.facts, Cert.Pre_finite_scores.Gen.facts,
    frame_kernel, frame_kernelIdeal, fun m ρ _ => frame_kernelIdeal m ρ trivial, frame_referenceIdeal,
    fun m ρ _ => frame_referenceIdeal m ρ trivial,
    fun m ρ _ => Cert.Norm.Gen.frame m ρ, fun m ρ _ => Cert.NormIdeal.Gen.frame m ρ, frame_normReference,
    fun m ρ _ => Cert.Values.Gen.frame m ρ, fun m ρ _ => Cert.ValuesIdeal.Gen.frame m ρ, frame_valuesReference,
    fun m ρ _ => Cert.Rope.Gen.frame m ρ, fun m ρ _ => Cert.RopeIdeal.Gen.frame m ρ, frame_ropeReference,
    trivial, algebraic, trivial, algebraic_norm, trivial, algebraic_values, trivial, algebraic_rope⟩

end Cert.Proof

end
